-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite [hPre_finite : Cert.Pre_finite.Facts] (m : (ℓ : Loc Cert.MoeIdeal.nD Cert.MoeIdeal.τ Cert.MoeIdeal.sig) → Buf (Elt Ideal) ℓ) : Prop :=
  ∀ c : Dev Cert.MoeIdeal.nD,
    (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).1 = (fun _ => 1#1)
    ∧ (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.1 = (fun _ => 1#1)
    ∧ (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.1 = (fun _ => 1#1)
    ∧ (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2.1 = (fun _ => 1#1)
    ∧ (Cert.Pre_finite.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))).2.2.2.2 = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_finite [hPre_finite : Cert.Pre_finite.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9))).1 = (fun _ => 1#1)
    ∧ (Cert.Pre_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9))).2.1 = (fun _ => 1#1)
    ∧ (Cert.Pre_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9))).2.2.1 = (fun _ => 1#1)
    ∧ (Cert.Pre_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9))).2.2.2.1 = (fun _ => 1#1)
    ∧ (Cert.Pre_finite.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9))).2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_prepared [hPre_prepared : Cert.Pre_prepared.Facts] (m : (ℓ : Loc Cert.ProjIdeal.nD Cert.ProjIdeal.τ Cert.ProjIdeal.sig) → Buf (Elt Ideal) ℓ) : Prop :=
  ∀ c : Dev Cert.ProjIdeal.nD,
    (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.2.2.2.1 = (fun _ => 1#1)
    ∧ (Cert.Pre_prepared.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10)) (m ((c.tc : Thread Cert.ProjIdeal.nD Cert.ProjIdeal.τ).loc Cert.ProjIdeal.main_arg11)) (m ((c.tc : Thread Cert.ProjIdeal.nD Cert.ProjIdeal.τ).loc Cert.ProjIdeal.main_arg12))).2.2.2.2.2.2.2.2.2.2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_prepared [hPre_prepared : Cert.Pre_prepared.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.2.2.2.2.2.1 = (fun _ => 1#1)
    ∧ (Cert.Pre_prepared.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11)) (m ((c.tc : Thread Cert.ProjReferenceIdeal.nD Cert.ProjReferenceIdeal.τ).loc Cert.ProjReferenceIdeal.main_arg12))).2.2.2.2.2.2.2.2.2.2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_bounded [hPre_bounded : Cert.Pre_bounded.Facts] (m : (ℓ : Loc Cert.AdaIdeal.nD Cert.AdaIdeal.τ Cert.AdaIdeal.sig) → Buf (Elt Ideal) ℓ) : Prop :=
  ∀ c : Dev Cert.AdaIdeal.nD,
    (Cert.Pre_bounded.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).1 = (fun _ => 1#1)
    ∧ (Cert.Pre_bounded.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).2 = (fun _ => 1#1)

def Pre_AdaReferenceIdeal (m : (ℓ : Loc Cert.AdaReferenceIdeal.nD Cert.AdaReferenceIdeal.τ Cert.AdaReferenceIdeal.sig) → Buf (Elt Ideal) ℓ) : Prop :=
  True

def Pre_AdaReferenceIdeal_bounded [hPre_bounded : Cert.Pre_bounded.Facts] (m : (ℓ : Loc Cert.AdaReferenceIdeal.nD Cert.AdaReferenceIdeal.τ Cert.AdaReferenceIdeal.sig) → Buf (Elt Ideal) ℓ) : Prop :=
  ∀ c : Dev Cert.AdaReferenceIdeal.nD,
    (Cert.Pre_bounded.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2))).1 = (fun _ => 1#1)
    ∧ (Cert.Pre_bounded.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_finite [hMoeIdeal : Cert.MoeIdeal.Facts] [hPre_finite : Cert.Pre_finite.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9))
      ∧ r.2.sem = fun _ => 0)

def quiescent_MoeReferenceIdeal_pre_finite [hMoeReferenceIdeal : Cert.MoeReferenceIdeal.Facts] [hPre_finite : Cert.Pre_finite.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_finite m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjIdeal_pre_prepared [hProjIdeal : Cert.ProjIdeal.Facts] [hPre_prepared : Cert.Pre_prepared.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_prepared m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def quiescent_ProjReferenceIdeal_pre_prepared [hProjReferenceIdeal : Cert.ProjReferenceIdeal.Facts] [hPre_prepared : Cert.Pre_prepared.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_prepared m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_bounded [hAdaIdeal : Cert.AdaIdeal.Facts] [hPre_bounded : Cert.Pre_bounded.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_bounded m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_AdaReferenceIdeal_pre_bounded [hAdaReferenceIdeal : Cert.AdaReferenceIdeal.Facts] [hPre_bounded : Cert.Pre_bounded.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal_bounded m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "log_g0" .f32 0xBD020AEC#32 ((Real.log (31 / 32) : ℝ) : EReal)
  ∧ IdealRules.named_const.Statement Cert.KernelIdeal.κ "c_dec0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "log_g1" .f32 0xBC8102B3#32 ((Real.log (63 / 64) : ℝ) : EReal)
  ∧ IdealRules.named_const.Statement Cert.KernelIdeal.κ "c_dec1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "log_g2" .f32 0xBC0080AC#32 ((Real.log (127 / 128) : ℝ) : EReal)
  ∧ IdealRules.named_const.Statement Cert.KernelIdeal.κ "c_dec2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "log_g3" .f32 0xBB80402B#32 ((Real.log (255 / 256) : ℝ) : EReal)
  ∧ IdealRules.named_const.Statement Cert.KernelIdeal.κ "c_dec3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v60_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v76) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def preserves_Moe_MoeIdeal : Prop :=
  True

def algebraic_MoeIdeal_MoeReferenceIdeal_pre_finite [hMoeIdeal : Cert.MoeIdeal.Facts] [hMoeReferenceIdeal : Cert.MoeReferenceIdeal.Facts] [hPre_finite : Cert.Pre_finite.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal_finite m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)
      ∧ m' ((c.tc : Thread Cert.MoeReferenceIdeal.nD Cert.MoeReferenceIdeal.τ).loc Cert.MoeReferenceIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v114) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8)
          ∧ r.2.mem ((c.tc : Thread Cert.MoeReferenceIdeal.nD Cert.MoeReferenceIdeal.τ).loc Cert.MoeReferenceIdeal.main_arg9) = m' ((c.tc : Thread Cert.MoeReferenceIdeal.nD Cert.MoeReferenceIdeal.τ).loc Cert.MoeReferenceIdeal.main_arg9))

def preserves_Proj_ProjIdeal : Prop :=
  True

def algebraic_ProjIdeal_ProjReferenceIdeal_pre_prepared [hProjIdeal : Cert.ProjIdeal.Facts] [hProjReferenceIdeal : Cert.ProjReferenceIdeal.Facts] [hPre_prepared : Cert.Pre_prepared.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_prepared m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)) (v6 : (c : Dev Cert.ProjIdeal.nD) → Buf (Elt Ideal) ((c.tc : Thread Cert.ProjIdeal.nD Cert.ProjIdeal.τ).loc Cert.ProjIdeal.main_v0_6)) (v7 : (c : Dev Cert.ProjIdeal.nD) → Buf (Elt Ideal) ((c.tc : Thread Cert.ProjIdeal.nD Cert.ProjIdeal.τ).loc Cert.ProjIdeal.main_v0_7)) (v8 : (c : Dev Cert.ProjIdeal.nD) → Buf (Elt Ideal) ((c.tc : Thread Cert.ProjIdeal.nD Cert.ProjIdeal.τ).loc Cert.ProjIdeal.main_v0_8)) (v9 : (c : Dev Cert.ProjIdeal.nD) → Buf (Elt Ideal) ((c.tc : Thread Cert.ProjIdeal.nD Cert.ProjIdeal.τ).loc Cert.ProjIdeal.main_v0_9)) (v10 : (c : Dev Cert.ProjIdeal.nD) → Buf (Elt Ideal) ((c.tc : Thread Cert.ProjIdeal.nD Cert.ProjIdeal.τ).loc Cert.ProjIdeal.main_v0_10)) (v11 : (c : Dev Cert.ProjIdeal.nD) → Buf (Elt Ideal) ((c.tc : Thread Cert.ProjIdeal.nD Cert.ProjIdeal.τ).loc Cert.ProjIdeal.main_v0_11)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_v0_6) = v6 c
          ∧ r.2.mem ((c.tc : Thread Cert.ProjIdeal.nD Cert.ProjIdeal.τ).loc Cert.ProjIdeal.main_v0_7) = v7 c
          ∧ r.2.mem ((c.tc : Thread Cert.ProjIdeal.nD Cert.ProjIdeal.τ).loc Cert.ProjIdeal.main_v0_8) = v8 c
          ∧ r.2.mem ((c.tc : Thread Cert.ProjIdeal.nD Cert.ProjIdeal.τ).loc Cert.ProjIdeal.main_v0_9) = v9 c
          ∧ r.2.mem ((c.tc : Thread Cert.ProjIdeal.nD Cert.ProjIdeal.τ).loc Cert.ProjIdeal.main_v0_10) = v10 c
          ∧ r.2.mem ((c.tc : Thread Cert.ProjIdeal.nD Cert.ProjIdeal.τ).loc Cert.ProjIdeal.main_v0_11) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v188) = v0 c
          ∧ r.2.mem ((c.tc : Thread Cert.ProjReferenceIdeal.nD Cert.ProjReferenceIdeal.τ).loc Cert.ProjReferenceIdeal.main_v108) = v1 c
          ∧ r.2.mem ((c.tc : Thread Cert.ProjReferenceIdeal.nD Cert.ProjReferenceIdeal.τ).loc Cert.ProjReferenceIdeal.main_v189) = v2 c
          ∧ r.2.mem ((c.tc : Thread Cert.ProjReferenceIdeal.nD Cert.ProjReferenceIdeal.τ).loc Cert.ProjReferenceIdeal.main_v40) = v3 c
          ∧ r.2.mem ((c.tc : Thread Cert.ProjReferenceIdeal.nD Cert.ProjReferenceIdeal.τ).loc Cert.ProjReferenceIdeal.main_v190) = v4 c
          ∧ r.2.mem ((c.tc : Thread Cert.ProjReferenceIdeal.nD Cert.ProjReferenceIdeal.τ).loc Cert.ProjReferenceIdeal.main_v191) = v5 c
          ∧ r.2.mem ((c.tc : Thread Cert.ProjReferenceIdeal.nD Cert.ProjReferenceIdeal.τ).loc Cert.ProjReferenceIdeal.main_v150) = v6 c
          ∧ r.2.mem ((c.tc : Thread Cert.ProjReferenceIdeal.nD Cert.ProjReferenceIdeal.τ).loc Cert.ProjReferenceIdeal.main_v49) = v7 c
          ∧ r.2.mem ((c.tc : Thread Cert.ProjReferenceIdeal.nD Cert.ProjReferenceIdeal.τ).loc Cert.ProjReferenceIdeal.main_v193) = v8 c
          ∧ r.2.mem ((c.tc : Thread Cert.ProjReferenceIdeal.nD Cert.ProjReferenceIdeal.τ).loc Cert.ProjReferenceIdeal.main_v195) = v9 c
          ∧ r.2.mem ((c.tc : Thread Cert.ProjReferenceIdeal.nD Cert.ProjReferenceIdeal.τ).loc Cert.ProjReferenceIdeal.main_v196) = v10 c
          ∧ r.2.mem ((c.tc : Thread Cert.ProjReferenceIdeal.nD Cert.ProjReferenceIdeal.τ).loc Cert.ProjReferenceIdeal.main_v44) = v11 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12))

def preserves_Ada_AdaIdeal : Prop :=
  True

def algebraic_AdaIdeal_AdaReferenceIdeal_pre_bounded [hAdaIdeal : Cert.AdaIdeal.Facts] [hAdaReferenceIdeal : Cert.AdaReferenceIdeal.Facts] [hPre_bounded : Cert.Pre_bounded.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal_bounded m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hAda : Cert.Ada.Facts) (hAdaIdeal : Cert.AdaIdeal.Facts) (hAdaReferenceIdeal : Cert.AdaReferenceIdeal.Facts) (hPre_finite : Cert.Pre_finite.Facts) (hPre_prepared : Cert.Pre_prepared.Facts) (hPre_bounded : Cert.Pre_bounded.Facts),
    quiescent_Kernel (hKernel := hKernel)
    ∧ quiescent_KernelIdeal (hKernelIdeal := hKernelIdeal)
    ∧ quiescent_ReferenceIdeal (hReferenceIdeal := hReferenceIdeal)
    ∧ quiescent_Mix (hMix := hMix)
    ∧ quiescent_MixIdeal (hMixIdeal := hMixIdeal)
    ∧ quiescent_MixReferenceIdeal (hMixReferenceIdeal := hMixReferenceIdeal)
    ∧ quiescent_Moe (hMoe := hMoe)
    ∧ quiescent_MoeIdeal (hMoeIdeal := hMoeIdeal)
    ∧ quiescent_MoeIdeal_pre_finite (hMoeIdeal := hMoeIdeal) (hPre_finite := hPre_finite)
    ∧ quiescent_MoeReferenceIdeal (hMoeReferenceIdeal := hMoeReferenceIdeal)
    ∧ quiescent_MoeReferenceIdeal_pre_finite (hMoeReferenceIdeal := hMoeReferenceIdeal) (hPre_finite := hPre_finite)
    ∧ quiescent_Proj (hProj := hProj)
    ∧ quiescent_ProjIdeal (hProjIdeal := hProjIdeal)
    ∧ quiescent_ProjIdeal_pre_prepared (hProjIdeal := hProjIdeal) (hPre_prepared := hPre_prepared)
    ∧ quiescent_ProjReferenceIdeal (hProjReferenceIdeal := hProjReferenceIdeal)
    ∧ quiescent_ProjReferenceIdeal_pre_prepared (hProjReferenceIdeal := hProjReferenceIdeal) (hPre_prepared := hPre_prepared)
    ∧ quiescent_Ada (hAda := hAda)
    ∧ quiescent_AdaIdeal (hAdaIdeal := hAdaIdeal)
    ∧ quiescent_AdaIdeal_pre_bounded (hAdaIdeal := hAdaIdeal) (hPre_bounded := hPre_bounded)
    ∧ quiescent_AdaReferenceIdeal (hAdaReferenceIdeal := hAdaReferenceIdeal)
    ∧ quiescent_AdaReferenceIdeal_pre_bounded (hAdaReferenceIdeal := hAdaReferenceIdeal) (hPre_bounded := hPre_bounded)
    ∧ preserves_Kernel_KernelIdeal
    ∧ algebraic_KernelIdeal_ReferenceIdeal (hKernelIdeal := hKernelIdeal) (hReferenceIdeal := hReferenceIdeal)
    ∧ preserves_Mix_MixIdeal
    ∧ algebraic_MixIdeal_MixReferenceIdeal (hMixIdeal := hMixIdeal) (hMixReferenceIdeal := hMixReferenceIdeal)
    ∧ preserves_Moe_MoeIdeal
    ∧ algebraic_MoeIdeal_MoeReferenceIdeal_pre_finite (hMoeIdeal := hMoeIdeal) (hMoeReferenceIdeal := hMoeReferenceIdeal) (hPre_finite := hPre_finite)
    ∧ preserves_Proj_ProjIdeal
    ∧ algebraic_ProjIdeal_ProjReferenceIdeal_pre_prepared (hProjIdeal := hProjIdeal) (hProjReferenceIdeal := hProjReferenceIdeal) (hPre_prepared := hPre_prepared)
    ∧ preserves_Ada_AdaIdeal
    ∧ algebraic_AdaIdeal_AdaReferenceIdeal_pre_bounded (hAdaIdeal := hAdaIdeal) (hAdaReferenceIdeal := hAdaReferenceIdeal) (hPre_bounded := hPre_bounded)
-- ==== Pre_bounded.lean ====
abbrev S40x1024 : Shape := ⟨2, ![40, 1024]⟩
abbrev S1024x6144 : Shape := ⟨2, ![1024, 6144]⟩
abbrev S1x6144 : Shape := ⟨2, ![1, 6144]⟩
abbrev S_ : Shape := ⟨0, ![]⟩

class Facts : Prop where
  bcast_S_S40x1024 : S_.BroadcastsInDim S40x1024 (![] : Fin 0 → Fin S40x1024.rank)
  bcast_S_S1024x6144 : S_.BroadcastsInDim S1024x6144 (![] : Fin 0 → Fin S1024x6144.rank)

variable [Facts]

def fn {F : FTy → Type} [FloatOps F] (main_arg0 : FVec F S40x1024 .f32) (main_arg1 : FVec F S1024x6144 .f32) (main_arg2 : FVec F S1x6144 .f32) : IVec S40x1024 1 × IVec S1024x6144 1 :=
  let main_v0 : FVec F S40x1024 .f32 := Host.absf main_arg0
  let main_cst : FVec F S_ .f32 := constant S_ .f32 0x7F800000#32
  let main_v1 : FVec F S40x1024 .f32 := broadcastInDim S40x1024 ![] bcast_S_S40x1024 main_cst
  let main_v2 : IVec S40x1024 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Pre_finite.lean ====
abbrev S16384x1024 : Shape := ⟨2, ![16384, 1024]⟩
abbrev S1x1024 : Shape := ⟨2, ![1, 1024]⟩
abbrev S2x1x1024 : Shape := ⟨3, ![2, 1, 1024]⟩
abbrev S1024x128 : Shape := ⟨2, ![1024, 128]⟩
abbrev S1x128 : Shape := ⟨2, ![1, 128]⟩
abbrev S16x1024x256 : Shape := ⟨3, ![16, 1024, 256]⟩
abbrev S16x256x1024 : Shape := ⟨3, ![16, 256, 1024]⟩
abbrev S1024x20 : Shape := ⟨2, ![1024, 20]⟩
abbrev S1x20 : Shape := ⟨2, ![1, 20]⟩
abbrev S_ : Shape := ⟨0, ![]⟩

class Facts : Prop where
  slices_S1024x128_S1024x20_0_0 : S1024x128.Slices ![0, 0] S1024x20
  slices_S1x128_S1x20_0_0 : S1x128.Slices ![0, 0] S1x20
  bcast_S_S1x1024 : S_.BroadcastsInDim S1x1024 (![] : Fin 0 → Fin S1x1024.rank)
  bcast_S_S2x1x1024 : S_.BroadcastsInDim S2x1x1024 (![] : Fin 0 → Fin S2x1x1024.rank)
  bcast_S_S1024x20 : S_.BroadcastsInDim S1024x20 (![] : Fin 0 → Fin S1024x20.rank)
  bcast_S_S1x20 : S_.BroadcastsInDim S1x20 (![] : Fin 0 → Fin S1x20.rank)

variable [Facts]

def fn {F : FTy → Type} [FloatOps F] (main_arg0 : FVec F S16384x1024 .f32) (main_arg1 : FVec F S1x1024 .f32) (main_arg2 : FVec F S2x1x1024 .f32) (main_arg3 : FVec F S2x1x1024 .f32) (main_arg4 : FVec F S2x1x1024 .f32) (main_arg5 : FVec F S1024x128 .f32) (main_arg6 : FVec F S1x128 .f32) (main_arg7 : FVec F S16x1024x256 .bf16) (main_arg8 : FVec F S16x1024x256 .bf16) (main_arg9 : FVec F S16x256x1024 .bf16) : IVec S1x1024 1 × IVec S2x1x1024 1 × IVec S2x1x1024 1 × IVec S1024x20 1 × IVec S1x20 1 :=
  let main_v0 : FVec F S1024x20 .f32 := (extractStridedSlice S1024x20 ![0, 0] · slices_S1024x128_S1024x20_0_0) main_arg5
  let main_v1 : FVec F S1x20 .f32 := (extractStridedSlice S1x20 ![0, 0] · slices_S1x128_S1x20_0_0) main_arg6
  let main_v2 : FVec F S1x1024 .f32 := Host.absf main_arg1
  let main_cst : FVec F S_ .f32 := constant S_ .f32 0x7F800000#32
  let main_v3 : FVec F S1x1024 .f32 := broadcastInDim S1x1024 ![] bcast_S_S1x1024 main_cst
  let main_v4 : IVec S1x1024 1 := cmpf .olt main_v2 main_v3
  let main_v5 : FVec F S2x1x1024 .f32 := Host.absf main_arg2
  let main_cst_0 : FVec F S_ .f32 := constant S_ .f32 0x7F800000#32
  let main_v6 : FVec F S2x1x1024 .f32 := broadcastInDim S2x1x1024 ![] bcast_S_S2x1x1024 main_cst_0
  let main_v7 : IVec S2x1x1024 1 := cmpf .olt main_v5 main_v6
  let main_v8 : FVec F S2x1x1024 .f32 := Host.absf main_arg3
  let main_cst_1 : FVec F S_ .f32 := constant S_ .f32 0x7F800000#32
  let main_v9 : FVec F S2x1x1024 .f32 := broadcastInDim S2x1x1024 ![] bcast_S_S2x1x1024 main_cst_1
  let main_v10 : IVec S2x1x1024 1 := cmpf .olt main_v8 main_v9
  let main_v11 : FVec F S1024x20 .f32 := Host.absf main_v0
  let main_cst_2 : FVec F S_ .f32 := constant S_ .f32 0x7F800000#32
  let main_v12 : FVec F S1024x20 .f32 := broadcastInDim S1024x20 ![] bcast_S_S1024x20 main_cst_2
  let main_v13 : IVec S1024x20 1 := cmpf .olt main_v11 main_v12
  let main_v14 : FVec F S1x20 .f32 := Host.absf main_v1
  let main_cst_3 : FVec F S_ .f32 := constant S_ .f32 0x7F800000#32
  let main_v15 : FVec F S1x20 .f32 := broadcastInDim S1x20 ![] bcast_S_S1x20 main_cst_3
  let main_v16 : IVec S1x20 1 := cmpf .olt main_v14 main_v15
  (main_v4, main_v7, main_v10, main_v13, main_v16)
-- ==== Pre_prepared.lean ====
abbrev S16384x1024 : Shape := ⟨2, ![16384, 1024]⟩
abbrev S1x1024 : Shape := ⟨2, ![1, 1024]⟩
abbrev S2x1x1024 : Shape := ⟨3, ![2, 1, 1024]⟩
abbrev S16384x128 : Shape := ⟨2, ![16384, 128]⟩
abbrev S1024x3584 : Shape := ⟨2, ![1024, 3584]⟩
abbrev S1024x512 : Shape := ⟨2, ![1024, 512]⟩
abbrev S1x128 : Shape := ⟨2, ![1, 128]⟩
abbrev S16384x32 : Shape := ⟨2, ![16384, 32]⟩
abbrev S16384x64 : Shape := ⟨2, ![16384, 64]⟩
abbrev S1024x1024 : Shape := ⟨2, ![1024, 1024]⟩
abbrev S1x64 : Shape := ⟨2, ![1, 64]⟩
abbrev S_ : Shape := ⟨0, ![]⟩
abbrev S1024x64 : Shape := ⟨2, ![1024, 64]⟩

class Facts : Prop where
  slices_S16384x128_S16384x32_0_0 : S16384x128.Slices ![0, 0] S16384x32
  slices_S16384x128_S16384x32_0_32 : S16384x128.Slices ![0, 32] S16384x32
  slices_S16384x128_S16384x64_0_0 : S16384x128.Slices ![0, 0] S16384x64
  slices_S16384x128_S16384x64_0_64 : S16384x128.Slices ![0, 64] S16384x64
  slices_S1024x3584_S1024x1024_0_0 : S1024x3584.Slices ![0, 0] S1024x1024
  bitsLt_bf16_f32 : FTy.bits .bf16 < FTy.bits .f32
  slices_S1x128_S1x64_0_0 : S1x128.Slices ![0, 0] S1x64
  bcast_S_S1x1024 : S_.BroadcastsInDim S1x1024 (![] : Fin 0 → Fin S1x1024.rank)
  bcast_S_S2x1x1024 : S_.BroadcastsInDim S2x1x1024 (![] : Fin 0 → Fin S2x1x1024.rank)
  bcast_S_S1024x1024 : S_.BroadcastsInDim S1024x1024 (![] : Fin 0 → Fin S1024x1024.rank)
  bcast_S_S1024x512 : S_.BroadcastsInDim S1024x512 (![] : Fin 0 → Fin S1024x512.rank)
  concatenates_S16384x32_S16384x32_S16384x32_S16384x32_S16384x128_d1 : Shape.Concatenates [S16384x32, S16384x32, S16384x32, S16384x32] S16384x128 1
  concatenates_S16384x64_S16384x64_S16384x128_d1 : Shape.Concatenates [S16384x64, S16384x64] S16384x128 1
  concatenates_S1x64_S1x64_S1x128_d1 : Shape.Concatenates [S1x64, S1x64] S1x128 1
  slices_S1024x512_S1024x64_0_320 : S1024x512.Slices ![0, 320] S1024x64
  bcast_S_S1024x64 : S_.BroadcastsInDim S1024x64 (![] : Fin 0 → Fin S1024x64.rank)

variable [Facts]

def fn_part1 {F : FTy → Type} [FloatOps F] (main_arg4 : FVec F S16384x128 .f32) (main_arg5 : FVec F S16384x128 .f32) (main_arg6 : FVec F S16384x128 .f32) (main_arg7 : FVec F S16384x128 .f32) (main_arg9 : FVec F S1024x512 .f32) (main_arg10 : FVec F S1x128 .f32) (main_arg11 : FVec F S1x128 .f32) (main_v0 : FVec F S16384x32 .f32) (main_v1 : FVec F S16384x32 .f32) (main_v2 : FVec F S16384x64 .f32) (main_v3 : FVec F S16384x64 .f32) (main_v6 : FVec F S16384x32 .f32) (main_v7 : FVec F S16384x32 .f32) (main_v8 : FVec F S16384x64 .f32) (main_v9 : FVec F S1x64 .f32) (main_v10 : FVec F S1x64 .f32) (main_v13 : IVec S1x1024 1) (main_v16 : IVec S2x1x1024 1) (main_v19 : IVec S2x1x1024 1) (main_v20 : FVec F S1024x1024 .f32) : IVec S1x1024 1 × IVec S2x1x1024 1 × IVec S2x1x1024 1 × IVec S1024x1024 1 × IVec S1024x512 1 × IVec S16384x128 1 × IVec S16384x128 1 × IVec S16384x128 1 × IVec S16384x128 1 × IVec S1x128 1 × IVec S1x128 1 × IVec S1024x64 1 :=
  let main_cst_2 : FVec F S_ .f32 := constant S_ .f32 0x7F800000#32
  let main_v21 : FVec F S1024x1024 .f32 := broadcastInDim S1024x1024 ![] bcast_S_S1024x1024 main_cst_2
  let main_v22 : IVec S1024x1024 1 := cmpf .olt main_v20 main_v21
  let main_v23 : FVec F S1024x512 .f32 := Host.absf main_arg9
  let main_cst_3 : FVec F S_ .f32 := constant S_ .f32 0x7F800000#32
  let main_v24 : FVec F S1024x512 .f32 := broadcastInDim S1024x512 ![] bcast_S_S1024x512 main_cst_3
  let main_v25 : IVec S1024x512 1 := cmpf .olt main_v23 main_v24
  let main_v26 : FVec F S16384x128 .f32 := concatenate S16384x128 1 [⟨S16384x32, main_v0⟩, ⟨S16384x32, main_v0⟩, ⟨S16384x32, main_v0⟩, ⟨S16384x32, main_v0⟩] concatenates_S16384x32_S16384x32_S16384x32_S16384x32_S16384x128_d1
  let main_v27 : IVec S16384x128 1 := cmpf .oeq main_arg4 main_v26
  let main_v28 : FVec F S16384x128 .f32 := concatenate S16384x128 1 [⟨S16384x32, main_v6⟩, ⟨S16384x32, main_v1⟩, ⟨S16384x32, main_v7⟩, ⟨S16384x32, main_v1⟩] concatenates_S16384x32_S16384x32_S16384x32_S16384x32_S16384x128_d1
  let main_v29 : IVec S16384x128 1 := cmpf .oeq main_arg5 main_v28
  let main_v30 : FVec F S16384x128 .f32 := (fun a b => concatenate S16384x128 1 [⟨S16384x64, a⟩, ⟨S16384x64, b⟩] concatenates_S16384x64_S16384x64_S16384x128_d1) main_v2 main_v2
  let main_v31 : IVec S16384x128 1 := cmpf .oeq main_arg6 main_v30
  let main_v32 : FVec F S16384x128 .f32 := (fun a b => concatenate S16384x128 1 [⟨S16384x64, a⟩, ⟨S16384x64, b⟩] concatenates_S16384x64_S16384x64_S16384x128_d1) main_v8 main_v3
  let main_v33 : IVec S16384x128 1 := cmpf .oeq main_arg7 main_v32
  let main_v34 : FVec F S1x128 .f32 := (fun a b => concatenate S1x128 1 [⟨S1x64, a⟩, ⟨S1x64, b⟩] concatenates_S1x64_S1x64_S1x128_d1) main_v9 main_v9
  let main_v35 : IVec S1x128 1 := cmpf .oeq main_arg10 main_v34
  let main_v36 : FVec F S1x128 .f32 := (fun a b => concatenate S1x128 1 [⟨S1x64, a⟩, ⟨S1x64, b⟩] concatenates_S1x64_S1x64_S1x128_d1) main_v10 main_v10
  let main_v37 : IVec S1x128 1 := cmpf .oeq main_arg11 main_v36
  let main_v38 : FVec F S1024x64 .f32 := (extractStridedSlice S1024x64 ![0, 320] · slices_S1024x512_S1024x64_0_320) main_arg9
  let main_cst_4 : FVec F S_ .f32 := constant S_ .f32 0x00000000#32
  let main_v39 : FVec F S1024x64 .f32 := broadcastInDim S1024x64 ![] bcast_S_S1024x64 main_cst_4
  let main_v40 : IVec S1024x64 1 := cmpf .oeq main_v38 main_v39
  (main_v13, main_v16, main_v19, main_v22, main_v25, main_v27, main_v29, main_v31, main_v33, main_v35, main_v37, main_v40)

def fn {F : FTy → Type} [FloatOps F] (main_arg0 : FVec F S16384x1024 .f32) (main_arg1 : FVec F S1x1024 .f32) (main_arg2 : FVec F S2x1x1024 .f32) (main_arg3 : FVec F S2x1x1024 .f32) (main_arg4 : FVec F S16384x128 .f32) (main_arg5 : FVec F S16384x128 .f32) (main_arg6 : FVec F S16384x128 .f32) (main_arg7 : FVec F S16384x128 .f32) (main_arg8 : FVec F S1024x3584 .bf16) (main_arg9 : FVec F S1024x512 .f32) (main_arg10 : FVec F S1x128 .f32) (main_arg11 : FVec F S1x128 .f32) (main_arg12 : FVec F S1x128 .f32) : IVec S1x1024 1 × IVec S2x1x1024 1 × IVec S2x1x1024 1 × IVec S1024x1024 1 × IVec S1024x512 1 × IVec S16384x128 1 × IVec S16384x128 1 × IVec S16384x128 1 × IVec S16384x128 1 × IVec S1x128 1 × IVec S1x128 1 × IVec S1024x64 1 :=
  let main_v0 : FVec F S16384x32 .f32 := (extractStridedSlice S16384x32 ![0, 0] · slices_S16384x128_S16384x32_0_0) main_arg4
  let main_v1 : FVec F S16384x32 .f32 := (extractStridedSlice S16384x32 ![0, 32] · slices_S16384x128_S16384x32_0_32) main_arg5
  let main_v2 : FVec F S16384x64 .f32 := (extractStridedSlice S16384x64 ![0, 0] · slices_S16384x128_S16384x64_0_0) main_arg6
  let main_v3 : FVec F S16384x64 .f32 := (extractStridedSlice S16384x64 ![0, 64] · slices_S16384x128_S16384x64_0_64) main_arg7
  let main_v4 : FVec F S1024x1024 .bf16 := (extractStridedSlice S1024x1024 ![0, 0] · slices_S1024x3584_S1024x1024_0_0) main_arg8
  let main_v5 : FVec F S1024x1024 .f32 := (extf .f32 · bitsLt_bf16_f32) main_v4
  let main_v6 : FVec F S16384x32 .f32 := Host.negf main_v1
  let main_v7 : FVec F S16384x32 .f32 := Host.negf main_v1
  let main_v8 : FVec F S16384x64 .f32 := Host.negf main_v3
  let main_v9 : FVec F S1x64 .f32 := (extractStridedSlice S1x64 ![0, 0] · slices_S1x128_S1x64_0_0) main_arg10
  let main_v10 : FVec F S1x64 .f32 := (extractStridedSlice S1x64 ![0, 0] · slices_S1x128_S1x64_0_0) main_arg11
  let main_v11 : FVec F S1x1024 .f32 := Host.absf main_arg1
  let main_cst : FVec F S_ .f32 := constant S_ .f32 0x7F800000#32
  let main_v12 : FVec F S1x1024 .f32 := broadcastInDim S1x1024 ![] bcast_S_S1x1024 main_cst
  let main_v13 : IVec S1x1024 1 := cmpf .olt main_v11 main_v12
  let main_v14 : FVec F S2x1x1024 .f32 := Host.absf main_arg2
  let main_cst_0 : FVec F S_ .f32 := constant S_ .f32 0x7F800000#32
  let main_v15 : FVec F S2x1x1024 .f32 := broadcastInDim S2x1x1024 ![] bcast_S_S2x1x1024 main_cst_0
  let main_v16 : IVec S2x1x1024 1 := cmpf .olt main_v14 main_v15
  let main_v17 : FVec F S2x1x1024 .f32 := Host.absf main_arg3
  let main_cst_1 : FVec F S_ .f32 := constant S_ .f32 0x7F800000#32
  let main_v18 : FVec F S2x1x1024 .f32 := broadcastInDim S2x1x1024 ![] bcast_S_S2x1x1024 main_cst_1
  let main_v19 : IVec S2x1x1024 1 := cmpf .olt main_v17 main_v18
  let main_v20 : FVec F S1024x1024 .f32 := Host.absf main_v5
  fn_part1 (F := F) main_arg4 main_arg5 main_arg6 main_arg7 main_arg9 main_arg10 main_arg11 main_v0 main_v1 main_v2 main_v3 main_v6 main_v7 main_v8 main_v9 main_v10 main_v13 main_v16 main_v19 main_v20
-- ==== Kernel.lean ====
abbrev S16384x512 : Shape := ⟨2, ![16384, 512]⟩
abbrev S2x4x128x128 : Shape := ⟨4, ![2, 4, 128, 128]⟩
abbrev S128x512 : Shape := ⟨2, ![128, 512]⟩
abbrev S1x4x128x128 : Shape := ⟨4, ![1, 4, 128, 128]⟩
abbrev S4x128x128 : Shape := ⟨3, ![4, 128, 128]⟩
abbrev S128x128 : Shape := ⟨2, ![128, 128]⟩
abbrev S128x1 : Shape := ⟨2, ![128, 1]⟩
abbrev S1x128x128 : Shape := ⟨3, ![1, 128, 128]⟩

abbrev nBuf : Space → Nat
  | .hbm => 6
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S2x4x128x128, .f32⟩
  | .hbm, ⟨4, _⟩ => ⟨S16384x512, .f32⟩
  | .hbm, ⟨5, _⟩ => ⟨S2x4x128x128, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S1x4x128x128, .f32⟩
  | .local _ .vmem, ⟨7, _⟩ => ⟨S1x4x128x128, .f32⟩
  | .local _ .vmem, ⟨8, _⟩ => ⟨S128x512, .f32⟩
  | .local _ .vmem, ⟨9, _⟩ => ⟨S128x512, .f32⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v189 : BitVec 1 := Scalar.cmpi .eq arg1 c63_i32
  let v190 : BitVec 32 := Scalar.extui v189
  let c0_i32_101 : BitVec 32 := 0#32
  let v191 : BitVec 1 := Scalar.cmpi .ne v190 c0_i32_101
  v191

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "c_dec0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "c_dec1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "c_dec2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "c_dec3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_g0" => some ((Real.log (31 / 32) : ℝ) : EReal)
  | "log_g1" => some ((Real.log (63 / 64) : ℝ) : EReal)
  | "log_g2" => some ((Real.log (127 / 128) : ℝ) : EReal)
  | "log_g3" => some ((Real.log (255 / 256) : ℝ) : EReal)
  | _ => none
-- ==== ReferenceIdeal.lean ====
abbrev S16384x512 : Shape := ⟨2, ![16384, 512]⟩
abbrev S2x4x128x128 : Shape := ⟨4, ![2, 4, 128, 128]⟩
abbrev S2x8192x4x128 : Shape := ⟨4, ![2, 8192, 4, 128]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S2x64x128x4x128 : Shape := ⟨5, ![2, 64, 128, 4, 128]⟩
abbrev S64x2x128x4x128 : Shape := ⟨5, ![64, 2, 128, 4, 128]⟩
abbrev S1x2x128x4x128 : Shape := ⟨5, ![1, 2, 128, 4, 128]⟩
abbrev S2x128x4x128 : Shape := ⟨4, ![2, 128, 4, 128]⟩
abbrev S1x4x128x128 : Shape := ⟨4, ![1, 4, 128, 128]⟩

abbrev nBuf : Space → Nat
  | .hbm => 136
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S2x4x128x128, .f32⟩
  | 4 => ⟨S16384x512, .f32⟩
  | 5 => ⟨S2x8192x4x128, .f32⟩
  | 6 => ⟨S16384x512, .f32⟩
  | 7 => ⟨S2x8192x4x128, .f32⟩
  | 8 => ⟨S16384x512, .f32⟩
  | 9 => ⟨S2x8192x4x128, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S_, .f32⟩
  | 18 => ⟨S4, .f32⟩
  | 19 => ⟨S4, .f32⟩
  | 20 => ⟨S4, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S_, .f32⟩
  | 28 => ⟨S128x128, .f32⟩
  | 29 => ⟨S128x128, .i1⟩
  | 30 => ⟨S4x1x1, .f32⟩
  | 31 => ⟨S_, .f32⟩
  | 32 => ⟨S128x128, .f32⟩
  | 33 => ⟨S128x128, .f32⟩
  | 34 => ⟨S1x128x128, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S1x4, .f32⟩
  | 45 => ⟨S128x1, .f32⟩
  | 46 => ⟨S_, .f32⟩
  | 47 => ⟨S128x1, .f32⟩
  | 48 => ⟨S128x1, .f32⟩
  | 49 => ⟨S128x4, .f32⟩
  | 50 => ⟨S128x4, .f32⟩
  | 51 => ⟨S128x4, .f32⟩
  | 52 => ⟨S128x4, .f32⟩
  | 53 => ⟨S1x128x4x1, .f32⟩
  | 54 => ⟨S1x4, .f32⟩
  | 55 => ⟨S128x1, .f32⟩
  | 56 => ⟨S_, .f32⟩
  | 57 => ⟨S128x1, .f32⟩
  | 58 => ⟨S128x1, .f32⟩
  | 59 => ⟨S128x4, .f32⟩
  | 60 => ⟨S128x4, .f32⟩
  | 61 => ⟨S128x4, .f32⟩
  | 62 => ⟨S128x4, .f32⟩
  | 63 => ⟨S1x128x4x1, .f32⟩
  | 64 => ⟨S_, .f32⟩
  | 65 => ⟨S4, .f32⟩
  | 66 => ⟨S4, .f32⟩
  | 67 => ⟨S4, .f32⟩
  | 68 => ⟨S1x4x1x1, .f32⟩
  | 69 => ⟨S2x64x128x4x128, .f32⟩
  | 70 => ⟨S64x2x128x4x128, .f32⟩
  | 71 => ⟨S2x64x128x4x128, .f32⟩
  | 72 => ⟨S64x2x128x4x128, .f32⟩
  | 73 => ⟨S2x64x128x4x128, .f32⟩
  | 74 => ⟨S64x2x128x4x128, .f32⟩
  | 75 => ⟨S_, .f32⟩
  | 76 => ⟨S64x2x128x4x128, .f32⟩
  | 77 => ⟨S_, .i32⟩
  | 78 => ⟨S64x2x128x4x128, .f32⟩
  | 79 => ⟨S64x2x128x4x128, .f32⟩
  | 80 => ⟨S64x2x128x4x128, .f32⟩
  | 81 => ⟨S4x128x128, .f32⟩
  | 82 => ⟨S1x128x4x1, .f32⟩
  | 83 => ⟨S1x4x1x1, .f32⟩
  | 84 => ⟨S1x128x4x1, .f32⟩
  | 85 => ⟨S_, .i32⟩
  | 86 => ⟨S2x4x128x128, .f32⟩
  | 87 => ⟨S64x2x128x4x128, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x2x128x4x128, .f32⟩
  | 95 => ⟨S2x128x4x128, .f32⟩
  | 96 => ⟨S_, .i32⟩
  | 97 => ⟨S_, .i32⟩
  | 98 => ⟨S_, .i32⟩
  | 99 => ⟨S_, .i32⟩
  | 100 => ⟨S1x2x128x4x128, .f32⟩
  | 101 => ⟨S2x128x4x128, .f32⟩
  | 102 => ⟨S_, .i32⟩
  | 103 => ⟨S_, .i32⟩
  | 104 => ⟨S_, .i32⟩
  | 105 => ⟨S_, .i32⟩
  | 106 => ⟨S1x2x128x4x128, .f32⟩
  | 107 => ⟨S2x128x4x128, .f32⟩
  | 108 => ⟨S2x4x128x128, .f32⟩
  | 109 => ⟨S1x4x128x128, .f32⟩
  | 110 => ⟨S2x4x128x128, .f32⟩
  | 111 => ⟨S2x4x128x128, .f32⟩
  | 112 => ⟨S2x4x128x128, .f32⟩
  | 113 => ⟨S2x128x4x128, .f32⟩
  | 114 => ⟨S2x4x128x128, .f32⟩
  | 115 => ⟨S2x128x4x128, .f32⟩
  | 116 => ⟨S2x128x4x128, .f32⟩
  | 117 => ⟨S2x128x4x128, .f32⟩
  | 118 => ⟨S2x128x4x128, .f32⟩
  | 119 => ⟨S2x4x128x128, .f32⟩
  | 120 => ⟨S2x4x128x128, .f32⟩
  | 121 => ⟨S2x128x4x128, .f32⟩
  | 122 => ⟨S2x128x4x128, .f32⟩
  | 123 => ⟨S2x4x128x128, .f32⟩
  | 124 => ⟨S2x4x128x128, .f32⟩
  | 125 => ⟨S1x2x128x4x128, .f32⟩
  | 126 => ⟨S_, .i32⟩
  | 127 => ⟨S_, .i32⟩
  | _ => ⟨S16384x512, .bf16⟩

abbrev hbmTy0_1 (i : Nat) : BufTy := match i % 128 with
  | 0 => ⟨S_, .i32⟩
  | 1 => ⟨S_, .i32⟩
  | 2 => ⟨S64x2x128x4x128, .f32⟩
  | 3 => ⟨S_, .i32⟩
  | 4 => ⟨S_, .i32⟩
  | 5 => ⟨S2x64x128x4x128, .f32⟩
  | 6 => ⟨S2x8192x4x128, .f32⟩
  | 7 => ⟨S16384x512, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_c : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev main_v60_4 : Ref sig .tc := ⟨.hbm, 82, rfl⟩
abbrev main_v60_5 : Ref sig .tc := ⟨.hbm, 83, rfl⟩
abbrev main_v60_6 : Ref sig .tc := ⟨.hbm, 84, rfl⟩
abbrev main_v60_7 : Ref sig .tc := ⟨.hbm, 85, rfl⟩
abbrev main_v60_8 : Ref sig .tc := ⟨.hbm, 86, rfl⟩
abbrev main_v60_9 : Ref sig .tc := ⟨.hbm, 87, rfl⟩
abbrev main_while0c_c_18 : Ref sig .tc := ⟨.hbm, 88, rfl⟩
abbrev main_while0c_v64 : Ref sig .tc := ⟨.hbm, 89, rfl⟩
abbrev main_while0b_call1_c : Ref sig .tc := ⟨.hbm, 90, rfl⟩
abbrev main_while0b_call1_c_0 : Ref sig .tc := ⟨.hbm, 91, rfl⟩
abbrev main_while0b_call1_c_1 : Ref sig .tc := ⟨.hbm, 92, rfl⟩
abbrev main_while0b_call1_c_2 : Ref sig .tc := ⟨.hbm, 93, rfl⟩
abbrev main_while0b_call1_v0 : Ref sig .tc := ⟨.hbm, 94, rfl⟩
abbrev main_while0b_v64 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_call2_c_1 : Ref sig .tc := ⟨.hbm, 98, rfl⟩
abbrev main_while0b_call2_c_2 : Ref sig .tc := ⟨.hbm, 99, rfl⟩
abbrev main_while0b_call2_v0 : Ref sig .tc := ⟨.hbm, 100, rfl⟩
abbrev main_while0b_v65 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_c_2 : Ref sig .tc := ⟨.hbm, 105, rfl⟩
abbrev main_while0b_call3_v0 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_v72 : Ref sig .tc := ⟨.hbm, 113, rfl⟩
abbrev main_while0b_v73 : Ref sig .tc := ⟨.hbm, 114, rfl⟩
abbrev main_while0b_v74 : Ref sig .tc := ⟨.hbm, 115, rfl⟩
abbrev main_while0b_v75 : Ref sig .tc := ⟨.hbm, 116, rfl⟩
abbrev main_while0b_v76 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_v84 : Ref sig .tc := ⟨.hbm, 130, rfl⟩
abbrev main_while0b_c_18 : Ref sig .tc := ⟨.hbm, 131, rfl⟩
abbrev main_while0b_v85 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩

abbrev nD : Nat := 1
abbrev τ : Topo := Topo.v7x

variable {F : FTy → Type} [FloatOps F]

abbrev main_while0_count : Scf.Loop 32 := ⟨0#32, 64#32, 1#32⟩
-- ==== Mix.lean ====
abbrev S16384x1024 : Shape := ⟨2, ![16384, 1024]⟩
abbrev S1x1024 : Shape := ⟨2, ![1, 1024]⟩
abbrev S2x1x1024 : Shape := ⟨3, ![2, 1, 1024]⟩
abbrev S16384x512 : Shape := ⟨2, ![16384, 512]⟩
abbrev S1x512 : Shape := ⟨2, ![1, 512]⟩
abbrev S1024x1024 : Shape := ⟨2, ![1024, 1024]⟩
abbrev S512x1024 : Shape := ⟨2, ![512, 1024]⟩
abbrev S256x1024 : Shape := ⟨2, ![256, 1024]⟩
abbrev S1x1x1024 : Shape := ⟨3, ![1, 1, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x128 : Shape := ⟨2, ![1, 128]⟩

abbrev nBuf : Space → Nat
  | .hbm => 15
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S1x512, .f32⟩
  | .hbm, ⟨9, _⟩ => ⟨S1024x1024, .bf16⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S1x512, .f32⟩
  | .local _ .vmem, ⟨16, _⟩ => ⟨S1024x1024, .bf16⟩
  | .local _ .vmem, ⟨17, _⟩ => ⟨S1024x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S256x1024, .f32⟩
  | .local _ .vmem, ⟨22, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixReferenceIdeal.lean ====
abbrev S16384x1024 : Shape := ⟨2, ![16384, 1024]⟩
abbrev S1x1024 : Shape := ⟨2, ![1, 1024]⟩
abbrev S2x1x1024 : Shape := ⟨3, ![2, 1, 1024]⟩
abbrev S16384x512 : Shape := ⟨2, ![16384, 512]⟩
abbrev S1x512 : Shape := ⟨2, ![1, 512]⟩
abbrev S1024x1024 : Shape := ⟨2, ![1024, 1024]⟩
abbrev S512x1024 : Shape := ⟨2, ![512, 1024]⟩
abbrev S1024 : Shape := ⟨1, ![1024]⟩
abbrev S512 : Shape := ⟨1, ![512]⟩
abbrev S2x1024 : Shape := ⟨2, ![2, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x128 : Shape := ⟨4, ![2, 8192, 4, 128]⟩
abbrev S2x8192x512 : Shape := ⟨3, ![2, 8192, 512]⟩
abbrev S4x128 : Shape := ⟨2, ![4, 128]⟩
abbrev S2x8192x4 : Shape := ⟨3, ![2, 8192, 4]⟩
abbrev S2x8192x4x1 : Shape := ⟨4, ![2, 8192, 4, 1]⟩
abbrev S1x1x4x128 : Shape := ⟨4, ![1, 1, 4, 128]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S1x512, .f32⟩
  | .hbm, ⟨9, _⟩ => ⟨S1024x1024, .bf16⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024, .f32⟩
  | .hbm, ⟨15, _⟩ => ⟨S512, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S1024x1024, .f32⟩
  | .hbm, ⟨20, _⟩ => ⟨S1024x1024, .f32⟩
  | .hbm, ⟨21, _⟩ => ⟨S512x1024, .f32⟩
  | .hbm, ⟨22, _⟩ => ⟨S512x1024, .f32⟩
  | .hbm, ⟨23, _⟩ => ⟨S1024x1024, .f32⟩
  | .hbm, ⟨24, _⟩ => ⟨S2x8192x1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S2x1x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x8192x1024, .f32⟩
  | .hbm, ⟨46, _⟩ => ⟨S2x8192x1024, .f32⟩
  | .hbm, ⟨47, _⟩ => ⟨S2x1x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x4x128, .f32⟩
  | .hbm, ⟨53, _⟩ => ⟨S2x8192x512, .f32⟩
  | .hbm, ⟨54, _⟩ => ⟨S4x128, .f32⟩
  | .hbm, ⟨55, _⟩ => ⟨S2x8192x4x128, .f32⟩
  | .hbm, ⟨56, _⟩ => ⟨S_, .f32⟩
  | .hbm, ⟨57, _⟩ => ⟨S2x8192x4, .f32⟩
  | .hbm, ⟨58, _⟩ => ⟨S2x8192x4x1, .f32⟩
  | .hbm, ⟨59, _⟩ => ⟨S_, .f32⟩
  | .hbm, ⟨60, _⟩ => ⟨S2x8192x4x1, .f32⟩
  | .hbm, ⟨61, _⟩ => ⟨S2x8192x4x1, .f32⟩
  | .hbm, ⟨62, _⟩ => ⟨S_, .f32⟩
  | .hbm, ⟨63, _⟩ => ⟨S2x8192x4x1, .f32⟩
  | .hbm, ⟨64, _⟩ => ⟨S2x8192x4x1, .f32⟩
  | .hbm, ⟨65, _⟩ => ⟨S2x8192x4x1, .f32⟩
  | .hbm, ⟨66, _⟩ => ⟨S2x8192x4x128, .f32⟩
  | .hbm, ⟨67, _⟩ => ⟨S2x8192x4x128, .f32⟩
  | .hbm, ⟨68, _⟩ => ⟨S1x1x4x128, .f32⟩
  | .hbm, ⟨69, _⟩ => ⟨S2x8192x4x128, .f32⟩
  | .hbm, ⟨70, _⟩ => ⟨S2x8192x4x128, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .hbm, ⟨74, _⟩ => ⟨S_, .f32⟩
  | .hbm, ⟨75, _⟩ => ⟨S2x8192x512, .f32⟩
  | .hbm, ⟨76, _⟩ => ⟨S2x8192x512, .f32⟩
  | .hbm, ⟨77, _⟩ => ⟨S_, .f32⟩
  | .hbm, ⟨78, _⟩ => ⟨S2x8192x512, .f32⟩
  | .hbm, ⟨79, _⟩ => ⟨S2x8192x512, .f32⟩
  | .hbm, ⟨80, _⟩ => ⟨S2x8192x512, .f32⟩
  | .hbm, ⟨81, _⟩ => ⟨S2x8192x512, .f32⟩
  | .hbm, ⟨82, _⟩ => ⟨S2x8192x512, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192x1024, .f32⟩
  | .hbm, ⟨89, _⟩ => ⟨S2x8192x1024, .f32⟩
  | .hbm, ⟨90, _⟩ => ⟨S_, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S_, .f32⟩
  | .hbm, ⟨97, _⟩ => ⟨S2x8192x1024, .f32⟩
  | .hbm, ⟨98, _⟩ => ⟨S2x8192x1024, .f32⟩
  | .hbm, ⟨99, _⟩ => ⟨S_, .f32⟩
  | .hbm, ⟨100, _⟩ => ⟨S2x8192x1024, .f32⟩
  | .hbm, ⟨101, _⟩ => ⟨S2x8192x1024, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | .hbm, ⟨105, _⟩ => ⟨S2x1x1024, .f32⟩
  | .hbm, ⟨106, _⟩ => ⟨S2x8192x1024, .f32⟩
  | .hbm, ⟨107, _⟩ => ⟨S2x8192x1024, .f32⟩
  | .hbm, ⟨108, _⟩ => ⟨S2x8192x1024, .f32⟩
  | .hbm, ⟨109, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Moe.lean ====
abbrev S16384x1024 : Shape := ⟨2, ![16384, 1024]⟩
abbrev S1x1024 : Shape := ⟨2, ![1, 1024]⟩
abbrev S2x1x1024 : Shape := ⟨3, ![2, 1, 1024]⟩
abbrev S1024x128 : Shape := ⟨2, ![1024, 128]⟩
abbrev S1x128 : Shape := ⟨2, ![1, 128]⟩
abbrev S16x1024x256 : Shape := ⟨3, ![16, 1024, 256]⟩
abbrev S16x256x1024 : Shape := ⟨3, ![16, 256, 1024]⟩
abbrev S1024x1024 : Shape := ⟨2, ![1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024x128, .f32⟩
  | .hbm, ⟨6, _⟩ => ⟨S1x128, .f32⟩
  | .hbm, ⟨7, _⟩ => ⟨S16x1024x256, .bf16⟩
  | .hbm, ⟨8, _⟩ => ⟨S16x1024x256, .bf16⟩
  | .hbm, ⟨9, _⟩ => ⟨S16x256x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x128, .f32⟩
  | .local _ .vmem, ⟨10, _⟩ => ⟨S1x128, .f32⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x128, .f32⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MoeReferenceIdeal.lean ====
abbrev S16384x1024 : Shape := ⟨2, ![16384, 1024]⟩
abbrev S1x1024 : Shape := ⟨2, ![1, 1024]⟩
abbrev S2x1x1024 : Shape := ⟨3, ![2, 1, 1024]⟩
abbrev S1024x128 : Shape := ⟨2, ![1024, 128]⟩
abbrev S1x128 : Shape := ⟨2, ![1, 128]⟩
abbrev S16x1024x256 : Shape := ⟨3, ![16, 1024, 256]⟩
abbrev S16x256x1024 : Shape := ⟨3, ![16, 256, 1024]⟩
abbrev S1024 : Shape := ⟨1, ![1024]⟩
abbrev S2x1024 : Shape := ⟨2, ![2, 1024]⟩
abbrev S1024x16 : Shape := ⟨2, ![1024, 16]⟩
abbrev S1024x4 : Shape := ⟨2, ![1024, 4]⟩
abbrev S1x16 : Shape := ⟨2, ![1, 16]⟩
abbrev S16 : Shape := ⟨1, ![16]⟩
abbrev S1x4 : Shape := ⟨2, ![1, 4]⟩
abbrev S4 : Shape := ⟨1, ![4]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x4 : Shape := ⟨2, ![16384, 4]⟩
abbrev S16384 : Shape := ⟨1, ![16384]⟩
abbrev S16384x1 : Shape := ⟨2, ![16384, 1]⟩
abbrev S16384x16 : Shape := ⟨2, ![16384, 16]⟩
abbrev S16384x4x4 : Shape := ⟨3, ![16384, 4, 4]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩

abbrev nBuf : Space → Nat
  | .hbm => 162
  | .vmem => 0
  | .smem => 0
  | _ => 0

abbrev hbmTy0_0 (i : Nat) : BufTy := match i % 128 with
  | 0 => ⟨S16384x1024, .f32⟩
  | 1 => ⟨S1x1024, .f32⟩
  | 2 => ⟨S2x1x1024, .f32⟩
  | 3 => ⟨S2x1x1024, .f32⟩
  | 4 => ⟨S2x1x1024, .f32⟩
  | 5 => ⟨S1024x128, .f32⟩
  | 6 => ⟨S1x128, .f32⟩
  | 7 => ⟨S16x1024x256, .bf16⟩
  | 8 => ⟨S16x1024x256, .bf16⟩
  | 9 => ⟨S16x256x1024, .bf16⟩
  | 10 => ⟨S1024, .f32⟩
  | 11 => ⟨S2x1024, .f32⟩
  | 12 => ⟨S2x1024, .f32⟩
  | 13 => ⟨S2x1024, .f32⟩
  | 14 => ⟨S1024x16, .f32⟩
  | 15 => ⟨S1024x4, .f32⟩
  | 16 => ⟨S1x16, .f32⟩
  | 17 => ⟨S16, .f32⟩
  | 18 => ⟨S1x4, .f32⟩
  | 19 => ⟨S4, .f32⟩
  | 20 => ⟨S16x1024x256, .f32⟩
  | 21 => ⟨S16x1024x256, .f32⟩
  | 22 => ⟨S16x256x1024, .f32⟩
  | 23 => ⟨S2x8192x1024, .f32⟩
  | 24 => ⟨S2x8192x1024, .f32⟩
  | 25 => ⟨S_, .f32⟩
  | 26 => ⟨S2x8192, .f32⟩
  | 27 => ⟨S2x8192x1, .f32⟩
  | 28 => ⟨S_, .f32⟩
  | 29 => ⟨S2x8192x1, .f32⟩
  | 30 => ⟨S2x8192x1, .f32⟩
  | 31 => ⟨S_, .f32⟩
  | 32 => ⟨S2x8192x1, .f32⟩
  | 33 => ⟨S2x8192x1, .f32⟩
  | 34 => ⟨S2x8192x1, .f32⟩
  | 35 => ⟨S2x8192x1024, .f32⟩
  | 36 => ⟨S2x8192x1024, .f32⟩
  | 37 => ⟨S1x1x1024, .f32⟩
  | 38 => ⟨S2x8192x1024, .f32⟩
  | 39 => ⟨S2x8192x1024, .f32⟩
  | 40 => ⟨S2x1x1024, .f32⟩
  | 41 => ⟨S_, .f32⟩
  | 42 => ⟨S2x1x1024, .f32⟩
  | 43 => ⟨S2x1x1024, .f32⟩
  | 44 => ⟨S2x8192x1024, .f32⟩
  | 45 => ⟨S2x8192x1024, .f32⟩
  | 46 => ⟨S2x1x1024, .f32⟩
  | 47 => ⟨S2x8192x1024, .f32⟩
  | 48 => ⟨S2x8192x1024, .f32⟩
  | 49 => ⟨S16384x1024, .f32⟩
  | 50 => ⟨S16384x4, .f32⟩
  | 51 => ⟨S1x4, .f32⟩
  | 52 => ⟨S16384x4, .f32⟩
  | 53 => ⟨S16384x4, .f32⟩
  | 54 => ⟨S16384x4, .i32⟩
  | 55 => ⟨S_, .f32⟩
  | 56 => ⟨S_, .i32⟩
  | 57 => ⟨S16384, .f32⟩
  | 58 => ⟨S16384, .i32⟩
  | 59 => ⟨S_, .f32⟩
  | 60 => ⟨S16384, .f32⟩
  | 61 => ⟨S_, .f32⟩
  | 62 => ⟨S16384, .f32⟩
  | 63 => ⟨S16384, .f32⟩
  | 64 => ⟨S16384x1, .f32⟩
  | 65 => ⟨S16384x4, .f32⟩
  | 66 => ⟨S16384x4, .f32⟩
  | 67 => ⟨S16384x4, .f32⟩
  | 68 => ⟨S_, .f32⟩
  | 69 => ⟨S16384, .f32⟩
  | 70 => ⟨S16384x1, .f32⟩
  | 71 => ⟨S16384x4, .f32⟩
  | 72 => ⟨S16384x4, .f32⟩
  | 73 => ⟨S_, .f32⟩
  | 74 => ⟨S16384, .f32⟩
  | 75 => ⟨S16384x1, .f32⟩
  | 76 => ⟨S16384x16, .f32⟩
  | 77 => ⟨S1x16, .f32⟩
  | 78 => ⟨S16384x16, .f32⟩
  | 79 => ⟨S16384x16, .f32⟩
  | 80 => ⟨S16384x4x4, .f32⟩
  | 81 => ⟨S16384, .i32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S16384x1, .i32⟩
  | 97 => ⟨S16384x1, .i32⟩
  | 98 => ⟨S16384x2, .i32⟩
  | 99 => ⟨S16384x4, .f32⟩
  | 100 => ⟨S_, .f32⟩
  | 101 => ⟨S16384, .f32⟩
  | 102 => ⟨S_, .f32⟩
  | 103 => ⟨S16384, .f32⟩
  | 104 => ⟨S16384, .f32⟩
  | 105 => ⟨S16384x1, .f32⟩
  | 106 => ⟨S16384x4, .f32⟩
  | 107 => ⟨S16384x4, .f32⟩
  | 108 => ⟨S16384x4, .f32⟩
  | 109 => ⟨S_, .f32⟩
  | 110 => ⟨S16384, .f32⟩
  | 111 => ⟨S16384x1, .f32⟩
  | 112 => ⟨S16384x4, .f32⟩
  | 113 => ⟨S16384x4, .f32⟩
  | 114 => ⟨S16384x2, .f32⟩
  | 115 => ⟨S16384x2, .i32⟩
  | 116 => ⟨S_, .f32⟩
  | 117 => ⟨S16384, .f32⟩
  | 118 => ⟨S16384x1, .f32⟩
  | 119 => ⟨S16384x2, .f32⟩
  | 120 => ⟨S16384x2, .f32⟩
  | 121 => ⟨S16384x1, .i32⟩
  | 122 => ⟨S_, .i32⟩
  | 123 => ⟨S16384x1, .i32⟩
  | 124 => ⟨S16384x1, .i32⟩
  | 125 => ⟨S16384x2, .i32⟩
  | 126 => ⟨S16384x2, .i32⟩
  | 127 => ⟨S16384x2x1, .i32⟩
  | _ => ⟨S16384x1024, .f32⟩

abbrev hbmTy0_1 (i : Nat) : BufTy := match i % 128 with
  | 0 => ⟨S1x1x16, .i32⟩
  | 1 => ⟨S16384x2x16, .i32⟩
  | 2 => ⟨S16384x2x16, .i32⟩
  | 3 => ⟨S16384x2x16, .i1⟩
  | 4 => ⟨S16384x2x16, .f32⟩
  | 5 => ⟨S16384x2, .f32⟩
  | 6 => ⟨S16384x2, .f32⟩
  | 7 => ⟨S16384x2x1, .f32⟩
  | 8 => ⟨S16384x2x16, .f32⟩
  | 9 => ⟨S16384x2x16, .f32⟩
  | 10 => ⟨S_, .f32⟩
  | 11 => ⟨S16384x16, .f32⟩
  | 12 => ⟨S16384x16x256, .f32⟩
  | 13 => ⟨S16384x16x256, .f32⟩
  | 14 => ⟨S16384x16x256, .f32⟩
  | 15 => ⟨S16384x16x256, .f32⟩
  | 16 => ⟨S_, .f32⟩
  | 17 => ⟨S16384x16x256, .f32⟩
  | 18 => ⟨S16384x16x256, .f32⟩
  | 19 => ⟨S_, .f32⟩
  | 20 => ⟨S16384x16x256, .f32⟩
  | 21 => ⟨S16384x16x256, .f32⟩
  | 22 => ⟨S16384x16x256, .f32⟩
  | 23 => ⟨S16384x16x256, .f32⟩
  | 24 => ⟨S16384x16x1, .f32⟩
  | 25 => ⟨S16384x16x256, .f32⟩
  | 26 => ⟨S16384x16x256, .f32⟩
  | 27 => ⟨S16384x1024, .f32⟩
  | 28 => ⟨S2x8192x1024, .f32⟩
  | 29 => ⟨S2x1x1024, .f32⟩
  | 30 => ⟨S2x8192x1024, .f32⟩
  | 31 => ⟨S2x8192x1024, .f32⟩
  | 32 => ⟨S2x8192x1024, .f32⟩
  | 33 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_cst : Ref sig .tc := ⟨.hbm, 55, rfl⟩
abbrev main_call0_c : Ref sig .tc := ⟨.hbm, 56, rfl⟩
abbrev main_call0_v1_0 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c : Ref sig .tc := ⟨.hbm, 82, rfl⟩
abbrev main_v60 : Ref sig .tc := ⟨.hbm, 83, rfl⟩
abbrev main_v61 : Ref sig .tc := ⟨.hbm, 84, rfl⟩
abbrev main_c_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_8 : Ref sig .tc := ⟨.hbm, 89, rfl⟩
abbrev main_v65 : Ref sig .tc := ⟨.hbm, 90, rfl⟩
abbrev main_v66 : Ref sig .tc := ⟨.hbm, 91, rfl⟩
abbrev main_c_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_values : Ref sig .tc := ⟨.hbm, 114, rfl⟩
abbrev main_indices : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_14 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_15 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call2_v0 : Ref sig .tc := ⟨.hbm, 142, rfl⟩
abbrev main_call2_v1 : Ref sig .tc := ⟨.hbm, 143, rfl⟩
abbrev main_call2_cst : Ref sig .tc := ⟨.hbm, 144, rfl⟩
abbrev main_call2_v2 : Ref sig .tc := ⟨.hbm, 145, rfl⟩
abbrev main_call2_v3 : Ref sig .tc := ⟨.hbm, 146, rfl⟩
abbrev main_call2_cst_0 : Ref sig .tc := ⟨.hbm, 147, rfl⟩
abbrev main_call2_v4 : Ref sig .tc := ⟨.hbm, 148, rfl⟩
abbrev main_call2_v5 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩

abbrev nD : Nat := 1
abbrev τ : Topo := Topo.v7x

variable {F : FTy → Type} [FloatOps F]
-- ==== Proj.lean ====
abbrev S16384x1024 : Shape := ⟨2, ![16384, 1024]⟩
abbrev S1x1024 : Shape := ⟨2, ![1, 1024]⟩
abbrev S2x1x1024 : Shape := ⟨3, ![2, 1, 1024]⟩
abbrev S16384x128 : Shape := ⟨2, ![16384, 128]⟩
abbrev S1024x3584 : Shape := ⟨2, ![1024, 3584]⟩
abbrev S1024x512 : Shape := ⟨2, ![1024, 512]⟩
abbrev S1x128 : Shape := ⟨2, ![1, 128]⟩
abbrev S16384x512 : Shape := ⟨2, ![16384, 512]⟩
abbrev S16384x256 : Shape := ⟨2, ![16384, 256]⟩
abbrev S16384x64 : Shape := ⟨2, ![16384, 64]⟩
abbrev S256x1024 : Shape := ⟨2, ![256, 1024]⟩
abbrev S1x1x1024 : Shape := ⟨3, ![1, 1, 1024]⟩
abbrev S256x128 : Shape := ⟨2, ![256, 128]⟩
abbrev S256x512 : Shape := ⟨2, ![256, 512]⟩
abbrev S256x256 : Shape := ⟨2, ![256, 256]⟩
abbrev S256x64 : Shape := ⟨2, ![256, 64]⟩
abbrev S256 : Shape := ⟨1, ![256]⟩
abbrev S256x1 : Shape := ⟨2, ![256, 1]⟩
abbrev S128x128 : Shape := ⟨2, ![128, 128]⟩
abbrev S1024x128 : Shape := ⟨2, ![1024, 128]⟩

abbrev nBuf : Space → Nat
  | .hbm => 25
  | .vmem => 44
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S1024x3584, .bf16⟩
  | .hbm, ⟨9, _⟩ => ⟨S1024x512, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S16384x512, .bf16⟩
  | .hbm, ⟨14, _⟩ => ⟨S16384x512, .f32⟩
  | .hbm, ⟨15, _⟩ => ⟨S16384x512, .bf16⟩
  | .hbm, ⟨16, _⟩ => ⟨S16384x512, .f32⟩
  | .hbm, ⟨17, _⟩ => ⟨S16384x512, .bf16⟩
  | .hbm, ⟨18, _⟩ => ⟨S16384x256, .f32⟩
  | .hbm, ⟨19, _⟩ => ⟨S16384x64, .f32⟩
  | .hbm, ⟨20, _⟩ => ⟨S16384x128, .f32⟩
  | .hbm, ⟨21, _⟩ => ⟨S16384x512, .bf16⟩
  | .hbm, ⟨22, _⟩ => ⟨S16384x512, .bf16⟩
  | .hbm, ⟨23, _⟩ => ⟨S16384x512, .bf16⟩
  | .hbm, ⟨24, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1024x3584, .bf16⟩
  | .local _ .vmem, ⟨16, _⟩ => ⟨S1024x512, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S256x512, .bf16⟩
  | .local _ .vmem, ⟨21, _⟩ => ⟨S256x512, .bf16⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S256x512, .bf16⟩
  | .local _ .vmem, ⟨29, _⟩ => ⟨S256x512, .bf16⟩
  | .local _ .vmem, ⟨30, _⟩ => ⟨S256x256, .f32⟩
  | .local _ .vmem, ⟨31, _⟩ => ⟨S256x256, .f32⟩
  | .local _ .vmem, ⟨32, _⟩ => ⟨S256x64, .f32⟩
  | .local _ .vmem, ⟨33, _⟩ => ⟨S256x64, .f32⟩
  | .local _ .vmem, ⟨34, _⟩ => ⟨S256x128, .f32⟩
  | .local _ .vmem, ⟨35, _⟩ => ⟨S256x128, .f32⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S256x512, .bf16⟩
  | .local _ .vmem, ⟨42, _⟩ => ⟨S256x512, .f32⟩
  | .local _ .vmem, ⟨43, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev main_v0_11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3584 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjReferenceIdeal.lean ====
abbrev S16384x1024 : Shape := ⟨2, ![16384, 1024]⟩
abbrev S1x1024 : Shape := ⟨2, ![1, 1024]⟩
abbrev S2x1x1024 : Shape := ⟨3, ![2, 1, 1024]⟩
abbrev S16384x128 : Shape := ⟨2, ![16384, 128]⟩
abbrev S1024x3584 : Shape := ⟨2, ![1024, 3584]⟩
abbrev S1024x512 : Shape := ⟨2, ![1024, 512]⟩
abbrev S1x128 : Shape := ⟨2, ![1, 128]⟩
abbrev S1024 : Shape := ⟨1, ![1024]⟩
abbrev S1x64 : Shape := ⟨2, ![1, 64]⟩
abbrev S64 : Shape := ⟨1, ![64]⟩
abbrev S2x1024 : Shape := ⟨2, ![2, 1024]⟩
abbrev S16384x32 : Shape := ⟨2, ![16384, 32]⟩
abbrev S16384x64 : Shape := ⟨2, ![16384, 64]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x3584 : Shape := ⟨2, ![16384, 3584]⟩
abbrev S16384x512 : Shape := ⟨2, ![16384, 512]⟩
abbrev S16384x256 : Shape := ⟨2, ![16384, 256]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x1x32 : Shape := ⟨3, ![16384, 1, 32]⟩
abbrev S16384x8x32 : Shape := ⟨3, ![16384, 8, 32]⟩
abbrev S16384x4x64 : Shape := ⟨3, ![16384, 4, 64]⟩
abbrev S16384x4x32 : Shape := ⟨3, ![16384, 4, 32]⟩
abbrev S16384 : Shape := ⟨1, ![16384]⟩
abbrev S16384x1 : Shape := ⟨2, ![16384, 1]⟩
abbrev S16384x1x64 : Shape := ⟨3, ![16384, 1, 64]⟩
abbrev S16384x4x128 : Shape := ⟨3, ![16384, 4, 128]⟩

abbrev nBuf : Space → Nat
  | .hbm => 225
  | .vmem => 0
  | .smem => 0
  | _ => 0

abbrev hbmTy0_0 (i : Nat) : BufTy := match i % 128 with
  | 0 => ⟨S16384x1024, .f32⟩
  | 1 => ⟨S1x1024, .f32⟩
  | 2 => ⟨S2x1x1024, .f32⟩
  | 3 => ⟨S2x1x1024, .f32⟩
  | 4 => ⟨S16384x128, .f32⟩
  | 5 => ⟨S16384x128, .f32⟩
  | 6 => ⟨S16384x128, .f32⟩
  | 7 => ⟨S16384x128, .f32⟩
  | 8 => ⟨S1024x3584, .bf16⟩
  | 9 => ⟨S1024x512, .f32⟩
  | 10 => ⟨S1x128, .f32⟩
  | 11 => ⟨S1x128, .f32⟩
  | 12 => ⟨S1x128, .f32⟩
  | 13 => ⟨S1024, .f32⟩
  | 14 => ⟨S1x64, .f32⟩
  | 15 => ⟨S64, .f32⟩
  | 16 => ⟨S1x64, .f32⟩
  | 17 => ⟨S64, .f32⟩
  | 18 => ⟨S1x64, .f32⟩
  | 19 => ⟨S64, .f32⟩
  | 20 => ⟨S2x1024, .f32⟩
  | 21 => ⟨S2x1024, .f32⟩
  | 22 => ⟨S16384x32, .f32⟩
  | 23 => ⟨S16384x32, .f32⟩
  | 24 => ⟨S16384x64, .f32⟩
  | 25 => ⟨S16384x64, .f32⟩
  | 26 => ⟨S2x8192x1024, .f32⟩
  | 27 => ⟨S2x8192x1024, .f32⟩
  | 28 => ⟨S_, .f32⟩
  | 29 => ⟨S2x8192, .f32⟩
  | 30 => ⟨S2x8192x1, .f32⟩
  | 31 => ⟨S_, .f32⟩
  | 32 => ⟨S2x8192x1, .f32⟩
  | 33 => ⟨S2x8192x1, .f32⟩
  | 34 => ⟨S_, .f32⟩
  | 35 => ⟨S2x8192x1, .f32⟩
  | 36 => ⟨S2x8192x1, .f32⟩
  | 37 => ⟨S2x8192x1, .f32⟩
  | 38 => ⟨S2x8192x1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x1x1024, .f32⟩
  | 44 => ⟨S_, .f32⟩
  | 45 => ⟨S2x1x1024, .f32⟩
  | 46 => ⟨S2x1x1024, .f32⟩
  | 47 => ⟨S2x8192x1024, .f32⟩
  | 48 => ⟨S2x8192x1024, .f32⟩
  | 49 => ⟨S2x1x1024, .f32⟩
  | 50 => ⟨S2x8192x1024, .f32⟩
  | 51 => ⟨S2x8192x1024, .f32⟩
  | 52 => ⟨S16384x1024, .f32⟩
  | 53 => ⟨S1024x3584, .f32⟩
  | 54 => ⟨S16384x3584, .f32⟩
  | 55 => ⟨S16384x512, .f32⟩
  | 56 => ⟨S16384x512, .f32⟩
  | 57 => ⟨S16384x512, .f32⟩
  | 58 => ⟨S16384x512, .f32⟩
  | 59 => ⟨S16384x512, .f32⟩
  | 60 => ⟨S16384x512, .f32⟩
  | 61 => ⟨S16384x512, .f32⟩
  | 62 => ⟨S16384x512, .f32⟩
  | 63 => ⟨S16384x256, .f32⟩
  | 64 => ⟨S16384x64, .f32⟩
  | 65 => ⟨S16384x64, .f32⟩
  | 66 => ⟨S16384x128, .f32⟩
  | 67 => ⟨S16384x8x64, .f32⟩
  | 68 => ⟨S16384x8x64, .f32⟩
  | 69 => ⟨S_, .f32⟩
  | 70 => ⟨S16384x8, .f32⟩
  | 71 => ⟨S16384x8x1, .f32⟩
  | 72 => ⟨S_, .f32⟩
  | 73 => ⟨S16384x8x1, .f32⟩
  | 74 => ⟨S16384x8x1, .f32⟩
  | 75 => ⟨S_, .f32⟩
  | 76 => ⟨S16384x8x1, .f32⟩
  | 77 => ⟨S16384x8x1, .f32⟩
  | 78 => ⟨S16384x8x1, .f32⟩
  | 79 => ⟨S16384x8x64, .f32⟩
  | 80 => ⟨S16384x8x64, .f32⟩
  | 81 => ⟨S1x1x64, .f32⟩
  | 82 => ⟨S16384x8x64, .f32⟩
  | 83 => ⟨S16384x8x64, .f32⟩
  | 84 => ⟨S16384x1x32, .f32⟩
  | 85 => ⟨S16384x1x32, .f32⟩
  | 86 => ⟨S16384x8x32, .f32⟩
  | 87 => ⟨S16384x8x32, .f32⟩
  | 88 => ⟨S16384x8x32, .f32⟩
  | 89 => ⟨S16384x8x32, .f32⟩
  | 90 => ⟨S16384x8x32, .f32⟩
  | 91 => ⟨S16384x8x32, .f32⟩
  | 92 => ⟨S16384x8x32, .f32⟩
  | 93 => ⟨S16384x8x32, .f32⟩
  | 94 => ⟨S16384x8x32, .f32⟩
  | 95 => ⟨S16384x8x32, .f32⟩
  | 96 => ⟨S16384x8x32, .f32⟩
  | 97 => ⟨S16384x8x32, .f32⟩
  | 98 => ⟨S16384x8x64, .f32⟩
  | 99 => ⟨S16384x8x64, .f32⟩
  | 100 => ⟨S16384x8x64, .f32⟩
  | 101 => ⟨S_, .f32⟩
  | 102 => ⟨S16384x8, .f32⟩
  | 103 => ⟨S16384x8x1, .f32⟩
  | 104 => ⟨S_, .f32⟩
  | 105 => ⟨S16384x8x1, .f32⟩
  | 106 => ⟨S16384x8x1, .f32⟩
  | 107 => ⟨S_, .f32⟩
  | 108 => ⟨S16384x8x1, .f32⟩
  | 109 => ⟨S16384x8x1, .f32⟩
  | 110 => ⟨S16384x8x1, .f32⟩
  | 111 => ⟨S16384x8x64, .f32⟩
  | 112 => ⟨S16384x8x64, .f32⟩
  | 113 => ⟨S1x1x64, .f32⟩
  | 114 => ⟨S16384x8x64, .f32⟩
  | 115 => ⟨S16384x8x64, .f32⟩
  | 116 => ⟨S16384x1x32, .f32⟩
  | 117 => ⟨S16384x1x32, .f32⟩
  | 118 => ⟨S16384x8x32, .f32⟩
  | 119 => ⟨S16384x8x32, .f32⟩
  | 120 => ⟨S16384x8x32, .f32⟩
  | 121 => ⟨S16384x8x32, .f32⟩
  | 122 => ⟨S16384x8x32, .f32⟩
  | 123 => ⟨S16384x8x32, .f32⟩
  | 124 => ⟨S16384x8x32, .f32⟩
  | 125 => ⟨S16384x8x32, .f32⟩
  | 126 => ⟨S16384x8x32, .f32⟩
  | 127 => ⟨S16384x8x32, .f32⟩
  | _ => ⟨S16384x1024, .f32⟩

abbrev hbmTy0_1 (i : Nat) : BufTy := match i % 128 with
  | 0 => ⟨S16384x8x32, .f32⟩
  | 1 => ⟨S16384x8x32, .f32⟩
  | 2 => ⟨S16384x8x64, .f32⟩
  | 3 => ⟨S16384x512, .f32⟩
  | 4 => ⟨S16384x4x64, .f32⟩
  | 5 => ⟨S16384x1x32, .f32⟩
  | 6 => ⟨S16384x1x32, .f32⟩
  | 7 => ⟨S16384x4x32, .f32⟩
  | 8 => ⟨S16384x4x32, .f32⟩
  | 9 => ⟨S16384x4x32, .f32⟩
  | 10 => ⟨S16384x4x32, .f32⟩
  | 11 => ⟨S16384x4x32, .f32⟩
  | 12 => ⟨S16384x4x32, .f32⟩
  | 13 => ⟨S16384x4x32, .f32⟩
  | 14 => ⟨S16384x4x32, .f32⟩
  | 15 => ⟨S16384x4x32, .f32⟩
  | 16 => ⟨S16384x4x32, .f32⟩
  | 17 => ⟨S16384x4x32, .f32⟩
  | 18 => ⟨S16384x4x32, .f32⟩
  | 19 => ⟨S16384x4x64, .f32⟩
  | 20 => ⟨S16384x64, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x64, .f32⟩
  | 32 => ⟨S16384x64, .f32⟩
  | 33 => ⟨S1x64, .f32⟩
  | 34 => ⟨S16384x64, .f32⟩
  | 35 => ⟨S16384x64, .f32⟩
  | 36 => ⟨S16384x1x64, .f32⟩
  | 37 => ⟨S16384x1x32, .f32⟩
  | 38 => ⟨S16384x1x32, .f32⟩
  | 39 => ⟨S16384x1x32, .f32⟩
  | 40 => ⟨S16384x1x32, .f32⟩
  | 41 => ⟨S16384x1x32, .f32⟩
  | 42 => ⟨S16384x1x32, .f32⟩
  | 43 => ⟨S16384x1x32, .f32⟩
  | 44 => ⟨S16384x1x32, .f32⟩
  | 45 => ⟨S16384x1x32, .f32⟩
  | 46 => ⟨S16384x1x32, .f32⟩
  | 47 => ⟨S16384x1x64, .f32⟩
  | 48 => ⟨S16384x64, .f32⟩
  | 49 => ⟨S16384x4x128, .f32⟩
  | 50 => ⟨S16384x1x64, .f32⟩
  | 51 => ⟨S16384x1x64, .f32⟩
  | 52 => ⟨S16384x4x64, .f32⟩
  | 53 => ⟨S16384x4x64, .f32⟩
  | 54 => ⟨S16384x4x64, .f32⟩
  | 55 => ⟨S16384x4x64, .f32⟩
  | 56 => ⟨S16384x4x64, .f32⟩
  | 57 => ⟨S16384x4x64, .f32⟩
  | 58 => ⟨S16384x4x64, .f32⟩
  | 59 => ⟨S16384x4x64, .f32⟩
  | 60 => ⟨S16384x4x64, .f32⟩
  | 61 => ⟨S16384x4x64, .f32⟩
  | 62 => ⟨S16384x4x64, .f32⟩
  | 63 => ⟨S16384x4x64, .f32⟩
  | 64 => ⟨S16384x4x128, .f32⟩
  | 65 => ⟨S16384x4x128, .f32⟩
  | 66 => ⟨S16384x1x64, .f32⟩
  | 67 => ⟨S16384x1x64, .f32⟩
  | 68 => ⟨S16384x4x64, .f32⟩
  | 69 => ⟨S16384x4x64, .f32⟩
  | 70 => ⟨S16384x4x64, .f32⟩
  | 71 => ⟨S16384x4x64, .f32⟩
  | 72 => ⟨S16384x4x64, .f32⟩
  | 73 => ⟨S16384x4x64, .f32⟩
  | 74 => ⟨S16384x4x64, .f32⟩
  | 75 => ⟨S16384x4x64, .f32⟩
  | 76 => ⟨S16384x4x64, .f32⟩
  | 77 => ⟨S16384x4x64, .f32⟩
  | 78 => ⟨S16384x4x64, .f32⟩
  | 79 => ⟨S16384x4x64, .f32⟩
  | 80 => ⟨S16384x4x128, .f32⟩
  | 81 => ⟨S_, .f32⟩
  | 82 => ⟨S16384x4x128, .f32⟩
  | 83 => ⟨S16384x4x128, .f32⟩
  | 84 => ⟨S16384x512, .f32⟩
  | 85 => ⟨S_, .f32⟩
  | 86 => ⟨S16384x512, .f32⟩
  | 87 => ⟨S16384x512, .f32⟩
  | 88 => ⟨S16384x512, .bf16⟩
  | 89 => ⟨S16384x512, .bf16⟩
  | 90 => ⟨S16384x512, .bf16⟩
  | 91 => ⟨S16384x256, .f32⟩
  | 92 => ⟨S16384x512, .f32⟩
  | 93 => ⟨S16384x512, .bf16⟩
  | 94 => ⟨S16384x512, .f32⟩
  | 95 => ⟨S16384x512, .bf16⟩
  | 96 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_6 : Ref sig .tc := ⟨.hbm, 101, rfl⟩
abbrev main_v81 : Ref sig .tc := ⟨.hbm, 102, rfl⟩
abbrev main_v82 : Ref sig .tc := ⟨.hbm, 103, rfl⟩
abbrev main_cst_7 : Ref sig .tc := ⟨.hbm, 104, rfl⟩
abbrev main_v83 : Ref sig .tc := ⟨.hbm, 105, rfl⟩
abbrev main_v84 : Ref sig .tc := ⟨.hbm, 106, rfl⟩
abbrev main_cst_8 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_9 : Ref sig .tc := ⟨.hbm, 149, rfl⟩
abbrev main_v126 : Ref sig .tc := ⟨.hbm, 150, rfl⟩
abbrev main_v127 : Ref sig .tc := ⟨.hbm, 151, rfl⟩
abbrev main_cst_10 : Ref sig .tc := ⟨.hbm, 152, rfl⟩
abbrev main_v128 : Ref sig .tc := ⟨.hbm, 153, rfl⟩
abbrev main_v129 : Ref sig .tc := ⟨.hbm, 154, rfl⟩
abbrev main_cst_11 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_cst_12 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_cst_13 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩

abbrev nD : Nat := 1
abbrev τ : Topo := Topo.v7x

variable {F : FTy → Type} [FloatOps F]
-- ==== Ada.lean ====
abbrev S40x1024 : Shape := ⟨2, ![40, 1024]⟩
abbrev S1024x6144 : Shape := ⟨2, ![1024, 6144]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S1x6144, .f32⟩
  | .hbm, ⟨3, _⟩ => ⟨S40x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S40x1024 : Shape := ⟨2, ![40, 1024]⟩
abbrev S1024x6144 : Shape := ⟨2, ![1024, 6144]⟩
abbrev S1x6144 : Shape := ⟨2, ![1, 6144]⟩
abbrev S_ : Shape := ⟨0, ![]⟩
abbrev S40x6144 : Shape := ⟨2, ![40, 6144]⟩
abbrev S6144 : Shape := ⟨1, ![6144]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S1x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S40x6144, .f32⟩
  | .hbm, ⟨13, _⟩ => ⟨S6144, .f32⟩
  | .hbm, ⟨14, _⟩ => ⟨S1x6144, .f32⟩
  | .hbm, ⟨15, _⟩ => ⟨S40x6144, .f32⟩
  | .hbm, ⟨16, _⟩ => ⟨S40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Recurrence.lean ====
/-
  The retention recurrence as plain mathematics over the extended reals.

  A head `h` decays by `g h = 1 - 2^(-5-h)` per token.  A chunk of 128 tokens with queries `q`, keys `k`, values `v`
  (rows are tokens) and entering state `s` gives the output `outO` and the leaving state `newS`; `St` runs the chunks of
  one batch row one after the other, and `Out` is the output of a token of a chunk.
-/
module

public import Idealize.ShloMosaic.Lib.Pointwise
public import Idealize.ShloMosaic.Lib.IdealHost

@[expose] public section

noncomputable section

open Idealize.ShloMosaic

namespace Cert.Retention

/-- The decay per token of head `h`. -/
def g (h : Fin 4) : ℝ := 1 - (2 : ℝ) ^ (-5 - (h : ℕ) : ℝ)

/-- The logarithm of head `h`'s decay. -/
def lg (h : Fin 4) : EReal := ((Real.log (g h) : ℝ) : EReal)

/-- The position of a token in its chunk, as a number. -/
def tok (i : Fin 128) : EReal := (((i : ℕ) : ℝ) : EReal)

/-- The weight of token `j` in the output of token `i`: `g^(i-j)` for `j ≤ i`, otherwise 0. -/
def dec (h : Fin 4) (i j : Fin 128) : EReal :=
  if 0 ≤ tok i - tok j then Ideal.exp (lg h * max (tok i - tok j) 0) else 0

/-- The weight of the entering state in the output of token `i`: `g^(i+1)`. -/
def qdec (h : Fin 4) (i : Fin 128) : EReal := Ideal.exp (lg h * (tok i + 1))

/-- The weight of token `j` in the leaving state: `g^(127-j)`. -/
def kdec (h : Fin 4) (j : Fin 128) : EReal := Ideal.exp (lg h * (((127 : ℝ) : EReal) - tok j))

/-- The weight of the entering state in the leaving state: `g^128`. -/
def cdec (h : Fin 4) : EReal := ((g h ^ 128 : ℝ) : EReal)

/-- The state a chunk leaves. -/
def newS (h : Fin 4) (k v s : Fin 128 → Fin 128 → EReal) (d e : Fin 128) : EReal :=
  s d e * cdec h + ∑ j, k j d * kdec h j * v j e

/-- The output of a chunk's token `i`. -/
def outO (h : Fin 4) (q k v s : Fin 128 → Fin 128 → EReal) (i e : Fin 128) : EReal :=
  (∑ j, (∑ d, q i d * k j d) * dec h i j * v j e) + (∑ d, q i d * s d e) * qdec h i

/-- The shapes of the activations and of the states. -/
abbrev Act := (⟨2, ![16384, 512]⟩ : Shape).Idx → EReal
abbrev Sta := (⟨4, ![2, 4, 128, 128]⟩ : Shape).Idx → EReal

/-- The 128 tokens of chunk `n` of batch row `b`, head `h`: rows are tokens. -/
def rd (X : Act) (b : Fin 2) (n : ℕ) (h : Fin 4) (i d : Fin 128) : EReal :=
  X (ix2 (⟨(8192 * b.val + 128 * n + i.val) % 16384, Nat.mod_lt _ (by norm_num)⟩ : Fin 16384)
    (⟨128 * h.val + d.val, by omega⟩ : Fin 512))

/-- The state after `n` chunks. -/
def St (k v : Act) (s0 : Sta) : ℕ → Fin 2 → Fin 4 → Fin 128 → Fin 128 → EReal
  | 0 => fun b h d e => s0 (ix4 b h d e)
  | n + 1 => fun b h => newS h (rd k b n h) (rd v b n h) (St k v s0 n b h)

/-- The output of token `i` of chunk `n`. -/
def Out (q k v : Act) (s0 : Sta) (n : ℕ) (b : Fin 2) (h : Fin 4) (i e : Fin 128) : EReal :=
  outO h (rd q b n h) (rd k b n h) (rd v b n h) (St k v s0 n b h) i e

/-- The output array. -/
def OutA (q k v : Act) (s0 : Sta) : Act := fun y =>
  Out q k v s0 ((y 0).val % 8192 / 128) ⟨(y 0).val / 8192, by have := (y 0).isLt; change (y 0).val < 16384 at this; omega⟩
    ⟨(y 1).val / 128, by have := (y 1).isLt; change (y 1).val < 512 at this; omega⟩
    ⟨(y 0).val % 128, Nat.mod_lt _ (by norm_num)⟩ ⟨(y 1).val % 128, Nat.mod_lt _ (by norm_num)⟩

/-- The final state array: the state after the 64 chunks of each batch row. -/
def StA (k v : Act) (s0 : Sta) : Sta := fun y => St k v s0 64 (y 0) (y 1) (y 2) (y 3)

/-! ## The numbers the two programs write -/

theorem g_pos (h : Fin 4) : 0 < g h := by
  have : (2 : ℝ) ^ (-5 - (h : ℕ) : ℝ) < 1 := Real.rpow_lt_one_of_one_lt_of_neg (by norm_num) (by
    have : (0 : ℝ) ≤ (h : ℕ) := Nat.cast_nonneg _
    linarith)
  unfold g; linarith

/-- `2^(-5-h)` with natural exponents. -/
theorem g_eq (h : Fin 4) : g h = 1 - 1 / 2 ^ (5 + h.val) := by
  unfold g
  rw [show (-5 - (h.val : ℕ) : ℝ) = -((5 + h.val : ℕ) : ℝ) by push_cast; ring, Real.rpow_neg (by norm_num), Real.rpow_natCast]
  simp

theorem ofBits_127 : Ideal.ofBits .f32 0x42FE0000#32 = ((127 : ℝ) : EReal) := by
  simp [Ideal.ofBits, Ideal.ieee, ← EReal.coe_mul]; norm_num

theorem ofBits_128 : Ideal.ofBits .f32 0x43000000#32 = ((128 : ℝ) : EReal) := by
  simp [Ideal.ofBits, Ideal.ieee, ← EReal.coe_mul]; norm_num

theorem ofBits_two : Ideal.ofBits .f32 0x40000000#32 = ((2 : ℝ) : EReal) := by
  simp [Ideal.ofBits, Ideal.ieee, ← EReal.coe_mul]; norm_num

theorem ofBits_neg_five : Ideal.ofBits .f32 0xC0A00000#32 = ((-5 : ℝ) : EReal) := by
  simp [Ideal.ofBits, Ideal.ieee, ← EReal.coe_mul]; norm_num

theorem toInt_tok : ∀ i : Fin 128, (BitVec.ofNat 32 i.val).toInt = (i.val : ℤ) := by decide

/-- A token's position, computed from a 32-bit counter. -/
theorem tok_word (i : Fin 128) : FloatOps.sitofp (F := Ideal) FTy.f32 (BitVec.ofNat 32 i.val) = tok i := by
  show ((((BitVec.ofNat 32 i.val).toInt : ℤ) : ℝ) : EReal) = _
  rw [toInt_tok]
  simp [tok]

/-- A head's number, computed from a 32-bit counter. -/
theorem head_word (h : Fin 4) : FloatOps.sitofp (F := Ideal) FTy.f32 (BitVec.ofNat 32 h.val) = (((h : ℕ) : ℝ) : EReal) := by
  show ((((BitVec.ofNat 32 h.val).toInt : ℤ) : ℝ) : EReal) = _
  rw [(by decide : ∀ h : Fin 4, (BitVec.ofNat 32 h.val).toInt = (h.val : ℤ)) h]
  simp

/-- The difference of two positions, subtracted as 32-bit words. -/
theorem diff_word (i j : Fin 128) : FloatOps.sitofp (F := Ideal) FTy.f32
    (IntOp.subi (BitVec.ofNat 32 i.val) (BitVec.ofNat 32 j.val)) = tok i - tok j := by
  show ((((BitVec.ofNat 32 i.val - BitVec.ofNat 32 j.val).toInt : ℤ) : ℝ) : EReal) = _
  have : (BitVec.ofNat 32 i.val - BitVec.ofNat 32 j.val).toInt = (i.val : ℤ) - j.val := by
    rw [BitVec.toInt_sub, toInt_tok, toInt_tok]; simp only [Int.bmod_def]; omega
  rw [this, tok, tok, ← EReal.coe_sub]
  push_cast; rfl

/-- The logarithm the reference computes. -/
theorem lg_eq (h : Fin 4) : Ideal.log (1 - Ideal.pow (Ideal.ofBits .f32 0x40000000#32)
    (Ideal.ofBits .f32 0xC0A00000#32 - (((h : ℕ) : ℝ) : EReal))) = lg h := by
  rw [ofBits_two, ofBits_neg_five, ← EReal.coe_sub]
  show Ideal.log (1 - ((Real.rpow 2 (-5 - (h : ℕ)) : ℝ) : EReal)) = _
  rw [← EReal.coe_one, ← EReal.coe_sub]
  show Ideal.log ((g h : ℝ) : EReal) = _
  show (if g h ≤ 0 then (⊥ : EReal) else (Real.log (g h) : EReal)) = _
  rw [if_neg (not_le.mpr (g_pos h)), lg]

/-- `g^128` computed as an exponential. -/
theorem cdec_eq (h : Fin 4) : Ideal.exp (lg h * Ideal.ofBits .f32 0x43000000#32) = cdec h := by
  rw [ofBits_128, lg, ← EReal.coe_mul]
  show ((Real.exp (Real.log (g h) * 128) : ℝ) : EReal) = _
  rw [cdec, mul_comm, show (128 : ℝ) = ((128 : ℕ) : ℝ) by norm_num, Real.exp_nat_mul, Real.exp_log (g_pos h)]

end Cert.Retention

end
-- ==== Proof.Chunk.lean ====
/-
  One grid point of the retention kernel, per head: what it stores is `Retention.outO` and `Retention.newS` of the
  blocks it loads.
-/
module

public import proofs.«01_k».proof.Proof.Recurrence
public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Chunk

open Cert.KernelIdeal Cert.KernelIdeal.Gen Cert.Retention

/-- A loaded block, and a loaded head state. -/
abbrev A2 := FVec Ideal S128x128 FTy.bf16
abbrev S3 := FVec Ideal S1x128x128 FTy.f32

/-! ## The named constants -/

theorem log_g0 : (Named.named κ "log_g0" 0xBD020AEC#32 : Ideal .f32) = lg 0 :=
  (IdealRules.named_const.ideal_named_scalar _ _ _ _ rfl).trans (by rw [lg, g_eq]; norm_num)
theorem log_g1 : (Named.named κ "log_g1" 0xBC8102B3#32 : Ideal .f32) = lg 1 :=
  (IdealRules.named_const.ideal_named_scalar _ _ _ _ rfl).trans (by rw [lg, g_eq]; norm_num)
theorem log_g2 : (Named.named κ "log_g2" 0xBC0080AC#32 : Ideal .f32) = lg 2 :=
  (IdealRules.named_const.ideal_named_scalar _ _ _ _ rfl).trans (by rw [lg, g_eq]; norm_num)
theorem log_g3 : (Named.named κ "log_g3" 0xBB80402B#32 : Ideal .f32) = lg 3 :=
  (IdealRules.named_const.ideal_named_scalar _ _ _ _ rfl).trans (by rw [lg, g_eq]; norm_num)
theorem c_dec0 : (Named.named κ "c_dec0" 0x3C8CC36A#32 : Ideal .f32) = cdec 0 :=
  (IdealRules.named_const.ideal_named_scalar _ _ _ _ rfl).trans (by rw [cdec, g_eq]; norm_num)
theorem c_dec1 : (Named.named κ "c_dec1" 0x3E08698E#32 : Ideal .f32) = cdec 1 :=
  (IdealRules.named_const.ideal_named_scalar _ _ _ _ rfl).trans (by rw [cdec, g_eq]; norm_num)
theorem c_dec2 : (Named.named κ "c_dec2" 0x3EBB9DB9#32 : Ideal .f32) = cdec 2 :=
  (IdealRules.named_const.ideal_named_scalar _ _ _ _ rfl).trans (by rw [cdec, g_eq]; norm_num)
theorem c_dec3 : (Named.named κ "c_dec3" 0x3F1B1EB1#32 : Ideal .f32) = cdec 3 :=
  (IdealRules.named_const.ideal_named_scalar _ _ _ _ rfl).trans (by rw [cdec, g_eq]; norm_num)

/-! ## The leaving state, head by head -/

/-- A loaded block as a function of token and lane. -/
abbrev mat (x : A2) (i d : Fin 128) : EReal := x (ix2 i d)
/-- A loaded head state as a function of its two coordinates. -/
abbrev smat (s : S3) (d e : Fin 128) : EReal := s (ix3 0 d e)

/-- An index of a head state is its last two coordinates. -/
theorem exists_head (x : S1x128x128.Idx) : ∃ d e : Fin 128, x = ix3 0 d e := by
  refine ⟨x 1, x 2, (eq_ix3 x).trans (congrArg (fun a => ix3 a (x 1) (x 2)) ?_)⟩
  exact Subsingleton.elim (α := Fin 1) _ _

theorem new0 (k v : A2) (s : S3) (x : S1x128x128.Idx) : k0_pay11 (F := Ideal) k0_pay7 k v (k0_pay8 s) x
    = newS 0 (mat k) (mat v) (smat s) (x 1) (x 2) := by
  obtain ⟨d, e, rfl⟩ := exists_head x
  pointwise [k0_pay11, k0_pay7, k0_pay8, k0_pay5, log_g0, c_dec0, tok_word, ofBits_127]
  rfl
theorem new1 (k v : A2) (s : S3) (x : S1x128x128.Idx) : k0_pay17 (F := Ideal) (k0_pay14 k0_pay5) k v s x
    = newS 1 (mat k) (mat v) (smat s) (x 1) (x 2) := by
  obtain ⟨d, e, rfl⟩ := exists_head x
  pointwise [k0_pay17, k0_pay14, k0_pay15, k0_pay5, log_g1, c_dec1, tok_word, ofBits_127]
  rfl
theorem new2 (k v : A2) (s : S3) (x : S1x128x128.Idx) : k0_pay23 (F := Ideal) k0_pay5 k v s x
    = newS 2 (mat k) (mat v) (smat s) (x 1) (x 2) := by
  obtain ⟨d, e, rfl⟩ := exists_head x
  pointwise [k0_pay23, k0_pay21, k0_pay5, log_g2, c_dec2, tok_word, ofBits_127]
  rfl
theorem new3 (k v : A2) (s : S3) (x : S1x128x128.Idx) : k0_pay1 (F := Ideal) v (k0_pay27 k0_pay5 k) (k0_pay28 s) x
    = newS 3 (mat k) (mat v) (smat s) (x 1) (x 2) := by
  obtain ⟨d, e, rfl⟩ := exists_head x
  pointwise [k0_pay1, k0_pay27, k0_pay28, k0_pay25, k0_pay5, log_g3, c_dec3, tok_word, ofBits_127]
  rfl

/-! ## The output, head by head -/

theorem out0 (q k v : A2) (s : S3) (x : S128x128.Idx) : k0_pay10 (F := Ideal) k0_pay6 q v (k0_pay8 s) (k0_pay9 q k)
    (constant S128x128 FTy.f32 0#32) x = outO 0 (mat q) (mat k) (mat v) (smat s) (x 0) (x 1) := by
  idx_vars x
  pointwise [k0_pay10, k0_pay6, k0_pay8, k0_pay9, k0_pay4, k0_pay5, log_g0, diff_word, tok_word]
  rfl
theorem out1 (q k v : A2) (s : S3) (x : S128x128.Idx) : k0_pay16 (F := Ideal) (k0_pay12 k0_pay4) (k0_pay13 k0_pay5) q k v s
    x = outO 1 (mat q) (mat k) (mat v) (smat s) (x 0) (x 1) := by
  idx_vars x
  pointwise [k0_pay16, k0_pay12, k0_pay13, k0_pay15, k0_pay4, k0_pay5, log_g1, diff_word, tok_word]
  rfl
theorem out2 (q k v : A2) (s : S3) (x : S128x128.Idx) : k0_pay22 (F := Ideal) (k0_pay18 k0_pay4) (k0_pay19 k0_pay5) k0_pay20
    q k v s x = outO 2 (mat q) (mat k) (mat v) (smat s) (x 0) (x 1) := by
  idx_vars x
  pointwise [k0_pay22, k0_pay18, k0_pay19, k0_pay20, k0_pay21, k0_pay4, k0_pay5, log_g2, diff_word, tok_word]
  rfl
theorem out3 (q k v : A2) (s : S3) (x : S128x128.Idx) : k0_pay26 (F := Ideal) k0_pay4 k0_pay5 (k0_pay24 (F := Ideal) k0_pay4)
    (FloatOps.ofBits (F := Ideal) FTy.f32 0#32) q k v s x = outO 3 (mat q) (mat k) (mat v) (smat s) (x 0) (x 1) := by
  idx_vars x
  pointwise [k0_pay26, k0_pay24, k0_pay25, k0_pay4, k0_pay5, log_g3, diff_word, tok_word]
  rfl

/-! ## A head's part of a whole block -/

/-- The 512-lane blocks and the four head states of a grid point. -/
abbrev B2 := FVec Ideal S128x512 FTy.bf16
abbrev P3 := FVec Ideal S4x128x128 FTy.f32

/-- Head `h`'s lanes of a block. -/
abbrev lanes (X : B2) (h : Fin 4) (i d : Fin 128) : EReal := X (ix2 i (⟨128 * h.val + d.val, by omega⟩ : Fin 512))
/-- Head `h`'s state. -/
abbrev head (P : P3) (h : Fin 4) (d e : Fin 128) : EReal := P (ix3 h d e)

/-- The four leaving states of a point that loads keys `K`, values `V` and entering states `P`. -/
def newP (K V : B2) (P : P3) : P3 := fun y => newS (y 0) (lanes K (y 0)) (lanes V (y 0)) (head P (y 0)) (y 1) (y 2)

/-- The output block of a point. -/
def outP (Q K V : B2) (P : P3) : FVec Ideal S128x512 FTy.f32 := fun y =>
  have hl : (y 1).val / 128 < 4 := by have := (y 1).isLt; change (y 1).val < 512 at this; omega
  outO ⟨(y 1).val / 128, hl⟩ (lanes Q ⟨(y 1).val / 128, hl⟩) (lanes K ⟨(y 1).val / 128, hl⟩) (lanes V ⟨(y 1).val / 128, hl⟩)
    (head P ⟨(y 1).val / 128, hl⟩) (y 0) ⟨(y 1).val % 128, Nat.mod_lt _ (by norm_num)⟩

/-- One head's stored state is that head's part of `newP`. -/
theorem newP_of (h : Fin 4) (K V : B2) (P : P3) (k v : A2) (s : S3) (x : S1x128x128.Idx) (y : S4x128x128.Idx)
    (hk : ∀ i d, k (ix2 i d) = lanes K h i d) (hv : ∀ i d, v (ix2 i d) = lanes V h i d)
    (hs : ∀ d e, s (ix3 0 d e) = head P h d e) (h0 : (y 0).val = h.val) (h1 : (y 1).val = (x 1).val) (h2 : (y 2).val = (x 2).val) :
    newS h (mat k) (mat v) (smat s) (x 1) (x 2) = newP K V P y := by
  have e0 : h = y 0 := (Fin.ext h0).symm
  subst e0
  have e1 : (x 1 : Fin 128) = y 1 := (Fin.ext h1).symm
  have e2 : (x 2 : Fin 128) = y 2 := (Fin.ext h2).symm
  rw [show mat k = lanes K (y 0) from funext fun i => funext fun d => hk i d,
    show mat v = lanes V (y 0) from funext fun i => funext fun d => hv i d,
    show smat s = head P (y 0) from funext fun i => funext fun d => hs i d]
  exact congrArg₂ (newS (y 0) (lanes K (y 0)) (lanes V (y 0)) (head P (y 0))) e1 e2

/-- One head's stored output is that head's part of `outP`. -/
theorem outP_of (h : Fin 4) (Q K V : B2) (P : P3) (q k v : A2) (s : S3) (x : S128x128.Idx) (y : S128x512.Idx)
    (hq : ∀ i d, q (ix2 i d) = lanes Q h i d) (hk : ∀ i d, k (ix2 i d) = lanes K h i d)
    (hv : ∀ i d, v (ix2 i d) = lanes V h i d)
    (hs : ∀ d e, s (ix3 0 d e) = head P h d e) (h0 : (y 0).val = (x 0).val) (h1 : (y 1).val = 128 * h.val + (x 1).val) :
    outO h (mat q) (mat k) (mat v) (smat s) (x 0) (x 1) = outP Q K V P y := by
  have hx : (x 1).val < 128 := (x 1).isLt
  have e0 : h = (⟨(y 1).val / 128, by omega⟩ : Fin 4) := Fin.ext (by dsimp only; omega)
  have e1 : (x 0 : Fin 128) = y 0 := (Fin.ext h0).symm
  have e2 : (x 1 : Fin 128) = ⟨(y 1).val % 128, Nat.mod_lt _ (by norm_num)⟩ := Fin.ext (by dsimp only; omega)
  rw [show mat q = lanes Q h from funext fun i => funext fun d => hq i d,
    show mat k = lanes K h from funext fun i => funext fun d => hk i d,
    show mat v = lanes V h from funext fun i => funext fun d => hv i d,
    show smat s = head P h from funext fun i => funext fun d => hs i d]
  unfold outP
  dsimp only
  rw [← e0]
  exact congrArg₂ (outO h (lanes Q h) (lanes K h) (lanes V h) (head P h)) e1 e2

/-! ## Each head's payloads, over what the point loads of the whole blocks -/

/-- A load of head `h`'s lanes reads those lanes. -/
theorem ld_lanes (h : Fin 4) {o : ℕ} (ho : o = 128 * h.val) (inb : ∀ a, (![0, o] : Fin 2 → ℕ) a + (![128, 128] : Fin 2 → ℕ) a ≤ S128x512.size a)
    (X : B2) (i d : Fin 128) : X ((Rect.unit (s := S128x512) ![0, o] ![128, 128] inb).idx (ix2 i d)) = lanes X h i d := by
  subst ho
  refine congrArg X (funext fun a => Fin.ext ?_)
  fin_cases a
  · simp [Rect.unit]
  · simp [Rect.unit]

/-- A load of head `h`'s state reads that state. -/
theorem ld_head (h : Fin 4) {o : ℕ} (ho : o = h.val) (inb : ∀ a, (![o, 0, 0] : Fin 3 → ℕ) a + (![1, 128, 128] : Fin 3 → ℕ) a ≤ S4x128x128.size a)
    (P : P3) (d e : Fin 128) : P ((Rect.unit (s := S4x128x128) ![o, 0, 0] ![1, 128, 128] inb).idx (ix3 0 d e)) = head P h d e := by
  subst ho
  refine congrArg P (funext fun a => Fin.ext ?_)
  fin_cases a
  · rfl
  · simp [Rect.unit]
  · simp [Rect.unit]

/-- Head `h`'s lanes of a block, as a load reads them. -/
abbrev lanesB (X : B2) (o : ℕ) (inb : ∀ a, (![0, o] : Fin 2 → ℕ) a + (![128, 128] : Fin 2 → ℕ) a ≤ S128x512.size a) : A2 :=
  fun x => X ((Rect.unit (s := S128x512) ![0, o] ![128, 128] inb).idx x)
/-- A head's state, as a load reads it. -/
abbrev headB (P : P3) (o : ℕ) (inb : ∀ a, (![o, 0, 0] : Fin 3 → ℕ) a + (![1, 128, 128] : Fin 3 → ℕ) a ≤ S4x128x128.size a) : S3 :=
  fun x => P ((Rect.unit (s := S4x128x128) ![o, 0, 0] ![1, 128, 128] inb).idx x)

theorem newP0 (K V : B2) (P : P3) {ik iv is} (x : S1x128x128.Idx) (y : S4x128x128.Idx)
    (h0 : (y 0).val = (x 0).val) (h1 : (y 1).val = (x 1).val) (h2 : (y 2).val = (x 2).val) :
    k0_pay11 (F := Ideal) k0_pay7 (lanesB K 0 ik) (lanesB V 0 iv) (k0_pay8 (headB P 0 is)) x = newP K V P y :=
  (new0 _ _ _ x).trans (newP_of 0 K V P _ _ _ x y (ld_lanes 0 rfl ik K) (ld_lanes 0 rfl iv V) (ld_head 0 rfl is P)
    (by have : (x 0).val < 1 := (x 0).isLt
        rw [h0]; exact Nat.lt_one_iff.mp this) h1 h2)
theorem outP0 (Q K V : B2) (P : P3) {iq ik iv is} (x : S128x128.Idx) (y : S128x512.Idx)
    (h0 : (y 0).val = (x 0).val) (h1 : (y 1).val = (x 1).val) :
    k0_pay10 (F := Ideal) k0_pay6 (lanesB Q 0 iq) (lanesB V 0 iv) (k0_pay8 (headB P 0 is)) (k0_pay9 (lanesB Q 0 iq) (lanesB K 0 ik)) (constant S128x128 FTy.f32 0#32) x = outP Q K V P y :=
  (out0 _ _ _ _ x).trans (outP_of 0 Q K V P _ _ _ _ x y (ld_lanes 0 rfl iq Q) (ld_lanes 0 rfl ik K)
    (ld_lanes 0 rfl iv V) (ld_head 0 rfl is P) h0 (h1.trans (Nat.zero_add _).symm))

theorem newP1 (K V : B2) (P : P3) {ik iv is} (x : S1x128x128.Idx) (y : S4x128x128.Idx)
    (h0 : (y 0).val = 1 + (x 0).val) (h1 : (y 1).val = (x 1).val) (h2 : (y 2).val = (x 2).val) :
    k0_pay17 (F := Ideal) (k0_pay14 k0_pay5) (lanesB K 128 ik) (lanesB V 128 iv) (headB P 1 is) x = newP K V P y :=
  (new1 _ _ _ x).trans (newP_of 1 K V P _ _ _ x y (ld_lanes 1 rfl ik K) (ld_lanes 1 rfl iv V) (ld_head 1 rfl is P)
    (by have : (x 0).val < 1 := (x 0).isLt
        rw [h0, Nat.lt_one_iff.mp this]; rfl) h1 h2)
theorem outP1 (Q K V : B2) (P : P3) {iq ik iv is} (x : S128x128.Idx) (y : S128x512.Idx)
    (h0 : (y 0).val = (x 0).val) (h1 : (y 1).val = 128 + (x 1).val) :
    k0_pay16 (F := Ideal) (k0_pay12 k0_pay4) (k0_pay13 k0_pay5) (lanesB Q 128 iq) (lanesB K 128 ik) (lanesB V 128 iv) (headB P 1 is) x = outP Q K V P y :=
  (out1 _ _ _ _ x).trans (outP_of 1 Q K V P _ _ _ _ x y (ld_lanes 1 rfl iq Q) (ld_lanes 1 rfl ik K)
    (ld_lanes 1 rfl iv V) (ld_head 1 rfl is P) h0 h1)

theorem newP2 (K V : B2) (P : P3) {ik iv is} (x : S1x128x128.Idx) (y : S4x128x128.Idx)
    (h0 : (y 0).val = 2 + (x 0).val) (h1 : (y 1).val = (x 1).val) (h2 : (y 2).val = (x 2).val) :
    k0_pay23 (F := Ideal) k0_pay5 (lanesB K 256 ik) (lanesB V 256 iv) (headB P 2 is) x = newP K V P y :=
  (new2 _ _ _ x).trans (newP_of 2 K V P _ _ _ x y (ld_lanes 2 rfl ik K) (ld_lanes 2 rfl iv V) (ld_head 2 rfl is P)
    (by have : (x 0).val < 1 := (x 0).isLt
        rw [h0, Nat.lt_one_iff.mp this]; rfl) h1 h2)
theorem outP2 (Q K V : B2) (P : P3) {iq ik iv is} (x : S128x128.Idx) (y : S128x512.Idx)
    (h0 : (y 0).val = (x 0).val) (h1 : (y 1).val = 256 + (x 1).val) :
    k0_pay22 (F := Ideal) (k0_pay18 k0_pay4) (k0_pay19 k0_pay5) k0_pay20 (lanesB Q 256 iq) (lanesB K 256 ik) (lanesB V 256 iv) (headB P 2 is) x = outP Q K V P y :=
  (out2 _ _ _ _ x).trans (outP_of 2 Q K V P _ _ _ _ x y (ld_lanes 2 rfl iq Q) (ld_lanes 2 rfl ik K)
    (ld_lanes 2 rfl iv V) (ld_head 2 rfl is P) h0 h1)

theorem newP3 (K V : B2) (P : P3) {ik iv is} (x : S1x128x128.Idx) (y : S4x128x128.Idx)
    (h0 : (y 0).val = 3 + (x 0).val) (h1 : (y 1).val = (x 1).val) (h2 : (y 2).val = (x 2).val) :
    k0_pay1 (F := Ideal) (lanesB V 384 iv) (k0_pay27 k0_pay5 (lanesB K 384 ik)) (k0_pay28 (headB P 3 is)) x = newP K V P y :=
  (new3 _ _ _ x).trans (newP_of 3 K V P _ _ _ x y (ld_lanes 3 rfl ik K) (ld_lanes 3 rfl iv V) (ld_head 3 rfl is P)
    (by have : (x 0).val < 1 := (x 0).isLt
        rw [h0, Nat.lt_one_iff.mp this]; rfl) h1 h2)
theorem outP3 (Q K V : B2) (P : P3) {iq ik iv is} (x : S128x128.Idx) (y : S128x512.Idx)
    (h0 : (y 0).val = (x 0).val) (h1 : (y 1).val = 384 + (x 1).val) :
    k0_pay26 (F := Ideal) k0_pay4 k0_pay5 (k0_pay24 (F := Ideal) k0_pay4) (FloatOps.ofBits (F := Ideal) FTy.f32 0#32) (lanesB Q 384 iq) (lanesB K 384 ik) (lanesB V 384 iv) (headB P 3 is) x = outP Q K V P y :=
  (out3 _ _ _ _ x).trans (outP_of 3 Q K V P _ _ _ _ x y (ld_lanes 3 rfl iq Q) (ld_lanes 3 rfl ik K)
    (ld_lanes 3 rfl iv V) (ld_head 3 rfl is P) h0 h1)

end Cert.KernelIdeal.Chunk

end
-- ==== Proof.Sweep.lean ====
/-
  The retention kernel's grid: what every point leaves in the carried state and in its output block.
-/
module

public import proofs.«01_k».proof.Proof.Chunk
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Sweep

open Cert.KernelIdeal Cert.KernelIdeal.Gen Cert.KernelIdeal.Chunk Cert.Retention

variable (m : (ℓ : Loc nD τ sig) → Buf (Elt Ideal) ℓ)

/-- The state that enters a batch row, as the first point of the row loads it. -/
abbrev entry (c : Dev nD) (t : Fin cfg0.N) : P3 := k0_pay3 (F := Ideal) (iblk m c 3 t)

/-- The state the point before left. -/
abbrev prev (c : Dev nD) (t : Fin cfg0.N) : P3 := (outsAt0 m c (t.val - 1) (by have := t.isLt; omega)).2.2

/-- Stores that cover an index leave there what they alone would leave, whatever was stored before them. -/
theorem canon_of_covered {Val : EltTy → Type} {S : Shape} {e : EltTy} [∀ e, Nonempty (Val e)] (L' : List (View.Piece Val S e)) (y : S.Idx) :
    ∀ L : List (View.Piece Val S e), (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := hc
      rcases List.mem_cons.mp hq with rfl | hq'
      · exact absurd hy hm
      · exact canon_of_covered L' y L ⟨q, hq', hy⟩

theorem stateB (c : Dev nD) (t : Fin cfg0.N) (h0 : ¬t.val % 64 = 0) (h1 : ¬t.val % 64 = 63) :
    (outsAt0 m c t.val t.isLt).2.2 = newP (iblk m c 1 t) (iblk m c 2 t) (prev m c t) := by
  funext y
  rw [outsAt0_B m c t h0 h1]; frame_out
  simp only [read_unread_whole]
  canon_tiles x h
  exacts [newP3 _ _ _ x y h0 h1 h2, newP2 _ _ _ x y h0 h1 h2, newP1 _ _ _ x y h0 h1 h2, newP0 _ _ _ x y h0 h1 h2]

theorem blockB (c : Dev nD) (t : Fin cfg0.N) (h0 : ¬t.val % 64 = 0) (h1 : ¬t.val % 64 = 63) :
    (outsAt0 m c t.val t.isLt).1 = outP (iblk m c 0 t) (iblk m c 1 t) (iblk m c 2 t) (prev m c t) := by
  funext y
  rw [outsAt0_B m c t h0 h1]; frame_out
  simp only [read_unread_whole]
  canon_tiles x h
  exacts [outP3 _ _ _ _ x y h0 h1, outP2 _ _ _ _ x y h0 h1, outP1 _ _ _ _ x y h0 h1, outP0 _ _ _ _ x y h0 h1]

theorem stateC (c : Dev nD) (t : Fin cfg0.N) (h0 : ¬t.val % 64 = 0) (h1 : t.val % 64 = 63) :
    (outsAt0 m c t.val t.isLt).2.2 = newP (iblk m c 1 t) (iblk m c 2 t) (prev m c t) := by
  funext y
  rw [outsAt0_C m c t h0 h1]; frame_out
  simp only [read_unread_whole]
  canon_tiles x h
  exacts [newP3 _ _ _ x y h0 h1 h2, newP2 _ _ _ x y h0 h1 h2, newP1 _ _ _ x y h0 h1 h2, newP0 _ _ _ x y h0 h1 h2]

theorem blockC (c : Dev nD) (t : Fin cfg0.N) (h0 : ¬t.val % 64 = 0) (h1 : t.val % 64 = 63) :
    (outsAt0 m c t.val t.isLt).1 = outP (iblk m c 0 t) (iblk m c 1 t) (iblk m c 2 t) (prev m c t) := by
  funext y
  rw [outsAt0_C m c t h0 h1]; frame_out
  simp only [read_unread_whole]
  canon_tiles x h
  exacts [outP3 _ _ _ _ x y h0 h1, outP2 _ _ _ _ x y h0 h1, outP1 _ _ _ _ x y h0 h1, outP0 _ _ _ _ x y h0 h1]

theorem stateA (c : Dev nD) (t : Fin cfg0.N) (h0 : t.val % 64 = 0) (h1 : ¬t.val % 64 = 63) :
    (outsAt0 m c t.val t.isLt).2.2 = newP (iblk m c 1 t) (iblk m c 2 t) (entry m c t) := by
  funext y
  rw [outsAt0_A m c t h0 h1]; frame_out
  simp (discharger := decide) only [↓View.readCov_skip, ↓View.readCov_fill, read_unread_whole]
  refine (canon_of_covered [_] y [_, _, _, _] (View.cover_of_tiled_head _ _ _ rfl y)).trans ?_
  canon_tiles x h
  exacts [newP3 _ _ _ x y h0 h1 h2, newP2 _ _ _ x y h0 h1 h2, newP1 _ _ _ x y h0 h1 h2, newP0 _ _ _ x y h0 h1 h2]

theorem blockA (c : Dev nD) (t : Fin cfg0.N) (h0 : t.val % 64 = 0) (h1 : ¬t.val % 64 = 63) :
    (outsAt0 m c t.val t.isLt).1 = outP (iblk m c 0 t) (iblk m c 1 t) (iblk m c 2 t) (entry m c t) := by
  funext y
  rw [outsAt0_A m c t h0 h1]; frame_out
  simp (discharger := decide) only [↓View.readCov_skip, ↓View.readCov_fill, read_unread_whole]
  canon_tiles x h
  exacts [outP3 _ _ _ _ x y h0 h1, outP2 _ _ _ _ x y h0 h1, outP1 _ _ _ _ x y h0 h1, outP0 _ _ _ _ x y h0 h1]

end Cert.KernelIdeal.Sweep

end
-- ==== Proof.Arrays.lean ====
/-
  The retention kernel's two arrays after the run: the outputs of all chunks and the final states.
-/
module

public import proofs.«01_k».proof.Proof.Sweep

@[expose] public section

set_option maxRecDepth 16384

noncomputable section

open Idealize.ShloMosaic Idealize.ShloMosaic.TcCoe Idealize.SL.Sem
open Idealize.ShloMosaic.Pipeline (Dat)

namespace Cert.KernelIdeal.Sweep

open Cert.KernelIdeal Cert.KernelIdeal.Gen Cert.KernelIdeal.Chunk Cert.Retention

variable (m : (ℓ : Loc nD τ sig) → Buf (Elt Ideal) ℓ)

/-- Which block each window holds at a grid point. -/
theorem idx : ∀ t : Fin cfg0.N, win0_0.index t = ![t.val, 0] ∧ win0_1.index t = ![t.val, 0] ∧ win0_2.index t = ![t.val, 0]
    ∧ win0_3.index t = ![t.val / 64, 0, 0, 0] ∧ win0_4.index t = ![t.val, 0] ∧ win0_5.index t = ![t.val / 64, 0, 0, 0]
    ∧ t.val / 64 < 2 ∧ t.val < 128 :=
  (by decide +kernel : ∀ t : Fin grid0.N, _)

/-- The arguments: queries, keys, values, entering states. -/
abbrev qA (c : Dev nD) : Act := m ((c : Thread nD τ).loc main_arg0)
abbrev kA (c : Dev nD) : Act := m ((c : Thread nD τ).loc main_arg1)
abbrev vA (c : Dev nD) : Act := m ((c : Thread nD τ).loc main_arg2)
abbrev sA (c : Dev nD) : Sta := m ((c : Thread nD τ).loc main_arg3)

/-- The batch row of a grid point. -/
abbrev row (t : Fin cfg0.N) : Fin 2 := ⟨t.val / 64, (idx t).2.2.2.2.2.2.1⟩

theorem lanes_q (c : Dev nD) (t : Fin cfg0.N) (h : Fin 4) : lanes (iblk m c 0 t) h = rd (qA m c) (row t) (t.val % 64) h := by
  funext i d
  unfold lanes rd
  blk_ext [iblk, V, idx t]
theorem lanes_k (c : Dev nD) (t : Fin cfg0.N) (h : Fin 4) : lanes (iblk m c 1 t) h = rd (kA m c) (row t) (t.val % 64) h := by
  funext i d
  unfold lanes rd
  blk_ext [iblk, V, idx t]
theorem lanes_v (c : Dev nD) (t : Fin cfg0.N) (h : Fin 4) : lanes (iblk m c 2 t) h = rd (vA m c) (row t) (t.val % 64) h := by
  funext i d
  unfold lanes rd
  blk_ext [iblk, V, idx t]
theorem head_s (c : Dev nD) (t : Fin cfg0.N) (h : Fin 4) : head (entry m c t) h = St (kA m c) (vA m c) (sA m c) 0 (row t) h := by
  funext d e
  unfold head entry St
  pointwise [k0_pay3]
  blk_ext [iblk, V, idx t]

/-- A point that enters with the states after `n` chunks leaves the states after `n + 1`. -/
theorem head_new (c : Dev nD) (t : Fin cfg0.N) (P : P3) (hP : ∀ h, head P h = St (kA m c) (vA m c) (sA m c) (t.val % 64) (row t) h)
    (h : Fin 4) : head (newP (iblk m c 1 t) (iblk m c 2 t) P) h = St (kA m c) (vA m c) (sA m c) (t.val % 64 + 1) (row t) h := by
  funext d e
  show newS h (lanes (iblk m c 1 t) h) (lanes (iblk m c 2 t) h) (head P h) d e = _
  rw [lanes_k, lanes_v, hP]
  rfl

/-- The state before a point's chunk, from what the point before left. -/
theorem head_prev (c : Dev nD) (t : Fin cfg0.N) (h0 : ¬t.val % 64 = 0) (h : Fin 4)
    (ih : head (prev m c t) h = St (kA m c) (vA m c) (sA m c) ((t.val - 1) % 64 + 1) (row ⟨t.val - 1, by have := t.isLt; omega⟩) h) :
    head (prev m c t) h = St (kA m c) (vA m c) (sA m c) (t.val % 64) (row t) h := by
  rw [ih]
  have e1 : (t.val - 1) % 64 + 1 = t.val % 64 := by omega
  have e2 : row ⟨t.val - 1, by have := t.isLt; omega⟩ = row t := Fin.ext (show (t.val - 1) / 64 = t.val / 64 by omega)
  rw [e1, e2]

/-- The carried state after every point. -/
theorem carried (c : Dev nD) : ∀ (n : ℕ) (hn : n < cfg0.N) (h : Fin 4),
    head (outsAt0 m c n hn).2.2 h = St (kA m c) (vA m c) (sA m c) (n % 64 + 1) (row ⟨n, hn⟩) h := by
  intro n
  induction n with
  | zero =>
    intro hn h
    rw [stateA m c ⟨0, hn⟩ rfl (by norm_num)]
    exact head_new m c ⟨0, hn⟩ _ (head_s m c ⟨0, hn⟩) h
  | succ n ih =>
    intro hn h
    by_cases h0 : (n + 1) % 64 = 0
    · rw [stateA m c ⟨n + 1, hn⟩ h0 (by dsimp only; omega)]
      refine head_new m c ⟨n + 1, hn⟩ _ (fun h => ?_) h
      rw [show (⟨n + 1, hn⟩ : Fin cfg0.N).val % 64 = 0 from h0]
      exact head_s m c ⟨n + 1, hn⟩ h
    · have hp : ∀ h, head (prev m c ⟨n + 1, hn⟩) h = _ := fun h => head_prev m c ⟨n + 1, hn⟩ h0 h (ih _ h)
      by_cases h1 : (n + 1) % 64 = 63
      · rw [stateC m c ⟨n + 1, hn⟩ h0 h1]
        exact head_new m c ⟨n + 1, hn⟩ _ hp h
      · rw [stateB m c ⟨n + 1, hn⟩ h0 h1]
        exact head_new m c ⟨n + 1, hn⟩ _ hp h

/-- A point's output block, over the states it enters with. -/
theorem out_at (c : Dev nD) (t : Fin cfg0.N) (P : P3) (hP : ∀ h, head P h = St (kA m c) (vA m c) (sA m c) (t.val % 64) (row t) h)
    (i : Fin 128) (l : Fin 512) : outP (iblk m c 0 t) (iblk m c 1 t) (iblk m c 2 t) P (ix2 i l)
      = Out (qA m c) (kA m c) (vA m c) (sA m c) (t.val % 64) (row t) ⟨l.val / 128, by omega⟩ i ⟨l.val % 128, by omega⟩ := by
  show outO ⟨l.val / 128, _⟩ (lanes (iblk m c 0 t) ⟨l.val / 128, _⟩) (lanes (iblk m c 1 t) ⟨l.val / 128, _⟩)
    (lanes (iblk m c 2 t) ⟨l.val / 128, _⟩) (head P ⟨l.val / 128, _⟩) i ⟨l.val % 128, _⟩ = _
  rw [lanes_q, lanes_k, lanes_v, hP]
  rfl

/-- The output block after every point. -/
theorem block (c : Dev nD) (t : Fin cfg0.N) (i : Fin 128) (l : Fin 512) : (outsAt0 m c t.val t.isLt).1 (ix2 i l)
      = Out (qA m c) (kA m c) (vA m c) (sA m c) (t.val % 64) (row t) ⟨l.val / 128, by omega⟩ i ⟨l.val % 128, by omega⟩ := by
  by_cases h0 : t.val % 64 = 0
  · rw [blockA m c t h0 (by omega)]
    refine out_at m c t _ (fun h => ?_) i l
    rw [h0]
    exact head_s m c t h
  · have hp : ∀ h, head (prev m c t) h = _ := fun h => head_prev m c t h0 h (carried m c _ _ h)
    by_cases h1 : t.val % 64 = 63
    · rw [blockC m c t h0 h1]; exact out_at m c t _ hp i l
    · rw [blockB m c t h0 h1]; exact out_at m c t _ hp i l

/-- The state a row's last point writes out is the state it leaves. -/
theorem written (c : Dev nD) (t : Fin cfg0.N) (h0 : ¬t.val % 64 = 0) (h1 : t.val % 64 = 63) (h : Fin 4) (d e : Fin 128) :
    (outsAt0 m c t.val t.isLt).2.1 (ix4 0 h d e) = (outsAt0 m c t.val t.isLt).2.2 (ix3 h d e) := by
  rw [outsAt0_C m c t h0 h1]; frame_out
  pointwise [k0_pay2]
  rw [View.readCov_eq_canon']
  refine congrArg (View.canon _) ?_
  funext a
  fin_cases a <;> exact Fin.ext (by simp [Rect.unit])

/-- An entry of the output array, by batch row, chunk, token and lane. -/
theorem OutA_at (q k v : Act) (s : Sta) (y : S16384x512.Idx) (n : ℕ) (b : Fin 2) (i : Fin 128) (l : Fin 512) (hn : n < 64)
    (h0 : (y 0).val = 8192 * b.val + 128 * n + i.val) (h1 : (y 1).val = l.val) :
    OutA q k v s y = Out q k v s n b ⟨l.val / 128, by omega⟩ i ⟨l.val % 128, by omega⟩ := by
  have hi := i.isLt
  have e0 : (y 0).val % 8192 / 128 = n := by omega
  have e1 : (⟨(y 0).val / 8192, by omega⟩ : Fin 2) = b := Fin.ext (by dsimp only; omega)
  have e2 : (⟨(y 0).val % 128, Nat.mod_lt _ (by norm_num)⟩ : Fin 128) = i := Fin.ext (by dsimp only; omega)
  unfold OutA
  simp only [e0, e1, e2, h1]

/-- The output array after the run. -/
theorem final_out (c : Dev nD) : (dats m 0 c).arrAt 4 cfg0.N = OutA (qA m c) (kA m c) (vA m c) (sA m c) := by
  refine (dats m 0 c).arrAt_eq_of_covers 4 _ (by decide +kernel) fun t hf y => ?_
  blk_simp
  rw [after0_4]
  idx_vars y
  refine (block m c t _ _).trans (OutA_at _ _ _ _ _ _ _ _ _ (Nat.mod_lt _ (by norm_num)) ?_ ?_).symm
  all_goals blk_simp [idx t]
  have : (row t).val = t.val / 64 := rfl
  omega

/-- The state array after the run. -/
theorem final_state (c : Dev nD) : (dats m 0 c).arrAt 5 cfg0.N = StA (kA m c) (vA m c) (sA m c) := by
  refine (dats m 0 c).arrAt_eq_of_covers 5 _ (by decide +kernel) fun t hf y => ?_
  have h1 := (flush0_5 t).mp hf
  blk_simp
  rw [after0_5]
  idx_vars y
  obtain rfl : y0 = 0 := Subsingleton.elim _ _
  refine (written m c t (by omega) h1 y1 y2 y3).trans ?_
  refine (congrFun (congrFun (carried m c t.val t.isLt y1) y2) y3).trans ?_
  rw [h1]
  unfold StA
  congr 1
  all_goals refine Fin.ext ?_
  all_goals blk_simp [idx t]
  all_goals simp

end Cert.KernelIdeal.Sweep

end
-- ==== Proof.RefEntry.lean ====
/-
  The reference's loop, at its entry: the chunks of the three inputs and the decays.
-/
module

public import proofs.«01_k».proof.Proof.Recurrence
public import proofs.«01_k».proof.Proof.Gen.ReferenceIdeal.Run
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

open Idealize.ShloMosaic Idealize.ShloMosaic.TcCoe Idealize.SL.Sem Idealize.ShloMosaic.StableHlo

namespace Cert.ReferenceIdeal.Loop

open Cert.ReferenceIdeal Cert.ReferenceIdeal.Gen Cert.ReferenceIdeal.Value Cert.Retention

variable (m : (ℓ : Loc nD τ sig) → Buf (Elt Ideal) ℓ)

/-- The arguments: queries, keys, values, entering states. -/
abbrev qA (c : Dev nD) : Act := m ((c : Thread nD τ).loc main_arg0)
abbrev kA (c : Dev nD) : Act := m ((c : Thread nD τ).loc main_arg1)
abbrev vA (c : Dev nD) : Act := m ((c : Thread nD τ).loc main_arg2)
abbrev sA (c : Dev nD) : Sta := m ((c : Thread nD τ).loc main_arg3)

/-- The contents at the loop's entry. -/
abbrev E (c : Dev nD) : Valuation τ sig (Elt Ideal) := entryContents (preI (F := Ideal)) m c

set_option maxHeartbeats 2000000 in
theorem entry_q (c : Dev nD) (n : Fin 64) (b : Fin 2) (i : Fin 128) (h : Fin 4) (d : Fin 128) :
    (E m c (Proc.devRef .tc main_v60_0) : S64x2x128x4x128.Idx → EReal) (ix5 n b i h d) = rd (qA m c) b n.val h i d := by
  unfold E
  simp only [entryContents, afterL_cons, afterL_nil]
  after_reads_simp
  dsimp only [id]
  pointwise
  unfold rd
  refine congrArg₂ (fun r l => _root_.id (launchContents m c (Proc.devRef .tc main_arg0) : Act) (ix2 r l)) (Fin.ext ?_) (Fin.ext ?_)
  all_goals dsimp only
  all_goals omega

set_option maxHeartbeats 2000000 in
theorem entry_k (c : Dev nD) (n : Fin 64) (b : Fin 2) (i : Fin 128) (h : Fin 4) (d : Fin 128) :
    (E m c (Proc.devRef .tc main_v60_1) : S64x2x128x4x128.Idx → EReal) (ix5 n b i h d) = rd (kA m c) b n.val h i d := by
  unfold E
  simp only [entryContents, afterL_cons, afterL_nil]
  after_reads_simp
  dsimp only [id]
  pointwise
  unfold rd
  refine congrArg₂ (fun r l => _root_.id (launchContents m c (Proc.devRef .tc main_arg1) : Act) (ix2 r l)) (Fin.ext ?_) (Fin.ext ?_)
  all_goals dsimp only
  all_goals omega

set_option maxHeartbeats 2000000 in
theorem entry_v (c : Dev nD) (n : Fin 64) (b : Fin 2) (i : Fin 128) (h : Fin 4) (d : Fin 128) :
    (E m c (Proc.devRef .tc main_v60_2) : S64x2x128x4x128.Idx → EReal) (ix5 n b i h d) = rd (vA m c) b n.val h i d := by
  unfold E
  simp only [entryContents, afterL_cons, afterL_nil]
  after_reads_simp
  dsimp only [id]
  pointwise
  unfold rd
  refine congrArg₂ (fun r l => _root_.id (launchContents m c (Proc.devRef .tc main_arg2) : Act) (ix2 r l)) (Fin.ext ?_) (Fin.ext ?_)
  all_goals dsimp only
  all_goals omega

set_option maxHeartbeats 2000000 in
theorem entry_dec (c : Dev nD) (h : Fin 4) (i j : Fin 128) :
    (E m c (Proc.devRef .tc main_v60_3) : S4x128x128.Idx → EReal) (ix3 h i j) = dec h i j := by
  unfold E
  simp only [entryContents, afterL_cons, afterL_nil]
  after_reads_simp
  simp -implicitDefEqProofs only [id, StableHlo.TRef.toBuf, StableHlo.TRef.ofBuf, cast_cast, cast_eq]
  pointwise [tok_word, head_word, lg_eq, cdec_eq, ofBits_127]
  rfl

set_option maxHeartbeats 2000000 in
theorem entry_qdec (c : Dev nD) (h : Fin 4) (i : Fin 128) :
    (E m c (Proc.devRef .tc main_v60_4) : S1x128x4x1.Idx → EReal) (ix4 0 i h 0) = qdec h i := by
  unfold E
  simp only [entryContents, afterL_cons, afterL_nil]
  after_reads_simp
  dsimp only [id]
  pointwise [tok_word, head_word, lg_eq, cdec_eq, ofBits_127]
  rfl

set_option maxHeartbeats 2000000 in
theorem entry_cdec (c : Dev nD) (h : Fin 4) :
    (E m c (Proc.devRef .tc main_v60_5) : S1x4x1x1.Idx → EReal) (ix4 0 h 0 0) = cdec h := by
  unfold E
  simp only [entryContents, afterL_cons, afterL_nil]
  after_reads_simp
  dsimp only [id]
  pointwise [tok_word, head_word, lg_eq, cdec_eq, ofBits_127]

set_option maxHeartbeats 2000000 in
theorem entry_kdec (c : Dev nD) (h : Fin 4) (i : Fin 128) :
    (E m c (Proc.devRef .tc main_v60_6) : S1x128x4x1.Idx → EReal) (ix4 0 i h 0) = kdec h i := by
  unfold E
  simp only [entryContents, afterL_cons, afterL_nil]
  after_reads_simp
  dsimp only [id]
  pointwise [tok_word, head_word, lg_eq, cdec_eq, ofBits_127]
  rfl

set_option maxHeartbeats 2000000 in
theorem entry_state (c : Dev nD) (b : Fin 2) (h : Fin 4) (d e : Fin 128) :
    (E m c (Proc.devRef .tc main_v60_8) : S2x4x128x128.Idx → EReal) (ix4 b h d e) = sA m c (ix4 b h d e) := by
  unfold E
  simp only [entryContents, afterL_cons, afterL_nil]
  after_reads_simp
  dsimp only [id]

end Cert.ReferenceIdeal.Loop

end
-- ==== Proof.RefLoop.lean ====
/-
  The reference's loop: what every trip makes of the carried state and of the outputs.
-/
module

public import proofs.«01_k».proof.Proof.RefEntry
public import Idealize.ShloMosaic.Lib.DynamicIndex

@[expose] public section

set_option maxRecDepth 16384

noncomputable section

open Idealize.ShloMosaic Idealize.ShloMosaic.TcCoe Idealize.SL.Sem Idealize.ShloMosaic.StableHlo

namespace Cert.ReferenceIdeal.Loop

open Cert.ReferenceIdeal Cert.ReferenceIdeal.Gen Cert.ReferenceIdeal.Value Cert.Retention

abbrev Chunks := S64x2x128x4x128.Idx → EReal

/-- What the loop carries before trip `n`, over queries `q`, keys `k`, values `v` and entering states `s0`. -/
structure Inv (q k v : Act) (s0 : Sta) (n : ℕ) (V : Valuation τ sig (Elt Ideal)) : Prop where
  qs : ∀ (n' : Fin 64) b i h d, (V (Proc.devRef .tc main_v60_0) : Chunks) (ix5 n' b i h d) = rd q b n'.val h i d
  ks : ∀ (n' : Fin 64) b i h d, (V (Proc.devRef .tc main_v60_1) : Chunks) (ix5 n' b i h d) = rd k b n'.val h i d
  vs : ∀ (n' : Fin 64) b i h d, (V (Proc.devRef .tc main_v60_2) : Chunks) (ix5 n' b i h d) = rd v b n'.val h i d
  decs : ∀ h i j, (V (Proc.devRef .tc main_v60_3) : S4x128x128.Idx → EReal) (ix3 h i j) = dec h i j
  qdecs : ∀ h i, (V (Proc.devRef .tc main_v60_4) : S1x128x4x1.Idx → EReal) (ix4 0 i h 0) = qdec h i
  cdecs : ∀ h, (V (Proc.devRef .tc main_v60_5) : S1x4x1x1.Idx → EReal) (ix4 0 h 0 0) = cdec h
  kdecs : ∀ h i, (V (Proc.devRef .tc main_v60_6) : S1x128x4x1.Idx → EReal) (ix4 0 i h 0) = kdec h i
  ctr : V (Proc.devRef .tc main_v60_7) = fun _ => BitVec.ofNat 32 n
  state : ∀ b h d e, (V (Proc.devRef .tc main_v60_8) : S2x4x128x128.Idx → EReal) (ix4 b h d e) = St k v s0 n b h d e
  outs : ∀ (n' : Fin 64) b i h e, n'.val < n → (V (Proc.devRef .tc main_v60_9) : Chunks) (ix5 n' b i h e) = Out q k v s0 n'.val b h i e

theorem toInt_ctr : ∀ n : Fin 64, (BitVec.ofNat 32 n.val).toInt = (n.val : ℤ) := by decide

variable {q k v : Act} {s0 : Sta} {V : Valuation τ sig (Elt Ideal)}

/-- Chunk `n` lies inside the stack of chunks. -/
theorem fits (n : Fin 64) : S64x2x128x4x128.Slices ![n.val, 0, 0, 0, 0] S1x2x128x4x128 :=
  ⟨rfl, fun a => by
    have := n.isLt
    fin_cases a <;> simp <;> omega⟩

/-- The loop's start indices at trip `n`, as numbers. -/
theorem starts (n : Fin 64) (I : Inv q k v s0 n.val V) (a : Fin 5) :
    ((![V (Proc.devRef .tc main_v60_7), constantI S_ 32 0#32, constantI S_ 32 0#32, constantI S_ 32 0#32, constantI S_ 32 0#32] :
      Fin 5 → (⟨S_, .i32⟩ : BufTy).Contents (Elt Ideal)) a (Shape.Idx.first h_S_)).toInt = ((![n.val, 0, 0, 0, 0] : Fin 5 → ℕ) a : ℤ) := by
  rw [I.ctr]
  fin_cases a
  · exact toInt_ctr n
  all_goals rfl

/-- The start of the update at trip `n` is not clamped. -/
theorem clamped (n : Fin 64) (I : Inv q k v s0 n.val V) (a : Fin 5) :
    (min (max ((![V (Proc.devRef .tc main_v60_7), constantI S_ 32 0#32, constantI S_ 32 0#32, constantI S_ 32 0#32, constantI S_ 32 0#32] :
      Fin 5 → (⟨S_, .i32⟩ : BufTy).Contents (Elt Ideal)) a (Shape.Idx.first h_S_)).toInt 0)
      ((S64x2x128x4x128.size a - S1x2x128x4x128.size a : ℕ) : ℤ)).toNat = (![n.val, 0, 0, 0, 0] : Fin 5 → ℕ) a := by
  rw [starts n I a]
  have h : (![n.val, 0, 0, 0, 0] : Fin 5 → ℕ) a + S1x2x128x4x128.size a ≤ S64x2x128x4x128.size a := (fits n).2 a
  omega

theorem q_at (n : Fin 64) (I : Inv q k v s0 n.val V) (b : Fin 2) (i : Fin 128) (h : Fin 4) (d : Fin 128) :
    (res_main_while0b_v64 V : S2x128x4x128.Idx → EReal) (ix4 b i h d) = rd q b n.val h i d := by
  unfold res_main_while0b_v64
  rw [Host.dynamicSlice_eq_extractStridedSlice _ _ _ ![n.val, 0, 0, 0, 0] _ (fits n) (starts n I)]
  pointwise
  exact I.qs n b i h d
theorem k_at (n : Fin 64) (I : Inv q k v s0 n.val V) (b : Fin 2) (i : Fin 128) (h : Fin 4) (d : Fin 128) :
    (res_main_while0b_v65 V : S2x128x4x128.Idx → EReal) (ix4 b i h d) = rd k b n.val h i d := by
  unfold res_main_while0b_v65
  rw [Host.dynamicSlice_eq_extractStridedSlice _ _ _ ![n.val, 0, 0, 0, 0] _ (fits n) (starts n I)]
  pointwise
  exact I.ks n b i h d
theorem v_at (n : Fin 64) (I : Inv q k v s0 n.val V) (b : Fin 2) (i : Fin 128) (h : Fin 4) (d : Fin 128) :
    (res_main_while0b_v66 V : S2x128x4x128.Idx → EReal) (ix4 b i h d) = rd v b n.val h i d := by
  unfold res_main_while0b_v66
  rw [Host.dynamicSlice_eq_extractStridedSlice _ _ _ ![n.val, 0, 0, 0, 0] _ (fits n) (starts n I)]
  pointwise
  exact I.vs n b i h d
theorem new_state (n : Fin 64) (I : Inv q k v s0 n.val V) (b : Fin 2) (h : Fin 4) (d e : Fin 128) :
    (step_main_v60_8 V : S2x4x128x128.Idx → EReal) (ix4 b h d e) = St k v s0 (n.val + 1) b h d e := by
  unfold step_main_v60_8
  dsimp only [id]
  pointwise [k_at n I, v_at n I, I.cdecs, I.kdecs, I.state]
  rfl
theorem new_out (n : Fin 64) (I : Inv q k v s0 n.val V) (n' : Fin 64) (b : Fin 2) (i : Fin 128) (h : Fin 4) (e : Fin 128) :
    (step_main_v60_9 V : Chunks) (ix5 n' b i h e) = if n' = n then Out q k v s0 n.val b h i e else (V (Proc.devRef .tc main_v60_9) : Chunks) (ix5 n' b i h e) := by
  unfold step_main_v60_9
  dsimp only [id]
  rw [Host.dynamicUpdateSlice_eq_updateSlice _ _ _ _ ![n.val, 0, 0, 0, 0]
    (clamped n I) (fits n)]
  pointwise [k_at n I, v_at n I, q_at n I, I.decs, I.qdecs, I.state]
  by_cases hn : n' = n
  · subst hn
    rw [if_pos rfl, dif_pos ?_]
    · unfold Out outO
      refine congrArg₂ (· + ·) (Finset.sum_congr rfl fun j _ => mul_comm _ _)
        (congrArg (· * _) (Finset.sum_congr rfl fun d _ => mul_comm _ _))
    · intro a
      fin_cases a
      · exact ⟨le_rfl, Nat.lt_succ_self _⟩
      · exact ⟨Nat.zero_le _, (Nat.zero_add 2).symm ▸ b.isLt⟩
      · exact ⟨Nat.zero_le _, (Nat.zero_add 128).symm ▸ i.isLt⟩
      · exact ⟨Nat.zero_le _, (Nat.zero_add 4).symm ▸ h.isLt⟩
      · exact ⟨Nat.zero_le _, (Nat.zero_add 128).symm ▸ e.isLt⟩
  · rw [if_neg hn, dif_neg ?_]
    intro hall
    have h0 : n.val ≤ n'.val ∧ n'.val < n.val + 1 := hall 0
    exact hn (Fin.ext (by omega))

/-- One trip. -/
theorem step (n : Fin 64) (I : Inv q k v s0 n.val V) : Inv q k v s0 (n.val + 1) (STEP V) where
  qs := by rw [STEP_main_v60_0]; exact I.qs
  ks := by rw [STEP_main_v60_1]; exact I.ks
  vs := by rw [STEP_main_v60_2]; exact I.vs
  decs := by rw [STEP_main_v60_3]; exact I.decs
  qdecs := by rw [STEP_main_v60_4]; exact I.qdecs
  cdecs := by rw [STEP_main_v60_5]; exact I.cdecs
  kdecs := by rw [STEP_main_v60_6]; exact I.kdecs
  ctr := by
    rw [STEP_main_v60_7]
    unfold step_main_v60_7
    rw [I.ctr]
    funext _
    exact (BitVec.ofNat_add n.val 1).symm
  state := by rw [STEP_main_v60_8]; exact new_state n I
  outs := by
    rw [STEP_main_v60_9]
    intro n' b i h e hn
    refine (new_out n I n' b i h e).trans ?_
    by_cases hq : n' = n
    · rw [if_pos hq, hq]
    · rw [if_neg hq]
      exact I.outs n' b i h e (by have : n'.val ≠ n.val := fun hh => hq (Fin.ext hh); omega)

variable (m : (ℓ : Loc nD τ sig) → Buf (Elt Ideal) ℓ)

/-- The loop's entry. -/
theorem entry (c : Dev nD) : Inv (qA m c) (kA m c) (vA m c) (sA m c) 0 (E m c) where
  qs := entry_q m c
  ks := entry_k m c
  vs := entry_v m c
  decs := entry_dec m c
  qdecs := entry_qdec m c
  cdecs := entry_cdec m c
  kdecs := entry_kdec m c
  ctr := ctr_entry m c
  state := entry_state m c
  outs := fun _ _ _ _ _ h => absurd h (Nat.not_lt_zero _)

/-- After `n` trips. -/
theorem trips (c : Dev nD) : ∀ n : ℕ, n ≤ 64 → Inv (qA m c) (kA m c) (vA m c) (sA m c) n (STEP^[n] (E m c))
  | 0, _ => entry m c
  | n + 1, hn => by
    rw [Function.iterate_succ_apply']
    exact step ⟨n, hn⟩ (trips c n (by omega))

/-- The state array the reference ends with. -/
theorem final_state (c : Dev nD) : (STEP^[64] (E m c)) (Proc.devRef .tc main_v60_8) = StA (kA m c) (vA m c) (sA m c) := by
  funext y
  idx_vars y
  exact (trips m c 64 le_rfl).state _ _ _ _

/-- The output array the reference ends with. -/
theorem final_out (c : Dev nD) : out_main_v63 (STEP^[64] (E m c)) = OutA (qA m c) (kA m c) (vA m c) (sA m c) := by
  funext y
  idx_vars y
  unfold out_main_v63
  pointwise
  have e : y0.val / 128 % 64 = y0.val % 8192 / 128 := by omega
  refine ((trips m c 64 le_rfl).outs _ _ _ _ _ (Nat.mod_lt _ (by norm_num))).trans ?_
  exact congrArg (fun n => Out (qA m c) (kA m c) (vA m c) (sA m c) n (⟨y0.val / 8192, by omega⟩ : Fin 2) (⟨y1.val / 128, by omega⟩ : Fin 4)
    (⟨y0.val % 128, Nat.mod_lt _ (by norm_num)⟩ : Fin 128) (⟨y1.val % 128, Nat.mod_lt _ (by norm_num)⟩ : Fin 128)) e

end Cert.ReferenceIdeal.Loop

end
-- ==== Proof.Rows.lean ====
/-
  One token at a time: the formulas of the layer's mixing step, of rows given as functions of the lane.
  The kernel's blocks and the reference's arrays are both read as these.
-/
module

public import Idealize.ShloMosaic.Lib.Pipeline.ValueKit
public import Idealize.ShloMosaic.Lib.Pointwise

@[expose] public section

noncomputable section

open Idealize.ShloMosaic

namespace Cert.Rows

/-- The inverse root mean square of a row's lanes, `n` their number as the programs write it. -/
def irms {N : ℕ} (n : EReal) (x : Fin N → EReal) : EReal :=
  Ideal.rsqrt (Ideal.div (∑ k, x k * x k) n + Ideal.ofBits .f32 0x358637BD#32)

/-- A row normalised, weighted by `g`, scaled and shifted. -/
def modulated (x g shift scale : Fin 1024 → EReal) (l : Fin 1024) : EReal :=
  x l * irms (Ideal.ofBits .f32 0x44800000#32) x * g l * (1 + scale l) + shift l

/-- Lane `l` of head `h` among the 512 lanes of four heads. -/
abbrev lane (h : Fin 4) (l : Fin 128) : Fin 512 := ⟨128 * h.val + l.val, by omega⟩

/-- A row of four heads, each normalised and weighted, times the silu of the gate row. -/
def gated (y g w : Fin 512 → EReal) (j : Fin 512) : EReal :=
  y j * irms (Ideal.ofBits .f32 0x43000000#32) (fun k => y (lane ⟨j.val / 128, by omega⟩ k)) * w j * (g j * Ideal.logistic (g j))

/-- `gated` at a lane of a head named by its head and its lane. -/
theorem gated_lane (y g w : Fin 512 → EReal) (h : Fin 4) (l : Fin 128) :
    gated y g w (lane h l) = y (lane h l) * irms (Ideal.ofBits .f32 0x43000000#32) (fun k => y (lane h k)) * w (lane h l)
      * (g (lane h l) * Ideal.logistic (g (lane h l))) := by
  have e : (⟨(lane h l).val / 128, by omega⟩ : Fin 4) = h := Fin.ext (by dsimp only; omega)
  unfold gated
  rw [e]

/-- The mixing step at one token: two branches, each through its weights and its sigmoid gate, summed, through the output
    weights, and added to the row under the modulation's gate. -/
def mixed (x g shift scale gate : Fin 1024 → EReal) (a y r w : Fin 512 → EReal) (wga wgr : Fin 1024 → Fin 1024 → EReal)
    (wa wr : Fin 512 → Fin 1024 → EReal) (wo : Fin 1024 → Fin 1024 → EReal) (l : Fin 1024) : EReal :=
  x l + gate l * ∑ k, (Ideal.logistic (∑ j, modulated x g shift scale j * wga j k) * (∑ j, a j * wa j k)
    + Ideal.logistic (∑ j, modulated x g shift scale j * wgr j k) * (∑ j, gated y r w j * wr j k)) * wo k l

end Cert.Rows

end
-- ==== Proof.MixKernel.lean ====
/-
  The mixing kernel's output array: every row is the mixing step of that token.
-/
module

public import proofs.«01_k».proof.Proof.Rows
public import proofs.«01_k».proof.Proof.Gen.MixIdeal.Frame
public import proofs.«01_k».proof.Proof.Gen.MixIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Tokens

open Cert.MixIdeal Cert.MixIdeal.Gen Cert.Rows

/-- The normalised, modulated rows of a block. -/
theorem modulated_eq (x : Vec Ideal S256x1024 .f32) (g : Vec Ideal S1x1024 .f32) (sh sc : Vec Ideal S1x1x1024 .f32) (i : Fin 256) (l : Fin 1024) :
    (k0_pay2 x g sh sc : S256x1024.Idx → EReal) (ix2 i l)
      = modulated (fun l => x (ix2 i l)) (fun l => g (ix2 0 l)) (fun l => sh (ix3 0 0 l)) (fun l => sc (ix3 0 0 l)) l := by
  pointwise [k0_pay2]
  rfl

section heads

variable (y r : Vec Ideal S256x512 .f32) (w : Vec Ideal S1x512 .f32) (i : Fin 256)

/-- The gated retention row of a block's token. -/
abbrev gatedAt (j : Fin 512) : EReal := gated (fun j => y (ix2 i j)) (fun j => r (ix2 i j)) (fun j => w (ix2 0 j)) j

theorem head0 (v : Vec Ideal S1x128 .f32) (hv : ∀ l, v (ix2 0 l) = w (ix2 0 (lane 0 l))) (l : Fin 128) :
    (k0_pay6 (k0_pay3 y) (k0_pay4 r) (k0_pay5 y) v : S256x128.Idx → EReal) (ix2 i l) = gatedAt y r w i (lane 0 l) := by
  have e : ∀ l : Fin 128, (⟨l.val, by omega⟩ : Fin 512) = lane 0 l := fun l => Fin.ext (by show l.val = 128 * 0 + l.val; omega)
  pointwise [k0_pay6, k0_pay3, k0_pay4, k0_pay5]
  simp only [hv, e]
  exact (gated_lane (fun j => y (ix2 i j)) (fun j => r (ix2 i j)) (fun j => w (ix2 0 j)) 0 l).symm

theorem head1 (v : Vec Ideal S1x128 .f32) (hv : ∀ l, v (ix2 0 l) = w (ix2 0 (lane 1 l))) (l : Fin 128) :
    (k0_pay7 y r v : S256x128.Idx → EReal) (ix2 i l) = gatedAt y r w i (lane 1 l) := by
  pointwise [k0_pay7]
  simp only [hv]
  exact (gated_lane (fun j => y (ix2 i j)) (fun j => r (ix2 i j)) (fun j => w (ix2 0 j)) 1 l).symm

theorem head2 (v : Vec Ideal S1x128 .f32) (hv : ∀ l, v (ix2 0 l) = w (ix2 0 (lane 2 l))) (l : Fin 128) :
    (k0_pay8 y r v : S256x128.Idx → EReal) (ix2 i l) = gatedAt y r w i (lane 2 l) := by
  pointwise [k0_pay8]
  simp only [hv]
  exact (gated_lane (fun j => y (ix2 i j)) (fun j => r (ix2 i j)) (fun j => w (ix2 0 j)) 2 l).symm

end heads

/-- A block's payload, of the loaded blocks: the weight row of the heads comes as its four slices. -/
theorem block_eq (x : Vec Ideal S256x1024 .f32) (g : Vec Ideal S1x1024 .f32) (sh sc gate : Vec Ideal S1x1x1024 .f32)
    (a y r : Vec Ideal S256x512 .f32) (w : Vec Ideal S1x512 .f32) (w0 w1 w2 w3 : Vec Ideal S1x128 .f32)
    (h0 : ∀ l, w0 (ix2 0 l) = w (ix2 0 (lane 0 l))) (h1 : ∀ l, w1 (ix2 0 l) = w (ix2 0 (lane 1 l)))
    (h2 : ∀ l, w2 (ix2 0 l) = w (ix2 0 (lane 2 l))) (h3 : ∀ l, w3 (ix2 0 l) = w (ix2 0 (lane 3 l)))
    (wga wgr wo : Vec Ideal S1024x1024 .bf16) (wa wr : Vec Ideal S512x1024 .bf16) (i : Fin 256) (l : Fin 1024) :
    (k0_pay1 x (k0_pay11 (k0_pay2 x g sh sc) r (k0_pay6 (k0_pay3 y) (k0_pay4 r) (k0_pay5 y) w0) (k0_pay7 y r w1) (k0_pay8 y r w2)
        (k0_pay9 y) (k0_pay10 y) w3 a wa wr wga wgr wo) (k0_pay12 gate) : S256x1024.Idx → EReal) (ix2 i l)
      = mixed (fun l => x (ix2 i l)) (fun l => g (ix2 0 l)) (fun l => sh (ix3 0 0 l)) (fun l => sc (ix3 0 0 l)) (fun l => gate (ix3 0 0 l))
          (fun j => a (ix2 i j)) (fun j => y (ix2 i j)) (fun j => r (ix2 i j)) (fun j => w (ix2 0 j))
          (fun j k => wga (ix2 j k)) (fun j k => wgr (ix2 j k)) (fun j k => wa (ix2 j k)) (fun j k => wr (ix2 j k)) (fun j k => wo (ix2 j k)) l := by
  pointwise [k0_pay1, k0_pay11, k0_pay12, k0_pay9, k0_pay10]
  simp only [modulated_eq, head0 y r w i w0 h0, head1 y r w i w1 h1, head2 y r w i w2 h2, h3]
  unfold mixed
  refine congrArg (fun z => x (ix2 i l) + gate (ix3 0 0 l) * z) (Finset.sum_congr rfl fun k _ => ?_)
  refine congrArg (fun z => (Ideal.logistic _ * _ + Ideal.logistic _ * z) * wo (ix2 k l)) (Finset.sum_congr rfl fun j _ => ?_)
  refine congrArg (fun z => z * wr (ix2 j k)) ?_
  by_cases c0 : j.val < 128
  · rw [dif_pos c0]
    exact congrArg (gatedAt y r w i) (Fin.ext (by show 128 * 0 + j.val = j.val; omega))
  rw [dif_neg c0]
  by_cases c1 : j.val - 128 < 128
  · rw [dif_pos c1]
    exact congrArg (gatedAt y r w i) (Fin.ext (by show 128 * 1 + (j.val - 128) = j.val; omega))
  rw [dif_neg c1]
  by_cases c2 : j.val - 128 - 128 < 128
  · rw [dif_pos c2]
    exact congrArg (gatedAt y r w i) (Fin.ext (by show 128 * 2 + (j.val - 128 - 128) = j.val; omega))
  rw [dif_neg c2]
  refine (gated_lane (fun j => y (ix2 i j)) (fun j => r (ix2 i j)) (fun j => w (ix2 0 j)) 3 ⟨j.val - 128 - 128 - 128, by omega⟩).symm.trans ?_
  exact congrArg (gatedAt y r w i) (Fin.ext (by show 128 * 3 + (j.val - 128 - 128 - 128) = j.val; omega))

variable (m : (ℓ : Loc nD τ sig) → Buf (Elt Ideal) ℓ)

/-- Which block each window holds at a grid point. -/
theorem idx : ∀ t : Fin cfg0.N, win0_0.index t = ![t.val, 0] ∧ win0_1.index t = ![0, 0] ∧ win0_2.index t = ![t.val / 32, 0, 0]
    ∧ win0_3.index t = ![t.val / 32, 0, 0] ∧ win0_4.index t = ![t.val / 32, 0, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0] ∧ t.val < 64 :=
  (by decide +kernel : ∀ t : Fin grid0.N, _)

/-- The batch row of an array's row. -/
abbrev batch (r : Fin 16384) : Fin 2 := ⟨r.val / 8192, by omega⟩

/-- The mixing step of row `r` of the arguments. -/
abbrev mixedAt (c : Dev nD) (r : Fin 16384) (l : Fin 1024) : EReal :=
  mixed (fun l => V m c main_arg0 (ix2 r l)) (fun l => V m c main_arg1 (ix2 0 l))
    (fun l => V m c main_arg2 (ix3 (batch r) 0 l)) (fun l => V m c main_arg3 (ix3 (batch r) 0 l)) (fun l => V m c main_arg4 (ix3 (batch r) 0 l))
    (fun j => V m c main_arg5 (ix2 r j)) (fun j => V m c main_arg6 (ix2 r j)) (fun j => V m c main_arg7 (ix2 r j))
    (fun j => V m c main_arg8 (ix2 0 j)) (fun j k => V m c main_arg9 (ix2 j k)) (fun j k => V m c main_arg10 (ix2 j k))
    (fun j k => V m c main_arg11 (ix2 j k)) (fun j k => V m c main_arg12 (ix2 j k)) (fun j k => V m c main_arg13 (ix2 j k)) l

/-- What the output array holds: every row mixed. -/
def REF (c : Dev nD) : (⟨2, ![16384, 1024]⟩ : Shape).Idx → EReal := fun z => mixedAt m c (z 0) (z 1)

/-- The array's row that a block's row is. -/
abbrev rowOf (t : Fin cfg0.N) (a : Fin 256) : Fin 16384 := ⟨t.val * 256 + a.val, by have := (idx t).2.2.2.2.2.2.2.2.2.2.2.2.2.2.2; omega⟩

section blocks

variable (c : Dev nD) (t : Fin cfg0.N) (a : Fin 256)

theorem b0 (l : Fin 1024) : iblk m c 0 t (ix2 a l) = V m c main_arg0 (ix2 (rowOf t a) l) := by blk_ext [iblk, V, idx t]
theorem b1 (l : Fin 1024) : iblk m c 1 t (ix2 0 l) = V m c main_arg1 (ix2 0 l) := by blk_ext [iblk, V, idx t]
theorem b2 (l : Fin 1024) : iblk m c 2 t (ix3 0 0 l) = V m c main_arg2 (ix3 (batch (rowOf t a)) 0 l) := by blk_ext [iblk, V, idx t]
theorem b3 (l : Fin 1024) : iblk m c 3 t (ix3 0 0 l) = V m c main_arg3 (ix3 (batch (rowOf t a)) 0 l) := by blk_ext [iblk, V, idx t]
theorem b4 (l : Fin 1024) : iblk m c 4 t (ix3 0 0 l) = V m c main_arg4 (ix3 (batch (rowOf t a)) 0 l) := by blk_ext [iblk, V, idx t]
theorem b5 (j : Fin 512) : iblk m c 5 t (ix2 a j) = V m c main_arg5 (ix2 (rowOf t a) j) := by blk_ext [iblk, V, idx t]
theorem b6 (j : Fin 512) : iblk m c 6 t (ix2 a j) = V m c main_arg6 (ix2 (rowOf t a) j) := by blk_ext [iblk, V, idx t]
theorem b7 (j : Fin 512) : iblk m c 7 t (ix2 a j) = V m c main_arg7 (ix2 (rowOf t a) j) := by blk_ext [iblk, V, idx t]
theorem b8 (j : Fin 512) : iblk m c 8 t (ix2 0 j) = V m c main_arg8 (ix2 0 j) := by blk_ext [iblk, V, idx t]
theorem b9 (j k : Fin 1024) : iblk m c 9 t (ix2 j k) = V m c main_arg9 (ix2 j k) := by blk_ext [iblk, V, idx t]
theorem b10 (j k : Fin 1024) : iblk m c 10 t (ix2 j k) = V m c main_arg10 (ix2 j k) := by blk_ext [iblk, V, idx t]
theorem b11 (j : Fin 512) (k : Fin 1024) : iblk m c 11 t (ix2 j k) = V m c main_arg11 (ix2 j k) := by blk_ext [iblk, V, idx t]
theorem b12 (j : Fin 512) (k : Fin 1024) : iblk m c 12 t (ix2 j k) = V m c main_arg12 (ix2 j k) := by blk_ext [iblk, V, idx t]
theorem b13 (j k : Fin 1024) : iblk m c 13 t (ix2 j k) = V m c main_arg13 (ix2 j k) := by blk_ext [iblk, V, idx t]

/-- The mixing step of a block's row is that of the array's row. -/
theorem mixed_block (l : Fin 1024) :
    mixed (fun l => iblk m c 0 t (ix2 a l)) (fun l => iblk m c 1 t (ix2 0 l)) (fun l => iblk m c 2 t (ix3 0 0 l)) (fun l => iblk m c 3 t (ix3 0 0 l))
        (fun l => iblk m c 4 t (ix3 0 0 l)) (fun j => iblk m c 5 t (ix2 a j)) (fun j => iblk m c 6 t (ix2 a j)) (fun j => iblk m c 7 t (ix2 a j))
        (fun j => iblk m c 8 t (ix2 0 j)) (fun j k => iblk m c 9 t (ix2 j k)) (fun j k => iblk m c 10 t (ix2 j k)) (fun j k => iblk m c 11 t (ix2 j k))
        (fun j k => iblk m c 12 t (ix2 j k)) (fun j k => iblk m c 13 t (ix2 j k)) l
      = mixedAt m c (rowOf t a) l := by
  simp only [b0 m c t a, b1, b2 m c t a, b3 m c t a, b4 m c t a, b5 m c t a, b6 m c t a, b7 m c t a, b8, b9, b10, b11, b12, b13]

end blocks

/-- The array index under a block's. -/
theorem emb_eq (t : Fin cfg0.N) (a : Fin 256) (b : Fin 1024) :
    ((View.whole main_v0).slice (win0_14.rect t)).emb (ix2 a b) = ix2 (rowOf t a) b := by
  blk_ext [idx t]

theorem final (c : Dev nD) : (dats m 0 c).arrAt 14 cfg0.N = REF m c := by
  refine (dats m 0 c).arrAt_eq_of_covers 14 _ (by decide +kernel) fun t _ y => ?_
  blk_simp
  rw [after0_14]
  frame_out
  obtain ⟨a, b, rfl⟩ : ∃ (a : Fin 256) (b : Fin 1024), y = ix2 a b := ⟨y 0, y 1, by idx_vars y⟩
  refine (block_eq (iblk m c 0 t) (iblk m c 1 t) (iblk m c 2 t) (iblk m c 3 t) (iblk m c 4 t) (iblk m c 5 t) (iblk m c 6 t) (iblk m c 7 t)
    (iblk m c 8 t) _ _ _ _ ?_ ?_ ?_ ?_ (iblk m c 9 t) (iblk m c 10 t) (iblk m c 13 t) (iblk m c 11 t) (iblk m c 12 t) a b).trans ?_
  · exact fun l => congrArg (iblk m c 8 t) (funext fun d => Fin.ext (by
      match d with | ⟨0, _⟩ => rfl | ⟨1, _⟩ => show 0 + 1 * l.val = 128 * 0 + l.val; omega))
  · exact fun l => congrArg (iblk m c 8 t) (funext fun d => Fin.ext (by
      match d with | ⟨0, _⟩ => rfl | ⟨1, _⟩ => show 128 + 1 * l.val = 128 * 1 + l.val; omega))
  · exact fun l => congrArg (iblk m c 8 t) (funext fun d => Fin.ext (by
      match d with | ⟨0, _⟩ => rfl | ⟨1, _⟩ => show 256 + 1 * l.val = 128 * 2 + l.val; omega))
  · exact fun l => congrArg (iblk m c 8 t) (funext fun d => Fin.ext (by
      match d with | ⟨0, _⟩ => rfl | ⟨1, _⟩ => show 384 + 1 * l.val = 128 * 3 + l.val; omega))
  rw [mixed_block, emb_eq]
  rfl

end Cert.MixIdeal.Tokens

end
-- ==== Proof.MixRef.lean ====
/-
  The mixing reference's result: every row is the mixing step of that token.
-/
module

public import proofs.«01_k».proof.Proof.Rows
public import proofs.«01_k».proof.Proof.Gen.MixReferenceIdeal.Run
public import Idealize.ShloMosaic.Lib.Claim
public import Idealize.ShloMosaic.Lib.IdealHost

@[expose] public section

set_option maxRecDepth 16384

noncomputable section

open Idealize.ShloMosaic Idealize.ShloMosaic.TcCoe Idealize.SL.Sem Idealize.ShloMosaic.StableHlo

namespace Cert.MixReferenceIdeal.Tokens

open Cert.MixReferenceIdeal Cert.MixReferenceIdeal.Gen Cert.Rows

variable (m : (ℓ : Loc nD τ sig) → Buf (Elt Ideal) ℓ)

/-- The normalised, modulated tokens, in the reference's layout. -/
def hT (x : FVec Ideal S16384x1024 .f32) (g : FVec Ideal S1x1024 .f32) (sh : FVec Ideal S2x1x1024 .f32) (sc : FVec Ideal S2x1x1024 .f32) : FVec Ideal S2x8192x1024 .f32 :=
  addf (mulf (mulf (mulf (shapeCast _ x shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ x shapeCasts_S16384x1024_S2x8192x1024) (shapeCast _ x shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ sc shapeCasts_S2x1x1024_S2x1024))))) (broadcastInDim S2x8192x1024 ![0, 1, 2] bcast_S2x1x1024_S2x8192x1024_0_1_2 (broadcastInDim S2x1x1024 ![0, 2] bcast_S2x1024_S2x1x1024_0_2 (shapeCast _ sh shapeCasts_S2x1x1024_S2x1024)))

/-- The gated retention rows. -/
def yT (y : FVec Ideal S16384x512 .f32) (r : FVec Ideal S16384x512 .f32) (w : FVec Ideal S1x512 .f32) : FVec Ideal S2x8192x512 .f32 :=
  mulf (shapeCast _ (mulf (mulf (shapeCast _ y shapeCasts_S16384x512_S2x8192x4x128) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (shapeCast _ y shapeCasts_S16384x512_S2x8192x4x128) (shapeCast _ y shapeCasts_S16384x512_S2x8192x4x128)) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x4x128_S2x8192x4x128_0_1_2_3 (broadcastInDim S1x1x4x128 ![2, 3] bcast_S4x128_S1x1x4x128_2_3 (shapeCast _ (shapeCast _ w shapeCasts_S1x512_S512) shapeCasts_S512_S4x128)))) shapeCasts_S2x8192x4x128_S2x8192x512) (mulf (shapeCast _ r shapeCasts_S16384x512_S2x8192x512) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (shapeCast _ r shapeCasts_S16384x512_S2x8192x512))))))

/-- The whole reference as a function of its arguments. -/
def outT (x : FVec Ideal S16384x1024 .f32) (g : FVec Ideal S1x1024 .f32) (sh : FVec Ideal S2x1x1024 .f32) (sc : FVec Ideal S2x1x1024 .f32) (gate : FVec Ideal S2x1x1024 .f32) (a : FVec Ideal S16384x512 .f32) (y : FVec Ideal S16384x512 .f32) (r : FVec Ideal S16384x512 .f32) (w : FVec Ideal S1x512 .f32) (wga : FVec Ideal S1024x1024 .bf16) (wgr : FVec Ideal S1024x1024 .bf16) (wa : FVec Ideal S512x1024 .bf16) (wr : FVec Ideal S512x1024 .bf16) (wo : FVec Ideal S1024x1024 .bf16) : FVec Ideal S16384x1024 .f32 :=
  shapeCast _ (addf (shapeCast _ x shapeCasts_S16384x1024_S2x8192x1024) (mulf (broadcastInDim S2x8192x1024 ![0, 1, 2] bcast_S2x1x1024_S2x8192x1024_0_1_2 (broadcastInDim S2x1x1024 ![0, 2] bcast_S2x1024_S2x1x1024_0_2 (shapeCast _ gate shapeCasts_S2x1x1024_S2x1024))) (Host.dotGeneral dot_S2x8192x1024_S1024x1024_S2x8192x1024_2_0_01_1_n_n none (addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none (hT x g sh sc) (extf .f32 wga bitsLt_bf16_f32)))))) (Host.dotGeneral dot_S2x8192x512_S512x1024_S2x8192x1024_2_0_01_1_n_n none (shapeCast _ a shapeCasts_S16384x512_S2x8192x512) (extf .f32 wa bitsLt_bf16_f32))) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (Host.dotGeneral dot_S2x8192x1024_S1024x1024_S2x8192x1024_2_0_01_1_n_n none (hT x g sh sc) (extf .f32 wgr bitsLt_bf16_f32)))))) (Host.dotGeneral dot_S2x8192x512_S512x1024_S2x8192x1024_2_0_01_1_n_n none (yT y r w) (extf .f32 wr bitsLt_bf16_f32)))) (extf .f32 wo bitsLt_bf16_f32)))) shapeCasts_S2x8192x1024_S16384x1024

/-- The batch row of an array's row, and its token. -/
abbrev batch (q : Fin 16384) : Fin 2 := ⟨q.val / 8192, by omega⟩
abbrev token (q : Fin 16384) : Fin 8192 := ⟨q.val % 8192, by omega⟩

theorem hT_at (x : FVec Ideal S16384x1024 .f32) (g : FVec Ideal S1x1024 .f32) (sh : FVec Ideal S2x1x1024 .f32) (sc : FVec Ideal S2x1x1024 .f32) (q : Fin 16384) (l : Fin 1024) :
    hT x g sh sc (ix3 (batch q) (token q) l)
      = modulated (fun l => x (ix2 q l)) (fun l => g (ix2 0 l)) (fun l => sh (ix3 (batch q) 0 l)) (fun l => sc (ix3 (batch q) 0 l)) l := by
  have e : (⟨q.val / 8192 * 8192 + q.val % 8192, by omega⟩ : Fin 16384) = q := Fin.ext (by dsimp only; omega)
  unfold hT
  pointwise
  rw [e]
  rfl

theorem yT_at (y : FVec Ideal S16384x512 .f32) (r : FVec Ideal S16384x512 .f32) (w : FVec Ideal S1x512 .f32) (q : Fin 16384) (j : Fin 512) :
    yT y r w (ix3 (batch q) (token q) j) = gated (fun j => y (ix2 q j)) (fun j => r (ix2 q j)) (fun j => w (ix2 0 j)) j := by
  have e : (⟨q.val / 8192 * 8192 + q.val % 8192, by omega⟩ : Fin 16384) = q := Fin.ext (by dsimp only; omega)
  have f : ∀ k : Fin 128, (⟨j.val / 128 * 128 + k.val, by omega⟩ : Fin 512) = lane ⟨j.val / 128, by omega⟩ k :=
    fun k => Fin.ext (by dsimp only; omega)
  unfold yT
  pointwise
  rw [e]
  simp only [f]
  rfl

/-- The reference's value at a row. -/
theorem outT_at (x : FVec Ideal S16384x1024 .f32) (g : FVec Ideal S1x1024 .f32) (sh : FVec Ideal S2x1x1024 .f32) (sc : FVec Ideal S2x1x1024 .f32) (gate : FVec Ideal S2x1x1024 .f32) (a : FVec Ideal S16384x512 .f32) (y : FVec Ideal S16384x512 .f32) (r : FVec Ideal S16384x512 .f32) (w : FVec Ideal S1x512 .f32) (wga : FVec Ideal S1024x1024 .bf16) (wgr : FVec Ideal S1024x1024 .bf16) (wa : FVec Ideal S512x1024 .bf16) (wr : FVec Ideal S512x1024 .bf16) (wo : FVec Ideal S1024x1024 .bf16) (q : Fin 16384) (l : Fin 1024) :
    outT x g sh sc gate a y r w wga wgr wa wr wo (ix2 q l)
      = mixed (fun l => x (ix2 q l)) (fun l => g (ix2 0 l)) (fun l => sh (ix3 (batch q) 0 l)) (fun l => sc (ix3 (batch q) 0 l))
          (fun l => gate (ix3 (batch q) 0 l)) (fun j => a (ix2 q j)) (fun j => y (ix2 q j)) (fun j => r (ix2 q j)) (fun j => w (ix2 0 j))
          (fun j k => wga (ix2 j k)) (fun j k => wgr (ix2 j k)) (fun j k => wa (ix2 j k)) (fun j k => wr (ix2 j k)) (fun j k => wo (ix2 j k)) l := by
  unfold outT
  pointwise
  simp only [hT_at, yT_at]
  rfl

/-- The run's term is `outT` of the arguments. -/
theorem result_eq (c : Dev nD) : Value.res_out0 m c
    = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := rfl

end Cert.MixReferenceIdeal.Tokens

end
-- ==== Proof.MixClaim.lean ====
/-
  The mixing step's claims: kernel and reference end with the same array.
-/
module

public import proofs.«01_k».proof.Defs
public import proofs.«01_k».proof.Proof.MixKernel
public import proofs.«01_k».proof.Proof.MixRef
public import proofs.«01_k».proof.Proof.Gen.MixIdeal
public import proofs.«01_k».proof.Proof.Gen.MixReferenceIdeal

@[expose] public section

noncomputable section

namespace Cert.Proof

open Idealize.ShloMosaic Idealize.SL.Sem

/-- The mixing reference leaves its arguments and its counters. -/
theorem mix_reference_quiescent : Cert.quiescent_MixReferenceIdeal (hMixReferenceIdeal := Cert.MixReferenceIdeal.Gen.facts) := by
  intro m g hpre
  refine (θ_run _ _ _).mono (fun r h => ⟨fun c => (h c).2, sem_eq_zero_of_no_sems (by decide) _⟩) (Cert.MixReferenceIdeal.Value.run m g)

set_option maxHeartbeats 1600000 in
/-- Kernel and reference end with the same mixed rows. -/
theorem mixing : Cert.algebraic_MixIdeal_MixReferenceIdeal (hMixIdeal := Cert.MixIdeal.Gen.facts)
    (hMixReferenceIdeal := Cert.MixReferenceIdeal.Gen.facts) := by
  intro m g m' g' _ hagree
  refine ⟨fun c => (Cert.MixIdeal.Gen.dats m 0 c).arrAt 14 Cert.MixIdeal.cfg0.N, Cert.MixIdeal.Value.run_blocks m g, ?_⟩
  refine (θ_run _ _ _).mono (fun r h c => ?_) (Cert.MixReferenceIdeal.Value.run m' g')
  obtain ⟨a0, a1, a2, a3, a4, a5, a6, a7, a8, a9, a10, a11, a12, a13⟩ := hagree c
  obtain ⟨h0, hargs⟩ := h c
  refine ⟨h0.trans ((Cert.MixReferenceIdeal.Tokens.result_eq m' c).trans ?_), hargs⟩
  rw [a0, a1, a2, a3, a4, a5, a6, a7, a8, a9, a10, a11, a12, a13]
  refine Eq.trans ?_ (Cert.MixIdeal.Tokens.final m c).symm
  refine funext fun z => ?_
  obtain ⟨q, l, rfl⟩ : ∃ (q : Fin 16384) (l : Fin 1024), z = ix2 q l := ⟨z 0, z 1, by idx_vars z⟩
  exact Cert.MixReferenceIdeal.Tokens.outT_at _ _ _ _ _ _ _ _ _ _ _ _ _ _ q l

end Cert.Proof

end
-- ==== Proof.Routing.lean ====
module

public import Idealize.ShloMosaic.Lib.Pointwise
public import Idealize.ShloMosaic.Lib.Claim
public import Idealize.ShloMosaic.Lib.IdealHost
public import Idealize.ShloMosaic.Lib.SortFacts

@[expose] public section

/-!
# Routing a token to two experts

The mathematics of the router, free of any program: the first place of a maximum, the chosen group, the two
chosen experts in it, and the weight every expert gets.
-/

noncomputable section

namespace Cert.Routing

open Idealize.ShloMosaic

/-- `a` is the first place where `f` is largest. -/
def IsFirst {n : Nat} (f : Fin n → EReal) (a : Fin n) : Prop := (∀ k, f k ≤ f a) ∧ ∀ k, k < a → f k < f a

theorem IsFirst.unique {n : Nat} {f : Fin n → EReal} {a b : Fin n} (ha : IsFirst f a) (hb : IsFirst f b) : a = b := by
  rcases lt_trichotomy a b with h | h | h
  · exact absurd (hb.2 a h) (not_lt.mpr (ha.1 b))
  · exact h
  · exact absurd (ha.2 b h) (not_lt.mpr (hb.1 a))

theorem exists_first {n : Nat} [NeZero n] (f : Fin n → EReal) : ∃ a, IsFirst f a := by
  obtain ⟨m, hm⟩ := Finite.exists_max f
  have hne : (Finset.univ.filter fun k => f k = f m).Nonempty := ⟨m, by simp⟩
  refine ⟨(Finset.univ.filter fun k => f k = f m).min' hne, ?_, fun k hk => ?_⟩
  · have := (Finset.mem_filter.mp ((Finset.univ.filter fun k => f k = f m).min'_mem hne)).2
    intro k; rw [this]; exact hm k
  · have h0 := (Finset.mem_filter.mp ((Finset.univ.filter fun k => f k = f m).min'_mem hne)).2
    rw [h0]
    refine lt_of_le_of_ne (hm k) fun he => ?_
    exact absurd ((Finset.univ.filter fun k => f k = f m).min'_le k (by simp [he])) (not_le.mpr hk)

/-- The first place of the maximum. -/
def first {n : Nat} [NeZero n] (f : Fin n → EReal) : Fin n := (exists_first f).choose

theorem first_spec {n : Nat} [NeZero n] (f : Fin n → EReal) : IsFirst f (first f) := (exists_first f).choose_spec

theorem first_eq {n : Nat} [NeZero n] {f : Fin n → EReal} {a : Fin n} (h : IsFirst f a) : first f = a :=
  (first_spec f).unique h

/-- `f` with place `a` struck out. -/
def without {n : Nat} (f : Fin n → EReal) (a : Fin n) : Fin n → EReal := fun k => if k = a then ⊥ else f k

/-! ## Maxima and first places as folds -/

theorem fold_max_first {n : Nat} {f : Fin n → EReal} {a : Fin n} (h : IsFirst f a) :
    Finset.univ.fold max ⊥ f = f a := by
  refine le_antisymm ?_ ?_
  · exact (Finset.fold_max_le _).mpr ⟨bot_le, fun k _ => h.1 k⟩
  · exact (Finset.le_fold_max _).mpr (Or.inr ⟨a, Finset.mem_univ a, le_rfl⟩)

/-- The least lane whose value is the maximum, lanes elsewhere counting as `c`. -/
theorem fold_min_first {n : Nat} {f : Fin n → EReal} {a : Fin n} (h : IsFirst f a) (c : EReal)
    (hc : ∀ k : Fin n, ((k.val : ℝ) : EReal) ≤ c) :
    Finset.univ.fold min ⊤ (fun k => if f k = f a then ((k.val : ℝ) : EReal) else c) = ((a.val : ℝ) : EReal) := by
  refine le_antisymm ?_ ?_
  · exact (Finset.fold_min_le _).mpr (Or.inr ⟨a, Finset.mem_univ a, by simp⟩)
  · refine (Finset.le_fold_min _).mpr ⟨le_top, fun k _ => ?_⟩
    by_cases hk : f k = f a
    · rw [if_pos hk]
      have : a ≤ k := not_lt.mp fun hlt => absurd hk (h.2 k hlt).ne
      exact_mod_cast this
    · rw [if_neg hk]; exact hc a

/-! ## A window of lanes -/

/-- `f` shows `g` on the `n` lanes from `b` on and `⊥` on every other lane. -/
def Window {n N : Nat} (b : Nat) (g : Fin n → EReal) (f : Fin N → EReal) : Prop :=
  (∀ (l : Fin N) (k : Fin n), l.val = b + k.val → f l = g k) ∧
    ∀ l : Fin N, (∀ k : Fin n, l.val ≠ b + k.val) → f l = ⊥

theorem Window.first {n N : Nat} {b : Nat} {g : Fin n → EReal} {f : Fin N → EReal} (w : Window b g f) {a : Fin n}
    (h : IsFirst g a) (ha : ⊥ < g a) (l : Fin N) (hl : l.val = b + a.val) : IsFirst f l := by
  refine ⟨fun k => ?_, fun k hk => ?_⟩
  · rw [w.1 l a hl]
    by_cases hw : ∃ c : Fin n, k.val = b + c.val
    · obtain ⟨c, hc⟩ := hw
      rw [w.1 k c hc]; exact h.1 c
    · rw [w.2 k fun c hc => hw ⟨c, hc⟩]; exact bot_le
  · rw [w.1 l a hl]
    by_cases hw : ∃ c : Fin n, k.val = b + c.val
    · obtain ⟨c, hc⟩ := hw
      rw [w.1 k c hc]
      refine h.2 c (Fin.lt_def.mpr ?_)
      have := Fin.lt_def.mp hk
      omega
    · rw [w.2 k fun c hc => hw ⟨c, hc⟩]; exact ha

/-- A sum over all lanes of something that vanishes off the window. -/
theorem sum_window {n N : Nat} (b : Nat) (hN : b + n ≤ N) (F : Fin N → EReal) (G : Fin n → EReal)
    (hin : ∀ (l : Fin N) (k : Fin n), l.val = b + k.val → F l = G k)
    (hout : ∀ l : Fin N, (∀ k : Fin n, l.val ≠ b + k.val) → F l = 0) : ∑ l, F l = ∑ k, G k := by
  symm
  refine Fintype.sum_of_injective (fun k : Fin n => (⟨b + k.val, by omega⟩ : Fin N)) ?_ G F ?_ ?_
  · intro k k' h
    have := Fin.mk.inj h
    exact Fin.ext (by omega)
  · intro l hl
    exact hout l fun k hk => hl ⟨k, Fin.ext hk.symm⟩
  · intro k
    exact (hin _ k rfl).symm

/-! ## The routing -/

/-- The weight of the chosen group: the largest of the softmax of the group logits. -/
def groupWeight (g : Fin 4 → EReal) : EReal := Ideal.div 1 (∑ k, Ideal.exp (g k - g (first g)))

/-- The four expert logits of group `G`. -/
def members (r : Fin 16 → EReal) (G : Fin 4) : Fin 4 → EReal := fun k => r ⟨4 * G.val + k.val, by omega⟩

/-- The best expert of the four. -/
def best (s : Fin 4 → EReal) : Fin 4 := first s

/-- The second best expert of the four. -/
def second (s : Fin 4 → EReal) : Fin 4 := first (without s (best s))

/-- How much less likely the second is than the best. -/
def odds (s : Fin 4 → EReal) : EReal := Ideal.exp (s (second s) - s (best s))

/-- The weight expert `e` gets from group logits `g` and expert logits `r`. -/
def weight (g : Fin 4 → EReal) (r : Fin 16 → EReal) (e : Fin 16) : EReal :=
  if e.val = 4 * (first g).val + (best (members r (first g))).val then
    groupWeight g * Ideal.div 1 (1 + odds (members r (first g)))
  else if e.val = 4 * (first g).val + (second (members r (first g))).val then
    groupWeight g * Ideal.div (odds (members r (first g))) (1 + odds (members r (first g)))
  else 0

theorem first_without_ne {n : Nat} [NeZero n] (f : Fin n → EReal) (a : Fin n) (hf : ∀ k, ⊥ < f k)
    (hn : ∃ k, k ≠ a) : first (without f a) ≠ a := by
  intro h
  obtain ⟨k, hk⟩ := hn
  have h1 := (first_spec (without f a)).1 k
  rw [h, without, without, if_neg hk, if_pos rfl] at h1
  exact absurd (hf k) (not_lt.mpr h1)

theorem second_ne_best (s : Fin 4 → EReal) (hs : ∀ k, ⊥ < s k) : second s ≠ best s :=
  first_without_ne s (best s) hs (by
    by_cases h : best s = 0
    · exact ⟨1, by rw [h]; decide⟩
    · exact ⟨0, fun h' => h h'.symm⟩)

/-! ## A sort picks the best and the second -/

/-- Sorting by strictly larger value, ties left in place: of two places the earlier in the result has the larger
value, or the same value and the earlier place. -/
theorem sortedFrom_order {n : Nat} (f : Fin n → EReal) (before : Fin n → Fin n → Bool)
    (hb : ∀ k k', before k k' = true ↔ f k' < f k) (i j : Fin n) (hij : i < j) :
    f (sortedFrom before j) < f (sortedFrom before i) ∨
      (f (sortedFrom before j) = f (sortedFrom before i) ∧ sortedFrom before i < sortedFrom before j) := by
  classical
  let R : Fin n → Fin n → Bool := fun k k' => decide (f k' < f k ∨ (f k' = f k ∧ k < k'))
  have key : ∀ l : List (Fin n), l.Pairwise (· < ·) → stableSort before l = stableSort R l := by
    intro l
    induction l with
    | nil => intro _; rfl
    | cons a l ih =>
      intro hl
      rw [List.pairwise_cons] at hl
      unfold stableSort
      rw [ih hl.2]
      refine insertBefore_congr before R a _ fun b hb' => ?_
      have hbl : b ∈ l := (perm_stableSort R l).mem_iff.mp hb'
      have hab := hl.1 b hbl
      by_cases h : f a < f b
      · rw [(hb b a).mpr h]; simp [R, h]
      · have h1 : before b a = false := by
          rw [← Bool.not_eq_true]; exact fun h' => h ((hb b a).mp h')
        rw [h1]
        symm
        simp only [R, decide_eq_false_iff_not, not_or, not_and]
        exact ⟨h, fun _ => not_lt.mpr hab.le⟩
  have hpos : sortPositions n before = sortPositions n R :=
    key _ (List.pairwise_lt_finRange n)
  have hsf : sortedFrom before = sortedFrom R := by
    funext k
    unfold sortedFrom
    rw [List.get_of_eq hpos]
    rfl
  rw [hsf]
  have hasym : ∀ a b, R a b = true → R b a = false := by
    intro a b hab
    simp only [R, decide_eq_true_eq, decide_eq_false_iff_not] at hab ⊢
    rcases hab with h | ⟨h, h'⟩
    · rintro (g | ⟨g, _⟩)
      · exact absurd g (not_lt.mpr h.le)
      · exact absurd g h.ne'
    · rintro (g | ⟨_, g⟩)
      · exact absurd g (by rw [h]; exact lt_irrefl _)
      · exact absurd g (not_lt.mpr h'.le)
  have htrans : ∀ a b c, R a b = false → R b c = false → R a c = false := by
    intro a b c h1 h2
    simp only [R, decide_eq_false_iff_not, not_or, not_and, not_lt] at h1 h2 ⊢
    refine ⟨h1.1.trans h2.1, fun hac => ?_⟩
    have e1 : f b = f a := le_antisymm (by rw [← hac]; exact h2.1) h1.1
    have e2 : f c = f b := by rw [hac, e1]
    exact (h2.2 e2).trans (h1.2 e1)
  have hno := sortedFrom_noInversion R R hasym (fun _ _ h => h) htrans i j hij
  have hne : sortedFrom R i ≠ sortedFrom R j := fun h => hij.ne (sortedFrom_injective R h)
  simp only [R, decide_eq_false_iff_not, not_or, not_and, not_lt] at hno
  rcases hno.1.lt_or_eq with h | h
  · exact Or.inl h
  · exact Or.inr ⟨h, lt_of_le_of_ne (hno.2 h.symm) hne⟩

/-- The first place of the sort holds the best. -/
theorem sortedFrom_best (s : Fin 4 → EReal) (before : Fin 4 → Fin 4 → Bool)
    (hb : ∀ k k', before k k' = true ↔ s k' < s k) : sortedFrom before 0 = best s := by
  symm
  refine first_eq ⟨fun k => ?_, fun k hk => ?_⟩
  · obtain ⟨i, rfl⟩ := sortedFrom_surjective before k
    by_cases hi : i = 0
    · rw [hi]
    · rcases sortedFrom_order s before hb 0 i (Fin.pos_of_ne_zero hi) with h | h
      · exact h.le
      · exact h.1.le
  · obtain ⟨i, rfl⟩ := sortedFrom_surjective before k
    have hi : i ≠ 0 := fun h => by rw [h] at hk; exact lt_irrefl _ hk
    rcases sortedFrom_order s before hb 0 i (Fin.pos_of_ne_zero hi) with h | h
    · exact h
    · exact absurd hk (not_lt.mpr h.2.le)

/-- The second place of the sort holds the second best. -/
theorem sortedFrom_second (s : Fin 4 → EReal) (hs : ∀ k, ⊥ < s k) (before : Fin 4 → Fin 4 → Bool)
    (hb : ∀ k k', before k k' = true ↔ s k' < s k) : sortedFrom before 1 = second s := by
  symm
  have h01 : sortedFrom before 1 ≠ best s := by
    rw [← sortedFrom_best s before hb]
    exact fun h => absurd (sortedFrom_injective before h) (by decide)
  have hlt : ∀ i : Fin 4, i ≠ 0 → i ≠ 1 → (1 : Fin 4) < i := by decide
  refine first_eq ⟨fun k => ?_, fun k hk => ?_⟩
  · unfold without
    rw [if_neg h01]
    by_cases hk : k = best s
    · rw [if_pos hk]; exact bot_le
    · rw [if_neg hk]
      obtain ⟨i, rfl⟩ := sortedFrom_surjective before k
      have hi0 : i ≠ 0 := fun h => hk (by rw [h, sortedFrom_best s before hb])
      by_cases hi : i = 1
      · rw [hi]
      · rcases sortedFrom_order s before hb 1 i (hlt i hi0 hi) with h | h
        · exact h.le
        · exact h.1.le
  · unfold without
    rw [if_neg h01]
    by_cases hkb : k = best s
    · rw [if_pos hkb]; exact hs _
    · rw [if_neg hkb]
      obtain ⟨i, rfl⟩ := sortedFrom_surjective before k
      have hi0 : i ≠ 0 := fun h => hkb (by rw [h, sortedFrom_best s before hb])
      have hi : i ≠ 1 := fun h => by rw [h] at hk; exact lt_irrefl _ hk
      rcases sortedFrom_order s before hb 1 i (hlt i hi0 hi) with h | h
      · exact h
      · exact absurd hk (not_lt.mpr h.2.le)

/-! ## Softmax of real logits -/

theorem div_real (x y : ℝ) (hy : y ≠ 0) : Ideal.div (x : EReal) (y : EReal) = ((x / y : ℝ) : EReal) := by
  rw [Ideal.div_coe hy, ← EReal.coe_mul, mul_one_div]

/-- `exp (x - M) / S`. -/
def share (M S : EReal) (x : EReal) : EReal := Ideal.div (Ideal.exp (x - M)) S

theorem share_real (M S x : ℝ) (hS : 0 < S) : share M S x = ((Real.exp (x - M) / S : ℝ) : EReal) := by
  unfold share
  rw [← EReal.coe_sub, Ideal.exp_coe, div_real _ _ hS.ne']

theorem share_lt (M S x y : ℝ) (hS : 0 < S) : share M S x < share M S y ↔ (x : EReal) < y := by
  rw [share_real M S x hS, share_real M S y hS, EReal.coe_lt_coe_iff, EReal.coe_lt_coe_iff, div_lt_div_iff_of_pos_right hS,
    Real.exp_lt_exp, sub_lt_sub_iff_right]

/-- The softmax keeps the first place of the maximum. -/
theorem first_share {n : Nat} [NeZero n] (f : Fin n → ℝ) (M S : ℝ) (hS : 0 < S) :
    IsFirst (fun k => share M S (f k)) (first fun k => (f k : EReal)) := by
  have h := first_spec fun k => (f k : EReal)
  refine ⟨fun k => ?_, fun k hk => ?_⟩
  · exact not_lt.mp fun hlt => absurd ((share_lt M S _ _ hS).mp hlt) (not_lt.mpr (h.1 k))
  · exact (share_lt M S _ _ hS).mpr (h.2 k hk)

theorem coe_sum {ι : Type} (t : Finset ι) (f : ι → ℝ) : ((∑ k ∈ t, f k : ℝ) : EReal) = ∑ k ∈ t, (f k : EReal) := by
  classical
  refine Finset.induction_on t (by simp) fun a t ha ih => ?_
  rw [Finset.sum_insert ha, Finset.sum_insert ha, EReal.coe_add, ih]

/-- The sum of the exponentials is a positive real. -/
theorem sum_exp_real {n : Nat} [NeZero n] (f : Fin n → ℝ) (M : ℝ) :
    ∃ S : ℝ, 0 < S ∧ ∑ k, Ideal.exp ((f k : EReal) - (M : EReal)) = (S : EReal) := by
  refine ⟨∑ k, Real.exp (f k - M), Finset.sum_pos (fun k _ => Real.exp_pos _) ⟨0, Finset.mem_univ _⟩, ?_⟩
  rw [coe_sum]
  refine Finset.sum_congr rfl fun k _ => ?_
  rw [← EReal.coe_sub, Ideal.exp_coe]

/-- The two largest of the softmax, each over their sum: the softmax's denominator drops out. -/
theorem renormalise (x y S : ℝ) (hS : 0 < S) :
    Ideal.div (share x S x) (share x S x + share x S y) = Ideal.div 1 (1 + Ideal.exp ((y : EReal) - x)) ∧
      Ideal.div (share x S y) (share x S x + share x S y)
        = Ideal.div (Ideal.exp ((y : EReal) - x)) (1 + Ideal.exp ((y : EReal) - x)) := by
  have hE := Real.exp_pos (y - x)
  rw [share_real x S x hS, share_real x S y hS, ← EReal.coe_sub, Ideal.exp_coe, sub_self, Real.exp_zero, ← EReal.coe_add,
    ← EReal.coe_one, ← EReal.coe_add, div_real _ _ (by positivity), div_real _ _ (by positivity),
    div_real _ _ (by positivity), div_real _ _ (by positivity)]
  constructor <;> congr 1 <;> field_simp

/-- The first place of the maximum depends on the order alone. -/
theorem first_congr {n : Nat} [NeZero n] {u v : Fin n → EReal} (h : ∀ k k', u k < u k' ↔ v k < v k') : first u = first v := by
  have hv := first_spec v
  refine first_eq ⟨fun k => ?_, fun k hk => ?_⟩
  · exact not_lt.mp fun hlt => absurd ((h _ _).mp hlt) (not_lt.mpr (hv.1 k))
  · exact (h _ _).mpr (hv.2 k hk)

theorem best_share (f : Fin 4 → ℝ) (M S : ℝ) (hS : 0 < S) :
    best (fun k => share M S (f k)) = best fun k => (f k : EReal) :=
  first_congr fun k k' => share_lt M S (f k) (f k') hS

theorem second_share (f : Fin 4 → ℝ) (M S : ℝ) (hS : 0 < S) :
    second (fun k => share M S (f k)) = second fun k => (f k : EReal) := by
  unfold second
  rw [best_share f M S hS]
  refine first_congr fun k k' => ?_
  unfold without
  have hbot : ∀ c, (⊥ : EReal) < share M S (f c) := fun c => by rw [share_real M S _ hS]; exact EReal.bot_lt_coe _
  by_cases hk : k = best fun k => (f k : EReal)
  · by_cases hk' : k' = best fun k => (f k : EReal)
    · simp [hk, hk']
    · simp only [if_pos hk, if_neg hk']
      exact ⟨fun _ => EReal.bot_lt_coe _, fun _ => hbot _⟩
  · by_cases hk' : k' = best fun k => (f k : EReal)
    · simp [if_neg hk, if_pos hk']
    · simp only [if_neg hk, if_neg hk']
      exact share_lt M S (f k) (f k') hS

/-! ## An arg-max as a fold -/

/-- The larger value, on a tie the smaller place. -/
def larger (a b : EReal × BitVec 32) : EReal × BitVec 32 := if b.1 < a.1 ∨ (a.1 = b.1 ∧ a.2.toInt < b.2.toInt) then a else b

/-- `a` loses against `b`, or is as good. -/
def Below (a b : EReal × BitVec 32) : Prop := a.1 ≤ b.1 ∧ (a.1 = b.1 → b.2.toInt ≤ a.2.toInt)

theorem Below.refl (a : EReal × BitVec 32) : Below a a := ⟨le_rfl, fun _ => le_rfl⟩

theorem Below.trans {a b c : EReal × BitVec 32} (h : Below a b) (h' : Below b c) : Below a c := by
  refine ⟨h.1.trans h'.1, fun he => ?_⟩
  have e1 : b.1 = a.1 := le_antisymm (by rw [he]; exact h'.1) h.1
  exact (h'.2 (e1.trans he)).trans (h.2 e1.symm)

theorem larger_spec (a b : EReal × BitVec 32) :
    (larger a b = a ∨ larger a b = b) ∧ Below a (larger a b) ∧ Below b (larger a b) := by
  unfold larger
  by_cases h : b.1 < a.1 ∨ (a.1 = b.1 ∧ a.2.toInt < b.2.toInt)
  · rw [if_pos h]
    refine ⟨Or.inl rfl, Below.refl a, ?_⟩
    rcases h with h | ⟨h, h'⟩
    · exact ⟨h.le, fun he => absurd he h.ne⟩
    · exact ⟨h.ge, fun _ => h'.le⟩
  · rw [if_neg h]
    rw [not_or, not_and, not_lt, not_lt] at h
    exact ⟨Or.inr rfl, ⟨h.1, fun he => h.2 he⟩, Below.refl b⟩

theorem larger_fold (L : List (EReal × BitVec 32)) (a : EReal × BitVec 32) :
    (L.foldl larger a = a ∨ L.foldl larger a ∈ L) ∧ Below a (L.foldl larger a) ∧ ∀ b ∈ L, Below b (L.foldl larger a) := by
  induction L generalizing a with
  | nil => exact ⟨Or.inl rfl, Below.refl a, fun b hb => absurd hb List.not_mem_nil⟩
  | cons b L ih =>
    obtain ⟨h1, h2, h3⟩ := ih (larger a b)
    obtain ⟨g1, g2, g3⟩ := larger_spec a b
    rw [List.foldl_cons]
    refine ⟨?_, g2.trans h2, fun c hc => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.mp hc with rfl | hc
      · exact g3.trans h2
      · exact h3 c hc

/-- Folding over pairs (value, place) of a row of four ends at the first place of the row's maximum. -/
theorem larger_first (s : Fin 4 → EReal) (hs : ∀ k, ⊥ < s k) (L : List (EReal × BitVec 32))
    (hL : ∀ p, p ∈ L ↔ ∃ k : Fin 4, p = (s k, BitVec.ofNat 32 k.val)) :
    (L.foldl larger (⊥, 0#32)).2 = BitVec.ofNat 32 (first s).val := by
  obtain ⟨h1, _, h3⟩ := larger_fold L (⊥, 0#32)
  have hle : ∀ k k' : Fin 4, (BitVec.ofNat 32 k.val).toInt ≤ (BitVec.ofNat 32 k'.val).toInt ↔ k ≤ k' := by decide
  have hmem : L.foldl larger (⊥, 0#32) ∈ L := by
    rcases h1 with h1 | h1
    · have := (h3 (s 0, BitVec.ofNat 32 0) ((hL _).mpr ⟨0, rfl⟩)).1
      rw [h1] at this
      exact absurd (hs 0) (not_lt.mpr this)
    · exact h1
  obtain ⟨b, hb⟩ := (hL _).mp hmem
  rw [hb] at h3
  rw [hb, first_eq (a := b) ⟨fun k => (h3 _ ((hL _).mpr ⟨k, rfl⟩)).1, fun k hk => ?_⟩]
  have := h3 _ ((hL _).mpr ⟨k, rfl⟩)
  refine lt_of_le_of_ne this.1 fun he => ?_
  exact absurd ((hle b k).mp (this.2 he)) (not_le.mpr hk)

/-! ## Constants -/

theorem ofBool_iff (p : Prop) [Decidable p] : BitVec.ofBool (decide p) = 1#1 ↔ p := by
  by_cases h : p <;> simp [h]

theorem select_ofBool {α : Type} (p : Prop) [Decidable p] (a b : α) :
    Scalar.select (BitVec.ofBool (decide p)) a b = if p then a else b := by
  unfold Scalar.select
  exact if_congr (ofBool_iff p) rfl rfl

theorem bottom : Ideal.ofBits FTy.f32 0xFF800000#32 = ⊥ := by simp [Ideal.ofBits, Ideal.ieee]
theorem top : Ideal.ofBits FTy.f32 0x7F800000#32 = ⊤ := by simp [Ideal.ofBits, Ideal.ieee]
theorem half35 : Ideal.ofBits FTy.f32 0x418C0000#32 = ((17.5 : ℝ) : EReal) := by
  simp [Ideal.ofBits, Ideal.ieee, -EReal.coe_mul]; norm_num
theorem two : Ideal.ofBits FTy.f32 0x40000000#32 = ((2 : ℝ) : EReal) := by
  simp [Ideal.ofBits, Ideal.ieee, -EReal.coe_mul]; norm_num
theorem past : Ideal.ofBits FTy.f32 0x43000000#32 = ((128 : ℝ) : EReal) := by
  simp [Ideal.ofBits, Ideal.ieee, -EReal.coe_mul]; norm_num
theorem sixteen : Ideal.ofBits FTy.f32 0x41800000#32 = ((16 : ℝ) : EReal) := by
  simp [Ideal.ofBits, Ideal.ieee, -EReal.coe_mul]; norm_num
theorem four : Ideal.ofBits FTy.f32 0x40800000#32 = ((4 : ℝ) : EReal) := by
  simp [Ideal.ofBits, Ideal.ieee, -EReal.coe_mul]; norm_num
theorem half3 : Ideal.ofBits FTy.f32 0x3FC00000#32 = ((1.5 : ℝ) : EReal) := by
  simp [Ideal.ofBits, Ideal.ieee, -EReal.coe_mul]; norm_num

/-- A lane is within two of the window's centre exactly if it is one of the window's four. -/
theorem window_mask (l b : ℕ) : FloatOps.absf (F := Ideal) (φ := .f32) (((l : ℝ) : EReal) - (((b : ℝ) + 1.5 : ℝ) : EReal)) < ((2 : ℝ) : EReal)
    ↔ b ≤ l ∧ l < b + 4 := by
  rw [Ideal.absf_def, ← EReal.coe_sub]
  change max (((l : ℝ) - ((b : ℝ) + 1.5) : ℝ) : EReal) (-(((l : ℝ) - ((b : ℝ) + 1.5) : ℝ) : EReal)) < ((2 : ℝ) : EReal) ↔ _
  rw [← EReal.coe_neg, max_lt_iff, EReal.coe_lt_coe_iff, EReal.coe_lt_coe_iff]
  constructor
  · rintro ⟨h1, h2⟩
    constructor
    · by_contra h
      have : (l : ℝ) + 1 ≤ b := by exact_mod_cast Nat.lt_of_not_le h
      linarith
    · by_contra h
      have : (b : ℝ) + 4 ≤ l := by exact_mod_cast Nat.le_of_not_lt h
      linarith
  · rintro ⟨h1, h2⟩
    have a1 : (b : ℝ) ≤ l := by exact_mod_cast h1
    have a2 : (l : ℝ) + 1 ≤ (b : ℝ) + 4 := by exact_mod_cast h2
    constructor <;> linarith

end Cert.Routing

end

end
-- ==== Proof.Experts.lean ====
/-
  The expert layer, one token at a time: the formula both the kernel's blocks and the reference's arrays are read as.
-/
module

public import proofs.«01_k».proof.Proof.Rows
public import proofs.«01_k».proof.Proof.Routing

@[expose] public section

noncomputable section

open Idealize.ShloMosaic

namespace Cert.Routing

open Cert.Rows

/-- A router logit: one lane of an affine map of the token. -/
def logit (h : Fin 1024 → EReal) (w : Fin 1024 → Fin 128 → EReal) (b : Fin 128 → EReal) (l : Fin 128) : EReal := ∑ j, h j * w j l + b l

/-- The weight of expert `e`, of the router's lanes: the experts' logits come first, the groups' follow. -/
def routed (L : Fin 128 → EReal) (e : Fin 16) : EReal :=
  weight (fun k => L ⟨16 + k.val, by omega⟩) (fun k => L ⟨k.val, by omega⟩) e

/-- One expert's gated feed-forward row, weighted by `r`. -/
def expert (h : Fin 1024 → EReal) (w1 w3 : Fin 1024 → Fin 256 → EReal) (w2 : Fin 256 → Fin 1024 → EReal) (r : EReal) (l : Fin 1024) : EReal :=
  ∑ f, ((∑ j, h j * w1 j f) * Ideal.logistic (∑ j, h j * w1 j f) * ∑ j, h j * w3 j f) * r * w2 f l

/-- The layer's row: the token plus the gated sum of its weighted experts. -/
def layer (x g sh sc gate : Fin 1024 → EReal) (w : Fin 1024 → Fin 128 → EReal) (b : Fin 128 → EReal)
    (w1 w3 : Fin 16 → Fin 1024 → Fin 256 → EReal) (w2 : Fin 16 → Fin 256 → Fin 1024 → EReal) (l : Fin 1024) : EReal :=
  x l + gate l * ∑ e, expert (modulated x g sh sc) (w1 e) (w3 e) (w2 e) (routed (logit (modulated x g sh sc) w b) e) l

/-- A value that is a real number. -/
def IsReal (a : EReal) : Prop := ∃ r : ℝ, a = (r : EReal)

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.sum {ι : Type} (t : Finset ι) (f : ι → EReal) (h : ∀ k, IsReal (f k)) : IsReal (∑ k ∈ t, f k) := by
  choose r hr using h
  exact ⟨∑ k ∈ t, r k, by rw [coe_sum]; exact Finset.sum_congr rfl fun k _ => hr k⟩

theorem IsReal.sub_self {a : EReal} : IsReal a → a - a = 0 := by
  rintro ⟨r, rfl⟩; rw [← EReal.coe_sub, _root_.sub_self, EReal.coe_zero]

theorem IsReal.one : IsReal 1 := ⟨1, EReal.coe_one.symm⟩

/-- A value smaller in size than infinity is real. -/
theorem isReal_of_absf {a : EReal} (h : FloatOps.absf (F := Ideal) (φ := .f32) a < (⊤ : EReal)) : IsReal a := by
  rw [Ideal.absf_def] at h
  change max a (-a) < ⊤ at h
  rw [max_lt_iff] at h
  have h2 : a ≠ ⊥ := fun e => by rw [e, EReal.neg_bot] at h; exact lt_irrefl _ h.2
  exact ⟨a.toReal, (EReal.coe_toReal h.1.ne h2).symm⟩

theorem epsilon : Ideal.ofBits FTy.f32 0x358637BD#32 = ((8796093 / 2 ^ 43 : ℝ) : EReal) := by
  simp [Ideal.ofBits, Ideal.ieee, -EReal.coe_mul]; norm_num
theorem lanes1024 : Ideal.ofBits FTy.f32 0x44800000#32 = ((1024 : ℝ) : EReal) := by
  simp [Ideal.ofBits, Ideal.ieee, -EReal.coe_mul]; norm_num

theorem square_nonneg (a : EReal) : 0 ≤ a * a := by
  induction a with
  | bot => rw [EReal.bot_mul_bot]; exact le_top
  | coe r => rw [← EReal.coe_mul]; exact_mod_cast mul_self_nonneg r
  | top => rw [EReal.top_mul_top]; exact le_top

theorem square_top {a : EReal} (h : ¬IsReal a) : a * a = ⊤ := by
  induction a with
  | bot => exact EReal.bot_mul_bot
  | coe r => exact absurd ⟨r, rfl⟩ h
  | top => exact EReal.top_mul_top

/-- A lane over the row's root mean square is real, whatever the row holds: an infinite row has root mean square
infinite, and every lane over it is zero. -/
theorem scaled_real (x : Fin 1024 → EReal) (l : Fin 1024) : IsReal (x l * irms (Ideal.ofBits FTy.f32 0x44800000#32) x) := by
  by_cases hx : ∀ k, IsReal (x k)
  · refine (hx l).mul ?_
    choose r hr using hx
    unfold irms
    have hs : ∑ k, x k * x k = ((∑ k, r k * r k : ℝ) : EReal) := by
      rw [coe_sum]; exact Finset.sum_congr rfl fun k _ => by rw [hr k, EReal.coe_mul]
    have hp : 0 < (∑ k, r k * r k) / 1024 + 8796093 / 2 ^ 43 := by
      have : 0 ≤ ∑ k, r k * r k := Finset.sum_nonneg fun k _ => mul_self_nonneg _
      positivity
    rw [hs, lanes1024, epsilon, div_real _ _ (by norm_num), ← EReal.coe_add, Ideal.rsqrt_coe, if_neg (not_lt.2 hp.le), if_neg hp.ne']
    exact ⟨_, rfl⟩
  · obtain ⟨k, hk⟩ := not_forall.1 hx
    have hs : ∑ k, x k * x k = ⊤ := by
      rw [← Finset.add_sum_erase _ _ (Finset.mem_univ k), square_top hk]
      refine EReal.top_add_of_ne_bot fun h => ?_
      have : (0 : EReal) ≤ ∑ y ∈ Finset.univ.erase k, x y * x y := Finset.sum_nonneg fun y _ => square_nonneg _
      rw [h] at this
      exact absurd this (by simp)
    have hi : irms (Ideal.ofBits FTy.f32 0x44800000#32) x = 0 := by
      unfold irms
      rw [hs, lanes1024, epsilon, Ideal.div_coe (by norm_num), EReal.top_mul_coe_of_pos (by norm_num), EReal.top_add_coe]
      exact Ideal.rsqrt_top
    rw [hi, mul_zero]
    exact ⟨0, EReal.coe_zero.symm⟩

theorem modulated_real (x g sh sc : Fin 1024 → EReal) (hg : ∀ l, IsReal (g l)) (hsh : ∀ l, IsReal (sh l))
    (hsc : ∀ l, IsReal (sc l)) (l : Fin 1024) : IsReal (modulated x g sh sc l) :=
  (((scaled_real x l).mul (hg l)).mul (IsReal.one.add (hsc l))).add (hsh l)

theorem logit_real (h : Fin 1024 → EReal) (w : Fin 1024 → Fin 128 → EReal) (b : Fin 128 → EReal) (l : Fin 128) (hh : ∀ j, IsReal (h j))
    (hw : ∀ j, IsReal (w j l)) (hb : IsReal (b l)) : IsReal (logit h w b l) :=
  (IsReal.sum _ _ fun j => (hh j).mul (hw j)).add hb

end Cert.Routing

end
-- ==== Proof.MoeRouter.lean ====
/-
  The kernel's router, row by row: the windows of lanes it masks, and the weights it leaves on the experts' lanes.
-/
module

public import proofs.«01_k».proof.Proof.Rows
public import proofs.«01_k».proof.Proof.Routing
public import proofs.«01_k».proof.Proof.Gen.MoeIdeal.Frame
public import Idealize.ShloMosaic.Lib.Claim

@[expose] public section

set_option maxRecDepth 16384

noncomputable section

open Idealize.ShloMosaic Idealize.ShloMosaic.TcCoe Idealize.SL.Sem

namespace Cert.MoeIdeal.Tokens

open Cert.MoeIdeal Cert.MoeIdeal.Gen Cert.Rows Cert.Routing

/-- The lane numbers. -/
abbrev lanes : IVec S1024x128 32 := iota .tc S1024x128 32 [1] iota_S1024x128_d1_w32

theorem lane_at (i : Fin 1024) (l : Fin 128) : (k0_pay13 (F := Ideal) lanes (ix2 i l) : EReal) = ((l.val : ℝ) : EReal) := by
  pointwise [k0_pay13]
  have h : (BitVec.ofNat 32 l.val).toInt = (l.val : Int) := by
    rw [BitVec.toInt_eq_toNat_of_lt (by rw [BitVec.toNat_ofNat]; omega), BitVec.toNat_ofNat, Nat.mod_eq_of_lt (by omega)]
  show (((BitVec.ofNat 32 l.val).toInt : ℝ) : EReal) = ((l.val : ℝ) : EReal)
  rw [h]
  simp

section group

variable (h1 h2 h3 : FVec Ideal S1024x1024 .bf16) (w1 : FVec Ideal S1024x128 .bf16) (w2 : FVec Ideal S1024x128 .f32) (w3 : FVec Ideal S1024x128 .bf16)
  (w4 : FVec Ideal S1024x128 .f32) (b : Vec Ideal S1x128 .f32) (i : Fin 1024)

/-- The group logits of a row. -/
abbrev groupRow (k : Fin 4) : EReal := k0_pay12 h1 h2 h3 w1 w2 w3 w4 b (ix2 i ⟨16 + k.val, by omega⟩)

theorem group_window : Window 16 (groupRow h1 h2 h3 w1 w2 w3 w4 b i) fun l => (k0_pay14 lanes h1 h2 h3 w1 w2 w3 w4 b (ix2 i l) : EReal) := by
  have key : ∀ l : Fin 128, (k0_pay14 lanes h1 h2 h3 w1 w2 w3 w4 b (ix2 i l) : EReal)
      = if 16 ≤ l.val ∧ l.val < 20 then (k0_pay12 h1 h2 h3 w1 w2 w3 w4 b (ix2 i l) : EReal) else ⊥ := by
    intro l
    pointwise [k0_pay14]
    rw [lane_at, half35, two, bottom]
    refine if_congr ?_ rfl rfl
    have := window_mask l.val 16
    rw [show ((16 : ℕ) : ℝ) + 1.5 = 17.5 by norm_num] at this
    exact this
  refine ⟨fun l k hl => ?_, fun l hl => ?_⟩
  · refine (key l).trans ((if_pos ⟨by omega, by omega⟩).trans ?_)
    exact congrArg (fun l => k0_pay12 h1 h2 h3 w1 w2 w3 w4 b (ix2 i l)) (Fin.ext hl)
  · exact (key l).trans (if_neg fun h => hl ⟨l.val - 16, by omega⟩ (by show l.val = 16 + (l.val - 16); omega))

variable (hg : ∀ k, ∃ r : ℝ, groupRow h1 h2 h3 w1 w2 w3 w4 b i k = (r : EReal))
include hg

theorem group_first : IsFirst (fun l => (k0_pay14 lanes h1 h2 h3 w1 w2 w3 w4 b (ix2 i l) : EReal))
    ⟨16 + (first (groupRow h1 h2 h3 w1 w2 w3 w4 b i)).val, by omega⟩ := by
  refine (group_window h1 h2 h3 w1 w2 w3 w4 b i).first (first_spec _) ?_ _ rfl
  obtain ⟨r, hr⟩ := hg (first (groupRow h1 h2 h3 w1 w2 w3 w4 b i))
  rw [hr]; exact EReal.bot_lt_coe r

theorem group_max : (k0_pay15 lanes h1 h2 h3 w1 w2 w3 w4 b (ix2 i 0) : EReal)
    = groupRow h1 h2 h3 w1 w2 w3 w4 b i (first (groupRow h1 h2 h3 w1 w2 w3 w4 b i)) := by
  pointwise [k0_pay15]
  rw [bottom, fold_max_first (group_first h1 h2 h3 w1 w2 w3 w4 b i hg)]
  exact (group_window h1 h2 h3 w1 w2 w3 w4 b i).1 _ _ rfl

theorem lane_le (l : Fin 128) : ((l.val : ℝ) : EReal) ≤ ((128 : ℝ) : EReal) := by
  have : (l.val : ℝ) ≤ 128 := by exact_mod_cast l.isLt.le
  exact_mod_cast this

theorem group_index : (k0_pay16 lanes h1 h2 h3 w1 w2 w3 w4 b (ix2 i 0) : EReal)
    = (((first (groupRow h1 h2 h3 w1 w2 w3 w4 b i)).val : ℝ) : EReal) := by
  have hf := group_first h1 h2 h3 w1 w2 w3 w4 b i hg
  have hm := group_max h1 h2 h3 w1 w2 w3 w4 b i hg
  rw [← (group_window h1 h2 h3 w1 w2 w3 w4 b i).1 ⟨16 + (first (groupRow h1 h2 h3 w1 w2 w3 w4 b i)).val, by omega⟩ _ rfl] at hm
  pointwise [k0_pay16]
  simp only [lane_at]
  rw [hm, top, past, sixteen, fold_min_first hf _ fun k => by
    have : (k.val : ℝ) ≤ 128 := by exact_mod_cast k.isLt.le
    exact_mod_cast this]
  rw [← EReal.coe_sub, EReal.coe_eq_coe_iff]
  push_cast
  ring

theorem group_weight : (k0_pay17 lanes h1 h2 h3 w1 w2 w3 w4 b (ix2 i 0) : EReal) = groupWeight (groupRow h1 h2 h3 w1 w2 w3 w4 b i) := by
  pointwise [k0_pay17]
  rw [group_max h1 h2 h3 w1 w2 w3 w4 b i hg]
  have hw := group_window h1 h2 h3 w1 w2 w3 w4 b i
  unfold groupWeight
  refine congrArg (Ideal.div 1) (sum_window 16 (by decide) _ _ (fun l k hl => ?_) fun l hl => ?_)
  · rw [show (k0_pay14 lanes h1 h2 h3 w1 w2 w3 w4 b (ix2 i l) : EReal) = _ from hw.1 l k hl]
  · rw [show (k0_pay14 lanes h1 h2 h3 w1 w2 w3 w4 b (ix2 i l) : EReal) = _ from hw.2 l hl]
    obtain ⟨r, hr⟩ := hg (first (groupRow h1 h2 h3 w1 w2 w3 w4 b i))
    rw [hr, EReal.bot_sub, Ideal.exp_bot]

end group

section experts

variable (L V : FVec Ideal S1024x128 .f32) (G W Q : FVec Ideal S1024x1 .f32) (i : Fin 1024) (g : Fin 4)

/-- The chosen group's expert logits of a row. -/
abbrev memberRow (k : Fin 4) : EReal := L (ix2 i ⟨4 * g.val + k.val, by omega⟩)

variable (hV : ∀ l : Fin 128, (V (ix2 i l) : EReal) = ((l.val : ℝ) : EReal)) (hG : (G (ix2 i 0) : EReal) = ((g.val : ℝ) : EReal))
  (hW : (W (ix2 i 0) : EReal) = ((4 : ℝ) : EReal)) (hs : ∀ k, ∃ r : ℝ, memberRow L i g k = (r : EReal))

include hV hG hW in
theorem member_window : Window (4 * g.val) (memberRow L i g) fun l => (k0_pay19 L V G W (ix2 i l) : EReal) := by
  have key : ∀ l : Fin 128, (k0_pay19 L V G W (ix2 i l) : EReal)
      = if 4 * g.val ≤ l.val ∧ l.val < 4 * g.val + 4 then (L (ix2 i l) : EReal) else ⊥ := by
    intro l
    pointwise [k0_pay19]
    rw [hV, hG, hW, two, bottom, half3, ← EReal.coe_mul, ← EReal.coe_add]
    refine if_congr ?_ rfl rfl
    have := window_mask l.val (4 * g.val)
    rw [show ((4 * g.val : ℕ) : ℝ) + 1.5 = (g.val : ℝ) * 4 + 1.5 by push_cast; ring] at this
    exact this
  refine ⟨fun l k hl => ?_, fun l hl => ?_⟩
  · refine (key l).trans ((if_pos ⟨by omega, by omega⟩).trans ?_)
    exact congrArg (fun l => L (ix2 i l)) (Fin.ext hl)
  · exact (key l).trans (if_neg fun h => hl ⟨l.val - 4 * g.val, by omega⟩ (by show l.val = 4 * g.val + (l.val - 4 * g.val); omega))

include hs in
theorem member_bot (k : Fin 4) : ⊥ < memberRow L i g k := by
  obtain ⟨r, hr⟩ := hs k
  rw [hr]; exact EReal.bot_lt_coe r

include hV hG hW hs

theorem best_first : IsFirst (fun l => (k0_pay19 L V G W (ix2 i l) : EReal)) ⟨4 * g.val + (best (memberRow L i g)).val, by omega⟩ :=
  (member_window L V G W i g hV hG hW).first (first_spec _) (member_bot L i g hs _) _ rfl

theorem best_max : (k0_pay20 L V G W (ix2 i 0) : EReal) = memberRow L i g (best (memberRow L i g)) := by
  pointwise [k0_pay20]
  rw [bottom, fold_max_first (best_first L V G W i g hV hG hW hs)]
  exact (member_window L V G W i g hV hG hW).1 _ _ rfl

theorem lane_bound (k : Fin 128) : ((k.val : ℝ) : EReal) ≤ ((128 : ℝ) : EReal) := by
  have : (k.val : ℝ) ≤ 128 := by exact_mod_cast k.isLt.le
  exact_mod_cast this

theorem best_lane : (k0_pay21 L V G W (ix2 i 0) : EReal) = (((4 * g.val + (best (memberRow L i g)).val : ℕ) : ℝ) : EReal) := by
  have hm := best_max L V G W i g hV hG hW hs
  rw [← (member_window L V G W i g hV hG hW).1 ⟨4 * g.val + (best (memberRow L i g)).val, by omega⟩ _ rfl] at hm
  pointwise [k0_pay21]
  simp only [hV]
  rw [hm, top, past, fold_min_first (best_first L V G W i g hV hG hW hs) _ fun k => by
    have : (k.val : ℝ) ≤ 128 := by exact_mod_cast k.isLt.le
    exact_mod_cast this]

theorem rest_window : Window (4 * g.val) (without (memberRow L i g) (best (memberRow L i g))) fun l => (k0_pay22 L V G W (ix2 i l) : EReal) := by
  have hw := member_window L V G W i g hV hG hW
  have key : ∀ l : Fin 128, (k0_pay22 L V G W (ix2 i l) : EReal)
      = if l.val = 4 * g.val + (best (memberRow L i g)).val then ⊥ else (k0_pay19 L V G W (ix2 i l) : EReal) := by
    intro l
    pointwise [k0_pay22]
    rw [hV, best_lane L V G W i g hV hG hW hs, bottom]
    refine if_congr ?_ rfl rfl
    rw [EReal.coe_eq_coe_iff, Nat.cast_inj]
  refine ⟨fun l k hl => ?_, fun l hl => ?_⟩
  · refine (key l).trans ?_
    rw [show (k0_pay19 L V G W (ix2 i l) : EReal) = _ from hw.1 l k hl]
    unfold without
    refine if_congr ?_ rfl rfl
    rw [hl, Nat.add_left_cancel_iff, Fin.ext_iff]
  · refine (key l).trans ?_
    rw [show (k0_pay19 L V G W (ix2 i l) : EReal) = _ from hw.2 l hl, ite_self]

theorem second_first : IsFirst (fun l => (k0_pay22 L V G W (ix2 i l) : EReal)) ⟨4 * g.val + (second (memberRow L i g)).val, by omega⟩ := by
  refine (rest_window L V G W i g hV hG hW hs).first (first_spec _) ?_ _ rfl
  have hne := second_ne_best (memberRow L i g) (member_bot L i g hs)
  show ⊥ < without _ _ (second (memberRow L i g))
  unfold without
  rw [if_neg hne]
  exact member_bot L i g hs _

theorem second_max : (k0_pay23 L V G W (ix2 i 0) : EReal) = memberRow L i g (second (memberRow L i g)) := by
  pointwise [k0_pay23]
  rw [bottom, fold_max_first (second_first L V G W i g hV hG hW hs)]
  refine ((rest_window L V G W i g hV hG hW hs).1 _ (second (memberRow L i g)) rfl).trans ?_
  unfold without
  exact if_neg (second_ne_best (memberRow L i g) (member_bot L i g hs))

theorem odds_at : (k0_pay24 L V G W (ix2 i 0) : EReal) = odds (memberRow L i g) := by
  pointwise [k0_pay24]
  rw [second_max L V G W i g hV hG hW hs, best_max L V G W i g hV hG hW hs]
  rfl

theorem best_mask (l : Fin 128) : k0_pay25 L V G W (ix2 i l) = BitVec.ofBool (decide (l.val = 4 * g.val + (best (memberRow L i g)).val)) := by
  pointwise [k0_pay25]
  rw [hV, best_lane L V G W i g hV hG hW hs]
  simp only [EReal.coe_eq_coe_iff, Nat.cast_inj]

theorem second_mask (l : Fin 128) : k0_pay27 L V G W (ix2 i l) = BitVec.ofBool (decide (l.val = 4 * g.val + (second (memberRow L i g)).val)) := by
  have hm := second_max L V G W i g hV hG hW hs
  have hf := second_first L V G W i g hV hG hW hs
  have he : (k0_pay22 L V G W (ix2 i ⟨4 * g.val + (second (memberRow L i g)).val, by omega⟩) : EReal) = memberRow L i g (second (memberRow L i g)) := by
    refine ((rest_window L V G W i g hV hG hW hs).1 _ (second (memberRow L i g)) rfl).trans ?_
    unfold without
    exact if_neg (second_ne_best (memberRow L i g) (member_bot L i g hs))
  rw [← he] at hm
  pointwise [k0_pay27]
  simp only [hV]
  rw [hm, top, past, fold_min_first hf _ fun k => by
    have : (k.val : ℝ) ≤ 128 := by exact_mod_cast k.isLt.le
    exact_mod_cast this]
  simp only [EReal.coe_eq_coe_iff, Nat.cast_inj]

/-- The weights on the lanes of the chosen group, zero elsewhere. -/
theorem weight_lane (l : Fin 128) :
    (k0_pay29 (k0_pay25 L V G W) (k0_pay26 L V G Q W) (k0_pay27 L V G W) (FloatOps.ofBits FTy.f32 0#32) (k0_pay28 L V G Q W) (ix2 i l) : EReal)
      = if l.val = 4 * g.val + (best (memberRow L i g)).val then Q (ix2 i 0) * Ideal.div 1 (1 + odds (memberRow L i g))
        else if l.val = 4 * g.val + (second (memberRow L i g)).val then Q (ix2 i 0) * Ideal.div (odds (memberRow L i g)) (1 + odds (memberRow L i g))
        else 0 := by
  have e26 : (k0_pay26 L V G Q W (ix2 i 0) : EReal) = Q (ix2 i 0) * Ideal.div 1 (1 + odds (memberRow L i g)) := by
    pointwise [k0_pay26]
    rw [odds_at L V G W i g hV hG hW hs]
  have e28 : (k0_pay28 L V G Q W (ix2 i 0) : EReal) = Q (ix2 i 0) * Ideal.div (odds (memberRow L i g)) (1 + odds (memberRow L i g)) := by
    pointwise [k0_pay28]
    rw [odds_at L V G W i g hV hG hW hs]
  pointwise [k0_pay29]
  rw [best_mask L V G W i g hV hG hW hs, second_mask L V G W i g hV hG hW hs, e26, e28]
  simp only [select_ofBool]

end experts

end Cert.MoeIdeal.Tokens

end
-- ==== Proof.MoeKernel.lean ====
/-
  The expert kernel's output array: every row is the layer's formula.
-/
module

public import proofs.«01_k».proof.Proof.Experts
public import proofs.«01_k».proof.Proof.MoeRouter
public import proofs.«01_k».proof.Proof.Gen.MoeIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MoeIdeal.Tokens

open Cert.MoeIdeal Cert.MoeIdeal.Gen Cert.Rows Cert.Routing

section block

variable (x : Vec Ideal S1024x1024 .f32) (g : Vec Ideal S1x1024 .f32) (sh sc : Vec Ideal S1x1x1024 .f32) (w : Vec Ideal S1024x128 .f32)
  (b : Vec Ideal S1x128 .f32) (i : Fin 1024)

/-- A block's row, normalised and modulated. -/
abbrev row : Fin 1024 → EReal :=
  modulated (fun l => x (ix2 i l)) (fun l => g (ix2 0 l)) (fun l => sh (ix3 0 0 l)) (fun l => sc (ix3 0 0 l))

theorem row_at (l : Fin 1024) : (k0_pay3 x g sh sc (ix2 i l) : EReal) = row x g sh sc i l := by
  pointwise [k0_pay3, k0_pay2]
  rfl

theorem row_high (l : Fin 1024) : (k0_pay4 x g sh sc (ix2 i l) : EReal) = row x g sh sc i l := by
  pointwise [k0_pay4, k0_pay2]
  rfl

theorem row_rest (l : Fin 1024) : (k0_pay5 x g sh sc (ix2 i l) : EReal) = row x g sh sc i l - row x g sh sc i l := by
  pointwise [k0_pay5]
  rw [row_high]
  pointwise [k0_pay2]
  rfl

/-- The router logits of a block's row: the three-part splits add up to the factors themselves. -/
theorem logit_at (hh : ∀ j, IsReal (row x g sh sc i j)) (l : Fin 128) (hw : ∀ j, IsReal (w (ix2 j l))) :
    (k0_pay12 (k0_pay4 x g sh sc) (k0_pay6 x g sh sc) (k0_pay7 x g sh sc) (k0_pay8 w) (k0_pay9 w) (k0_pay10 w) (k0_pay11 w) b (ix2 i l) : EReal)
      = logit (row x g sh sc i) (fun j l => w (ix2 j l)) (fun l => b (ix2 0 l)) l := by
  have e5 : ∀ j, (k0_pay5 x g sh sc (ix2 i j) : EReal) = 0 := fun j => (row_rest x g sh sc i j).trans (hh j).sub_self
  have e6 : ∀ j, (k0_pay6 x g sh sc (ix2 i j) : EReal) = 0 := fun j => by
    pointwise [k0_pay6]
    exact e5 j
  have e7 : ∀ j, (k0_pay7 x g sh sc (ix2 i j) : EReal) = 0 := fun j => by
    pointwise [k0_pay7]
    rw [e5, e6, sub_zero]
  have e8 : ∀ j, (k0_pay8 w (ix2 j l) : EReal) = w (ix2 j l) := fun j => by pointwise [k0_pay8]
  have e9 : ∀ j, (k0_pay9 w (ix2 j l) : EReal) = 0 := fun j => by
    pointwise [k0_pay9]
    rw [e8]
    exact (hw j).sub_self
  have e10 : ∀ j, (k0_pay10 w (ix2 j l) : EReal) = 0 := fun j => by
    pointwise [k0_pay10]
    exact e9 j
  have e11 : ∀ j, (k0_pay11 w (ix2 j l) : EReal) = 0 := fun j => by
    pointwise [k0_pay11]
    exact e10 j
  pointwise [k0_pay12]
  simp only [row_high, e6, e7, e8, e9, e10, e11, mul_zero, zero_mul, Finset.sum_const_zero, add_zero, sub_zero]
  rfl

variable (hh : ∀ j, IsReal (row x g sh sc i j)) (hw : ∀ j (l : Fin 128), l.val < 20 → IsReal (w (ix2 j l)))
  (hL : ∀ l : Fin 128, l.val < 20 → IsReal (logit (row x g sh sc i) (fun j l => w (ix2 j l)) (fun l => b (ix2 0 l)) l))

include hh hw hL in
/-- The weights the router leaves on the experts' lanes. -/
theorem weights_at (e : Fin 16) :
    (k0_pay29 (k0_pay25 (k0_pay12 (k0_pay4 x g sh sc) (k0_pay6 x g sh sc) (k0_pay7 x g sh sc) (k0_pay8 w) (k0_pay9 w) (k0_pay10 w) (k0_pay11 w) b) (k0_pay13 lanes)
        (k0_pay16 lanes (k0_pay4 x g sh sc) (k0_pay6 x g sh sc) (k0_pay7 x g sh sc) (k0_pay8 w) (k0_pay9 w) (k0_pay10 w) (k0_pay11 w) b) k0_pay18)
      (k0_pay26 (k0_pay12 (k0_pay4 x g sh sc) (k0_pay6 x g sh sc) (k0_pay7 x g sh sc) (k0_pay8 w) (k0_pay9 w) (k0_pay10 w) (k0_pay11 w) b) (k0_pay13 lanes)
        (k0_pay16 lanes (k0_pay4 x g sh sc) (k0_pay6 x g sh sc) (k0_pay7 x g sh sc) (k0_pay8 w) (k0_pay9 w) (k0_pay10 w) (k0_pay11 w) b)
        (k0_pay17 lanes (k0_pay4 x g sh sc) (k0_pay6 x g sh sc) (k0_pay7 x g sh sc) (k0_pay8 w) (k0_pay9 w) (k0_pay10 w) (k0_pay11 w) b) k0_pay18)
      (k0_pay27 (k0_pay12 (k0_pay4 x g sh sc) (k0_pay6 x g sh sc) (k0_pay7 x g sh sc) (k0_pay8 w) (k0_pay9 w) (k0_pay10 w) (k0_pay11 w) b) (k0_pay13 lanes)
        (k0_pay16 lanes (k0_pay4 x g sh sc) (k0_pay6 x g sh sc) (k0_pay7 x g sh sc) (k0_pay8 w) (k0_pay9 w) (k0_pay10 w) (k0_pay11 w) b) k0_pay18)
      (FloatOps.ofBits FTy.f32 0#32)
      (k0_pay28 (k0_pay12 (k0_pay4 x g sh sc) (k0_pay6 x g sh sc) (k0_pay7 x g sh sc) (k0_pay8 w) (k0_pay9 w) (k0_pay10 w) (k0_pay11 w) b) (k0_pay13 lanes)
        (k0_pay16 lanes (k0_pay4 x g sh sc) (k0_pay6 x g sh sc) (k0_pay7 x g sh sc) (k0_pay8 w) (k0_pay9 w) (k0_pay10 w) (k0_pay11 w) b)
        (k0_pay17 lanes (k0_pay4 x g sh sc) (k0_pay6 x g sh sc) (k0_pay7 x g sh sc) (k0_pay8 w) (k0_pay9 w) (k0_pay10 w) (k0_pay11 w) b) k0_pay18)
      (ix2 i ⟨e.val, by omega⟩) : EReal)
      = routed (logit (row x g sh sc i) (fun j l => w (ix2 j l)) (fun l => b (ix2 0 l))) e := by
  have hlane : ∀ l : Fin 128, l.val < 20 → (k0_pay12 (k0_pay4 x g sh sc) (k0_pay6 x g sh sc) (k0_pay7 x g sh sc) (k0_pay8 w) (k0_pay9 w) (k0_pay10 w) (k0_pay11 w) b (ix2 i l) : EReal)
      = logit (row x g sh sc i) (fun j l => w (ix2 j l)) (fun l => b (ix2 0 l)) l := fun l hl => logit_at x g sh sc w b i hh l fun j => hw j l hl
  have hrow : groupRow (k0_pay4 x g sh sc) (k0_pay6 x g sh sc) (k0_pay7 x g sh sc) (k0_pay8 w) (k0_pay9 w) (k0_pay10 w) (k0_pay11 w) b i
      = fun k : Fin 4 => logit (row x g sh sc i) (fun j l => w (ix2 j l)) (fun l => b (ix2 0 l)) ⟨16 + k.val, by omega⟩ :=
    funext fun k => hlane _ (by show 16 + k.val < 20; omega)
  have hg : ∀ k, ∃ r : ℝ, groupRow (k0_pay4 x g sh sc) (k0_pay6 x g sh sc) (k0_pay7 x g sh sc) (k0_pay8 w) (k0_pay9 w) (k0_pay10 w) (k0_pay11 w) b i k = (r : EReal) := by
    rw [hrow]
    exact fun k => hL _ (by show 16 + k.val < 20; omega)
  have hG := group_index (k0_pay4 x g sh sc) (k0_pay6 x g sh sc) (k0_pay7 x g sh sc) (k0_pay8 w) (k0_pay9 w) (k0_pay10 w) (k0_pay11 w) b i hg
  have hQ := group_weight (k0_pay4 x g sh sc) (k0_pay6 x g sh sc) (k0_pay7 x g sh sc) (k0_pay8 w) (k0_pay9 w) (k0_pay10 w) (k0_pay11 w) b i hg
  rw [hrow] at hG hQ
  have h18 : (k0_pay18 (F := Ideal) (ix2 i 0) : EReal) = ((4 : ℝ) : EReal) := by
    pointwise [k0_pay18]
    exact four
  generalize hgg : first (fun k : Fin 4 => logit (row x g sh sc i) (fun j l => (w (ix2 j l) : EReal)) (fun l => (b (ix2 0 l) : EReal)) ⟨16 + k.val, by omega⟩) = G at hG
  have hmem : memberRow (k0_pay12 (k0_pay4 x g sh sc) (k0_pay6 x g sh sc) (k0_pay7 x g sh sc) (k0_pay8 w) (k0_pay9 w) (k0_pay10 w) (k0_pay11 w) b) i G
      = members (fun k : Fin 16 => logit (row x g sh sc i) (fun j l => w (ix2 j l)) (fun l => b (ix2 0 l)) ⟨k.val, by omega⟩) G :=
    funext fun k => hlane _ (by show 4 * G.val + k.val < 20; omega)
  have hs : ∀ k, ∃ r : ℝ, memberRow (k0_pay12 (k0_pay4 x g sh sc) (k0_pay6 x g sh sc) (k0_pay7 x g sh sc) (k0_pay8 w) (k0_pay9 w) (k0_pay10 w) (k0_pay11 w) b) i G k = (r : EReal) := by
    rw [hmem]
    exact fun k => hL _ (by show 4 * G.val + k.val < 20; omega)
  refine (weight_lane _ (k0_pay13 lanes) _ k0_pay18 _ i G (lane_at i) hG h18 hs ⟨e.val, by omega⟩).trans ?_
  rw [hmem, hQ]
  unfold routed weight
  rw [hgg]

end block

theorem expert_mask : ∀ (l : Fin 128) (e : Fin 16), IntOp.cmpi CmpIPredicate.eq (BitVec.ofNat 32 l.val) (BitVec.ofNat 32 e.val)
    = BitVec.ofBool (decide (l.val = e.val)) := by decide +kernel

/-- What an expert's grid point adds to the accumulator. -/
theorem add_expert (I : grid0.Coords) (h : Vec Ideal S1024x1024 .bf16) (w1 w3 : Vec Ideal S1x1024x256 .bf16) (c : Vec Ideal S1024x128 .f32)
    (acc : Vec Ideal S1024x1024 .f32) (w2 : Vec Ideal S1x256x1024 .bf16) (e : Fin 16) (he : (I 1).val = e.val) (i l : Fin 1024) :
    (k0_pay31 I h w1 w3 c acc w2 (ix2 i l) : EReal) = acc (ix2 i l) + expert (fun j => h (ix2 i j)) (fun j f => w1 (ix3 0 j f)) (fun j f => w3 (ix3 0 j f))
      (fun f l => w2 (ix3 0 f l)) (c (ix2 i ⟨e.val, by omega⟩)) l := by
  pointwise [k0_pay31]
  rw [he]
  simp only [expert_mask, select_ofBool]
  have hsum : (∑ y : Fin 128, if y.val = e.val then (c (ix2 i y) : EReal) else 0) = c (ix2 i ⟨e.val, by omega⟩) := by
    rw [Finset.sum_eq_single (⟨e.val, by omega⟩ : Fin 128) (fun y _ hy => if_neg fun h => hy (Fin.ext h)) (fun h => absurd (Finset.mem_univ _) h)]
    exact if_pos rfl
  rw [hsum]
  rfl

theorem acc_zero (i l : Fin 1024) : (k0_pay30 (F := Ideal) (ix2 i l) : EReal) = 0 := by
  pointwise [k0_pay30]

theorem gated_sum (x : Vec Ideal S1024x1024 .f32) (gate : Vec Ideal S1x1x1024 .f32) (acc : Vec Ideal S1024x1024 .f32) (i l : Fin 1024) :
    (k0_pay1 x gate acc (ix2 i l) : EReal) = x (ix2 i l) + gate (ix3 0 0 l) * acc (ix2 i l) := by
  pointwise [k0_pay1]

variable (m : (ℓ : Loc nD τ sig) → Buf (Elt Ideal) ℓ) (c : Dev nD)

/-- Which block each window holds at a grid point. -/
theorem idx : ∀ t : Fin cfg0.N, win0_0.index t = ![t.val / 16, 0] ∧ win0_1.index t = ![0, 0] ∧ win0_2.index t = ![t.val / 128, 0, 0]
    ∧ win0_3.index t = ![t.val / 128, 0, 0] ∧ win0_4.index t = ![t.val / 128, 0, 0] ∧ win0_5.index t = ![0, 0] ∧ win0_6.index t = ![0, 0]
    ∧ win0_7.index t = ![t.val % 16, 0, 0] ∧ win0_8.index t = ![t.val % 16, 0, 0] ∧ win0_9.index t = ![t.val % 16, 0, 0]
    ∧ win0_10.index t = ![t.val / 16, 0] ∧ t.val < 256 :=
  (by decide +kernel : ∀ t : Fin grid0.N, _)

theorem coord : ∀ t : Fin cfg0.N, (grid0.coords t 1).val = t.val % 16 := (by decide +kernel : ∀ t : Fin grid0.N, _)

theorem lt_256 (t : Fin cfg0.N) : t.val < 256 := (idx t).2.2.2.2.2.2.2.2.2.2.2

/-- The array's row that a block's row is. -/
abbrev rowOf (t : Fin cfg0.N) (a : Fin 1024) : Fin 16384 := ⟨t.val / 16 * 1024 + a.val, by have := lt_256 t; omega⟩

/-- The batch row of an array's row. -/
abbrev batch (r : Fin 16384) : Fin 2 := ⟨r.val / 8192, by omega⟩

/-- The expert of a grid point. -/
abbrev expertOf (t : Fin cfg0.N) : Fin 16 := ⟨t.val % 16, by omega⟩

section blocks

variable (t : Fin cfg0.N) (a : Fin 1024)

theorem b0 (l : Fin 1024) : iblk m c 0 t (ix2 a l) = V m c main_arg0 (ix2 (rowOf t a) l) := by blk_ext [iblk, V, idx t]
theorem b1 (l : Fin 1024) : iblk m c 1 t (ix2 0 l) = V m c main_arg1 (ix2 0 l) := by blk_ext [iblk, V, idx t]
theorem b2 (l : Fin 1024) : iblk m c 2 t (ix3 0 0 l) = V m c main_arg2 (ix3 (batch (rowOf t a)) 0 l) := by blk_ext [iblk, V, idx t]
theorem b3 (l : Fin 1024) : iblk m c 3 t (ix3 0 0 l) = V m c main_arg3 (ix3 (batch (rowOf t a)) 0 l) := by blk_ext [iblk, V, idx t]
theorem b4 (l : Fin 1024) : iblk m c 4 t (ix3 0 0 l) = V m c main_arg4 (ix3 (batch (rowOf t a)) 0 l) := by blk_ext [iblk, V, idx t]
theorem b5 (j : Fin 1024) (l : Fin 128) : iblk m c 5 t (ix2 j l) = V m c main_arg5 (ix2 j l) := by blk_ext [iblk, V, idx t]
theorem b6 (l : Fin 128) : iblk m c 6 t (ix2 0 l) = V m c main_arg6 (ix2 0 l) := by blk_ext [iblk, V, idx t]
theorem b7 (j : Fin 1024) (f : Fin 256) : iblk m c 7 t (ix3 0 j f) = V m c main_arg7 (ix3 (expertOf t) j f) := by blk_ext [iblk, V, idx t]
theorem b8 (j : Fin 1024) (f : Fin 256) : iblk m c 8 t (ix3 0 j f) = V m c main_arg8 (ix3 (expertOf t) j f) := by blk_ext [iblk, V, idx t]
theorem b9 (f : Fin 256) (l : Fin 1024) : iblk m c 9 t (ix3 0 f l) = V m c main_arg9 (ix3 (expertOf t) f l) := by blk_ext [iblk, V, idx t]

end blocks

/-- The array index under a block's. -/
theorem emb_eq (t : Fin cfg0.N) (a b : Fin 1024) :
    ((View.whole main_v0).slice (win0_10.rect t)).emb (ix2 a b) = ix2 (rowOf t a) b := by
  blk_ext [idx t]

/-- Row `r` of the arguments, normalised and modulated. -/
abbrev rowAt (r : Fin 16384) : Fin 1024 → EReal :=
  modulated (fun l => V m c main_arg0 (ix2 r l)) (fun l => V m c main_arg1 (ix2 0 l))
    (fun l => V m c main_arg2 (ix3 (batch r) 0 l)) (fun l => V m c main_arg3 (ix3 (batch r) 0 l))

/-- The router's logits of row `r`. -/
abbrev logitAt (r : Fin 16384) : Fin 128 → EReal :=
  logit (rowAt m c r) (fun j l => V m c main_arg5 (ix2 j l)) (fun l => V m c main_arg6 (ix2 0 l))

/-- Expert `e`'s weighted row. -/
abbrev expertAt (r : Fin 16384) (e : Fin 16) (l : Fin 1024) : EReal :=
  expert (rowAt m c r) (fun j f => V m c main_arg7 (ix3 e j f)) (fun j f => V m c main_arg8 (ix3 e j f))
    (fun f l => V m c main_arg9 (ix3 e f l)) (routed (logitAt m c r) e) l

/-- What the output array holds. -/
def REF : (⟨2, ![16384, 1024]⟩ : Shape).Idx → EReal := fun z =>
  layer (fun l => V m c main_arg0 (ix2 (z 0) l)) (fun l => V m c main_arg1 (ix2 0 l))
    (fun l => V m c main_arg2 (ix3 (batch (z 0)) 0 l)) (fun l => V m c main_arg3 (ix3 (batch (z 0)) 0 l)) (fun l => V m c main_arg4 (ix3 (batch (z 0)) 0 l))
    (fun j l => V m c main_arg5 (ix2 j l)) (fun l => V m c main_arg6 (ix2 0 l)) (fun e j f => V m c main_arg7 (ix3 e j f))
    (fun e j f => V m c main_arg8 (ix3 e j f)) (fun e f l => V m c main_arg9 (ix3 e f l)) (z 1)

/-- The carried state at a grid point: the block's rows, its router's weights, and the sum of the experts so far. -/
def Carried (t : Fin cfg0.N) (h : Vec Ideal S1024x1024 .bf16) (w : Vec Ideal S1024x128 .f32) (acc : Vec Ideal S1024x1024 .f32) : Prop :=
  (∀ i j, (h (ix2 i j) : EReal) = rowAt m c (rowOf t i) j) ∧
    (∀ i (e : Fin 16), (w (ix2 i ⟨e.val, by omega⟩) : EReal) = routed (logitAt m c (rowOf t i)) e) ∧
    ∀ i l, (acc (ix2 i l) : EReal)
      = ∑ e ∈ Finset.range (t.val % 16 + 1), if h : e < 16 then expertAt m c (rowOf t i) ⟨e, h⟩ l else 0

/-- The accumulator after one more expert. -/
theorem acc_step (t : Fin cfg0.N) (h : Vec Ideal S1024x1024 .bf16) (w : Vec Ideal S1024x128 .f32) (acc : Vec Ideal S1024x1024 .f32)
    (hh : ∀ i j, (h (ix2 i j) : EReal) = rowAt m c (rowOf t i) j)
    (hw : ∀ i (e : Fin 16), (w (ix2 i ⟨e.val, by omega⟩) : EReal) = routed (logitAt m c (rowOf t i)) e) (i l : Fin 1024)
    (ha : (acc (ix2 i l) : EReal) = ∑ e ∈ Finset.range (t.val % 16), if h : e < 16 then expertAt m c (rowOf t i) ⟨e, h⟩ l else 0) :
    (k0_pay31 (grid0.coords t) h (iblk m c 7 t) (iblk m c 8 t) w acc (iblk m c 9 t) (ix2 i l) : EReal)
      = ∑ e ∈ Finset.range (t.val % 16 + 1), if h : e < 16 then expertAt m c (rowOf t i) ⟨e, h⟩ l else 0 := by
  refine (add_expert (grid0.coords t) h (iblk m c 7 t) (iblk m c 8 t) w acc (iblk m c 9 t) (expertOf t) (coord t) i l).trans ?_
  rw [Finset.sum_range_succ, ha, dif_pos (show t.val % 16 < 16 by omega)]
  simp only [hh, b7, b8, b9]
  rw [show (w (ix2 i ⟨t.val % 16, by omega⟩) : EReal) = _ from hw i (expertOf t)]

variable (hh : ∀ r j, IsReal (rowAt m c r j)) (hw : ∀ j (l : Fin 128), l.val < 20 → IsReal (V m c main_arg5 (ix2 j l)))
  (hL : ∀ r (l : Fin 128), l.val < 20 → IsReal (logitAt m c r l))

theorem row_block (t : Fin cfg0.N) (i : Fin 1024) : row (iblk m c 0 t) (iblk m c 1 t) (iblk m c 2 t) (iblk m c 3 t) i = rowAt m c (rowOf t i) := by
  simp only [row, b0 m c t i, b1, b2 m c t i, b3 m c t i]

theorem logit_block (t : Fin cfg0.N) (i : Fin 1024) :
    logit (row (iblk m c 0 t) (iblk m c 1 t) (iblk m c 2 t) (iblk m c 3 t) i) (fun j l => iblk m c 5 t (ix2 j l)) (fun l => iblk m c 6 t (ix2 0 l))
      = logitAt m c (rowOf t i) := by
  rw [row_block]
  simp only [b5, b6]

include hh hw hL in
/-- At a row block's first grid point. -/
theorem carried_first (t : Fin cfg0.N) (h0 : t.val % 16 = 0) :
    Carried m c t (outsAt0 m c t.val t.isLt).2.1 (outsAt0 m c t.val t.isLt).2.2.1 (outsAt0 m c t.val t.isLt).2.2.2 := by
  have h1 : ¬t.val % 16 = 15 := by omega
  have hr : ∀ i j, (k0_pay3 (iblk m c 0 t) (iblk m c 1 t) (iblk m c 2 t) (iblk m c 3 t) (ix2 i j) : EReal) = rowAt m c (rowOf t i) j := fun i j =>
    (row_at _ _ _ _ i j).trans (congrFun (row_block m c t i) j)
  have hq := fun i => weights_at (iblk m c 0 t) (iblk m c 1 t) (iblk m c 2 t) (iblk m c 3 t) (iblk m c 5 t) (iblk m c 6 t) i
    (by rw [row_block]; exact hh _) (fun j l hl => by rw [b5]; exact hw j l hl) (by rw [logit_block]; exact hL _)
  simp only [logit_block] at hq
  refine ⟨fun i j => ?_, fun i e => ?_, fun i l => ?_⟩
  · refine Eq.trans ?_ (hr i j)
    rw [outsAt0_A m c t h0 h1]
    frame_out
  · refine Eq.trans ?_ (hq i e)
    rw [outsAt0_A m c t h0 h1]
    frame_out
  · refine Eq.trans ?_ (acc_step m c t _ _ _ hr hq i l ((acc_zero i l).trans (by rw [h0, Finset.sum_range_zero])))
    rw [outsAt0_A m c t h0 h1]
    frame_out

/-- At a later grid point, from the one before. -/
theorem carried_next (t t' : Fin cfg0.N) (ht : t'.val = t.val - 1) (h0 : ¬t.val % 16 = 0)
    (ih : Carried m c t' (outsAt0 m c t'.val t'.isLt).2.1 (outsAt0 m c t'.val t'.isLt).2.2.1 (outsAt0 m c t'.val t'.isLt).2.2.2) :
    Carried m c t (outsAt0 m c t.val t.isLt).2.1 (outsAt0 m c t.val t.isLt).2.2.1 (outsAt0 m c t.val t.isLt).2.2.2 := by
  have hrow : ∀ i, rowOf t' i = rowOf t i := fun i => Fin.ext (by show t'.val / 16 * 1024 + i.val = t.val / 16 * 1024 + i.val; omega)
  have hmod : t'.val % 16 + 1 = t.val % 16 := by omega
  obtain ⟨n', hn'⟩ := t'
  obtain rfl : n' = t.val - 1 := ht
  unfold Carried at ih
  simp only [hrow, hmod] at ih
  obtain ⟨ha, hb, hc⟩ := ih
  by_cases h1 : t.val % 16 = 15
  · refine ⟨fun i j => ?_, fun i e => ?_, fun i l => ?_⟩
    · refine Eq.trans ?_ (ha i j)
      rw [outsAt0_C m c t h0 h1]
      dsimp only [sout0_C_0]
    · refine Eq.trans ?_ (hb i e)
      rw [outsAt0_C m c t h0 h1]
      dsimp only [sout0_C_1]
    · refine Eq.trans ?_ (acc_step m c t _ _ _ ha hb i l (hc i l))
      rw [outsAt0_C m c t h0 h1]
      frame_out
      simp only [read_unread_whole]
  · refine ⟨fun i j => ?_, fun i e => ?_, fun i l => ?_⟩
    · refine Eq.trans ?_ (ha i j)
      rw [outsAt0_B m c t h0 h1]
      dsimp only [sout0_B_0]
    · refine Eq.trans ?_ (hb i e)
      rw [outsAt0_B m c t h0 h1]
      dsimp only [sout0_B_1]
    · refine Eq.trans ?_ (acc_step m c t _ _ _ ha hb i l (hc i l))
      rw [outsAt0_B m c t h0 h1]
      frame_out
      simp only [read_unread_whole]

include hh hw hL in
theorem carried : ∀ (n : ℕ) (hn : n < cfg0.N),
    Carried m c ⟨n, hn⟩ (outsAt0 m c n hn).2.1 (outsAt0 m c n hn).2.2.1 (outsAt0 m c n hn).2.2.2
  | 0, hn => carried_first m c hh hw hL ⟨0, hn⟩ rfl
  | n + 1, hn => by
    by_cases h0 : (n + 1) % 16 = 0
    · exact carried_first m c hh hw hL ⟨n + 1, hn⟩ h0
    · exact carried_next m c ⟨n + 1, hn⟩ ⟨n, Nat.lt_of_succ_lt hn⟩ rfl h0 (carried n (Nat.lt_of_succ_lt hn))

include hh hw hL in
/-- The block written at a row block's last grid point. -/
theorem written (t : Fin cfg0.N) (h1 : t.val % 16 = 15) (i l : Fin 1024) :
    ((outsAt0 m c t.val t.isLt).1 (ix2 i l) : EReal) = REF m c (ix2 (rowOf t i) l) := by
  have h0 : ¬t.val % 16 = 0 := by omega
  have hacc := (carried m c hh hw hL t.val t.isLt).2.2 i l
  have hsum : ((outsAt0 m c t.val t.isLt).2.2.2 (ix2 i l) : EReal) = ∑ e : Fin 16, expertAt m c (rowOf t i) e l := by
    refine hacc.trans ?_
    show ∑ e ∈ Finset.range (t.val % 16 + 1), (if h : e < 16 then expertAt m c (rowOf t i) ⟨e, h⟩ l else 0) = _
    rw [h1, Finset.sum_range]
    exact Finset.sum_congr rfl fun e _ => dif_pos e.isLt
  have hout : ((outsAt0 m c t.val t.isLt).1 (ix2 i l) : EReal) = k0_pay1 (iblk m c 0 t) (iblk m c 4 t) (outsAt0 m c t.val t.isLt).2.2.2 (ix2 i l) := by
    rw [outsAt0_C m c t h0 h1]
    frame_out
  rw [hout, gated_sum, hsum, b0, b4 m c t i]
  rfl

include hh hw hL in
theorem final : (dats m 0 c).arrAt 10 cfg0.N = REF m c := by
  refine (dats m 0 c).arrAt_eq_of_covers 10 _ (by decide +kernel) fun t hf y => ?_
  have h1 : t.val % 16 = 15 := (by decide +kernel : ∀ t : Fin grid0.N, (cfg0.win 10).flush t = true → t.val % 16 = 15) t hf
  blk_simp
  rw [after0_10]
  obtain ⟨a, b, rfl⟩ : ∃ (a b : Fin 1024), y = ix2 a b := ⟨y 0, y 1, by idx_vars y⟩
  refine (written m c hh hw hL t h1 a b).trans ?_
  rw [emb_eq]

end Cert.MoeIdeal.Tokens

end
-- ==== Proof.MoeRun.lean ====
/-
  The expert layer's reference: its host operations in order, in five stretches, and its run.
-/
module

public import proofs.«01_k».proof.Proof.Gen.MoeReferenceIdeal
public import Idealize.ShloMosaic.Lib.StableHlo.Run
public import Idealize.ShloMosaic.Lib.StableHlo.RunRead

@[expose] public section

noncomputable section

namespace Cert.MoeRef

open Cert.MoeReferenceIdeal Cert.MoeReferenceIdeal.Gen Idealize.ShloMosaic Idealize.ShloMosaic.TcCoe Idealize.SL.Sem Idealize.ShloMosaic.StableHlo

variable {F : FTy → Type} [FloatOps F]

/-- The normalised and modulated rows. -/
abbrev opsNorm : List (HloOp τ sig (Elt F)) :=
  [ reshape main_arg1 main_v0 (rfl : (.f32 : EltTy) = .f32) shapeCasts_S1x1024_S1024,
    reshape main_arg2 main_v1 (rfl : (.f32 : EltTy) = .f32) shapeCasts_S2x1x1024_S2x1024,
    reshape main_arg3 main_v2 (rfl : (.f32 : EltTy) = .f32) shapeCasts_S2x1x1024_S2x1024,
    reshape main_arg4 main_v3 (rfl : (.f32 : EltTy) = .f32) shapeCasts_S2x1x1024_S2x1024,
    unary main_arg5 main_v4 ((extractStridedSlice S1024x16 ![0, 0] · slices_S1024x128_S1024x16_0_0) : (⟨S1024x128, .f32⟩ : BufTy).Contents (Elt F) → (⟨S1024x16, .f32⟩ : BufTy).Contents (Elt F)),
    unary main_arg5 main_v5 ((extractStridedSlice S1024x4 ![0, 16] · slices_S1024x128_S1024x4_0_16) : (⟨S1024x128, .f32⟩ : BufTy).Contents (Elt F) → (⟨S1024x4, .f32⟩ : BufTy).Contents (Elt F)),
    unary main_arg6 main_v6 ((extractStridedSlice S1x16 ![0, 0] · slices_S1x128_S1x16_0_0) : (⟨S1x128, .f32⟩ : BufTy).Contents (Elt F) → (⟨S1x16, .f32⟩ : BufTy).Contents (Elt F)),
    reshape main_v6 main_v7 (rfl : (.f32 : EltTy) = .f32) shapeCasts_S1x16_S16,
    unary main_arg6 main_v8 ((extractStridedSlice S1x4 ![0, 16] · slices_S1x128_S1x4_0_16) : (⟨S1x128, .f32⟩ : BufTy).Contents (Elt F) → (⟨S1x4, .f32⟩ : BufTy).Contents (Elt F)),
    reshape main_v8 main_v9 (rfl : (.f32 : EltTy) = .f32) shapeCasts_S1x4_S4,
    unary main_arg7 main_v10 ((extf .f32 · bitsLt_bf16_f32) : (⟨S16x1024x256, .bf16⟩ : BufTy).Contents (Elt F) → (⟨S16x1024x256, .f32⟩ : BufTy).Contents (Elt F)),
    unary main_arg8 main_v11 ((extf .f32 · bitsLt_bf16_f32) : (⟨S16x1024x256, .bf16⟩ : BufTy).Contents (Elt F) → (⟨S16x1024x256, .f32⟩ : BufTy).Contents (Elt F)),
    unary main_arg9 main_v12 ((extf .f32 · bitsLt_bf16_f32) : (⟨S16x256x1024, .bf16⟩ : BufTy).Contents (Elt F) → (⟨S16x256x1024, .f32⟩ : BufTy).Contents (Elt F)),
    reshape main_arg0 main_v13 (rfl : (.f32 : EltTy) = .f32) shapeCasts_S16384x1024_S2x8192x1024,
    binary main_v13 main_v13 main_v14 (mulf : (⟨S2x8192x1024, .f32⟩ : BufTy).Contents (Elt F) → (⟨S2x8192x1024, .f32⟩ : BufTy).Contents (Elt F) → (⟨S2x8192x1024, .f32⟩ : BufTy).Contents (Elt F)),
    nullary main_cst (constant S_ .f32 0x00000000#32),
    binary main_v14 main_cst main_v15 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v15 main_v16 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_0 (constant S_ .f32 0x44800000#32),
    unary main_cst_0 main_v17 (broadcastInDim S2x8192x1 ![] bcast_S_S2x8192x1 : (⟨S_, .f32⟩ : BufTy).Contents (Elt F) → (⟨S2x8192x1, .f32⟩ : BufTy).Contents (Elt F)),
    binary main_v16 main_v17 main_v18 (Host.divf : (⟨S2x8192x1, .f32⟩ : BufTy).Contents (Elt F) → (⟨S2x8192x1, .f32⟩ : BufTy).Contents (Elt F) → (⟨S2x8192x1, .f32⟩ : BufTy).Contents (Elt F)),
    nullary main_cst_1 (constant S_ .f32 0x358637BD#32),
    unary main_cst_1 main_v19 (broadcastInDim S2x8192x1 ![] bcast_S_S2x8192x1 : (⟨S_, .f32⟩ : BufTy).Contents (Elt F) → (⟨S2x8192x1, .f32⟩ : BufTy).Contents (Elt F)),
    binary main_v18 main_v19 main_v20 (addf : (⟨S2x8192x1, .f32⟩ : BufTy).Contents (Elt F) → (⟨S2x8192x1, .f32⟩ : BufTy).Contents (Elt F) → (⟨S2x8192x1, .f32⟩ : BufTy).Contents (Elt F)),
    unary main_v20 main_v21 (Host.rsqrt : (⟨S2x8192x1, .f32⟩ : BufTy).Contents (Elt F) → (⟨S2x8192x1, .f32⟩ : BufTy).Contents (Elt F)),
    unary main_v21 main_v22 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v13 main_v22 main_v23 (mulf : (⟨S2x8192x1024, .f32⟩ : BufTy).Contents (Elt F) → (⟨S2x8192x1024, .f32⟩ : BufTy).Contents (Elt F) → (⟨S2x8192x1024, .f32⟩ : BufTy).Contents (Elt F)),
    unary main_v0 main_v24 (broadcastInDim S1x1x1024 ![2] bcast_S1024_S1x1x1024_2 : (⟨S1024, .f32⟩ : BufTy).Contents (Elt F) → (⟨S1x1x1024, .f32⟩ : BufTy).Contents (Elt F)),
    unary main_v24 main_v25 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v23 main_v25 main_v26 (mulf : (⟨S2x8192x1024, .f32⟩ : BufTy).Contents (Elt F) → (⟨S2x8192x1024, .f32⟩ : BufTy).Contents (Elt F) → (⟨S2x8192x1024, .f32⟩ : BufTy).Contents (Elt F)),
    unary main_v2 main_v27 (broadcastInDim S2x1x1024 ![0, 2] bcast_S2x1024_S2x1x1024_0_2 : (⟨S2x1024, .f32⟩ : BufTy).Contents (Elt F) → (⟨S2x1x1024, .f32⟩ : BufTy).Contents (Elt F)),
    nullary main_cst_2 (constant S_ .f32 0x3F800000#32),
    unary main_cst_2 main_v28 (broadcastInDim S2x1x1024 ![] bcast_S_S2x1x1024 : (⟨S_, .f32⟩ : BufTy).Contents (Elt F) → (⟨S2x1x1024, .f32⟩ : BufTy).Contents (Elt F)),
    binary main_v28 main_v27 main_v29 (addf : (⟨S2x1x1024, .f32⟩ : BufTy).Contents (Elt F) → (⟨S2x1x1024, .f32⟩ : BufTy).Contents (Elt F) → (⟨S2x1x1024, .f32⟩ : BufTy).Contents (Elt F)),
    unary main_v29 main_v30 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v26 main_v30 main_v31 (mulf : (⟨S2x8192x1024, .f32⟩ : BufTy).Contents (Elt F) → (⟨S2x8192x1024, .f32⟩ : BufTy).Contents (Elt F) → (⟨S2x8192x1024, .f32⟩ : BufTy).Contents (Elt F)),
    unary main_v1 main_v32 (broadcastInDim S2x1x1024 ![0, 2] bcast_S2x1024_S2x1x1024_0_2 : (⟨S2x1024, .f32⟩ : BufTy).Contents (Elt F) → (⟨S2x1x1024, .f32⟩ : BufTy).Contents (Elt F)),
    unary main_v32 main_v33 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v31 main_v33 main_v34 (addf : (⟨S2x8192x1024, .f32⟩ : BufTy).Contents (Elt F) → (⟨S2x8192x1024, .f32⟩ : BufTy).Contents (Elt F) → (⟨S2x8192x1024, .f32⟩ : BufTy).Contents (Elt F)),
    reshape main_v34 main_v35 (rfl : (.f32 : EltTy) = .f32) shapeCasts_S2x8192x1024_S16384x1024 ]

/-- The group logits, the chosen group and its weight. -/
abbrev opsGroup : List (HloOp τ sig (Elt F)) :=
  [ binary main_v35 main_v5 main_v36 ((fun l r => Host.dotGeneral dot_S16384x1024_S1024x4_S16384x4_1_0_0_1_n_n none l r) : (⟨S16384x1024, .f32⟩ : BufTy).Contents (Elt F) → (⟨S1024x4, .f32⟩ : BufTy).Contents (Elt F) → (⟨S16384x4, .f32⟩ : BufTy).Contents (Elt F)),
    unary main_v9 main_v37 (broadcastInDim S1x4 ![1] bcast_S4_S1x4_1 : (⟨S4, .f32⟩ : BufTy).Contents (Elt F) → (⟨S1x4, .f32⟩ : BufTy).Contents (Elt F)),
    unary main_v37 main_v38 (broadcastInDim S16384x4 ![0, 1] bcast_S1x4_S16384x4_0_1 : (⟨S1x4, .f32⟩ : BufTy).Contents (Elt F) → (⟨S16384x4, .f32⟩ : BufTy).Contents (Elt F)),
    binary main_v36 main_v38 main_v39 (addf : (⟨S16384x4, .f32⟩ : BufTy).Contents (Elt F) → (⟨S16384x4, .f32⟩ : BufTy).Contents (Elt F) → (⟨S16384x4, .f32⟩ : BufTy).Contents (Elt F)),
    TRef.nullary (TRef.of (T := ⟨S16384x4, .i32⟩) main_call0_v0) (iotaInDim S16384x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x4, .f32⟩) main_v39) (TRef.of (T := ⟨S16384x4, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x4_S16384_d1 h_S_ j).1),
    TRef.quaternary (TRef.of (T := ⟨S16384x4, .f32⟩) main_v39) (TRef.of (T := ⟨S16384x4, .i32⟩) main_call0_v0) (TRef.of (T := ⟨S_, .f32⟩) main_call0_cst) (TRef.of (T := ⟨S_, .i32⟩) main_call0_c) (TRef.of (T := ⟨S16384, .i32⟩) main_v40) (fun x y u v j => (Host.argReduce reducer_argmax_f32_i32 x y u v reducesTo_S16384x4_S16384_d1 h_S_ j).2),
    nullary main_cst_3 (constant S_ .f32 0xFF800000#32),
    binary main_v39 main_cst_3 main_v41 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    nullary main_cst_4 (constant S_ .f32 0xFF800000#32),
    unary main_cst_4 main_v42 (broadcastInDim S16384 ![] bcast_S_S16384 : (⟨S_, .f32⟩ : BufTy).Contents (Elt F) → (⟨S16384, .f32⟩ : BufTy).Contents (Elt F)),
    binary main_v42 main_v41 main_v43 (maximumf : (⟨S16384, .f32⟩ : BufTy).Contents (Elt F) → (⟨S16384, .f32⟩ : BufTy).Contents (Elt F) → (⟨S16384, .f32⟩ : BufTy).Contents (Elt F)),
    unary main_v43 main_v44 (broadcastInDim S16384x1 ![0] bcast_S16384_S16384x1_0 : (⟨S16384, .f32⟩ : BufTy).Contents (Elt F) → (⟨S16384x1, .f32⟩ : BufTy).Contents (Elt F)),
    unary main_v44 main_v45 (broadcastInDim S16384x4 ![0, 1] bcast_S16384x1_S16384x4_0_1 : (⟨S16384x1, .f32⟩ : BufTy).Contents (Elt F) → (⟨S16384x4, .f32⟩ : BufTy).Contents (Elt F)),
    binary main_v39 main_v45 main_v46 (subf : (⟨S16384x4, .f32⟩ : BufTy).Contents (Elt F) → (⟨S16384x4, .f32⟩ : BufTy).Contents (Elt F) → (⟨S16384x4, .f32⟩ : BufTy).Contents (Elt F)),
    unary main_v46 main_v47 (Host.exp : (⟨S16384x4, .f32⟩ : BufTy).Contents (Elt F) → (⟨S16384x4, .f32⟩ : BufTy).Contents (Elt F)),
    nullary main_cst_5 (constant S_ .f32 0x00000000#32),
    binary main_v47 main_cst_5 main_v48 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v48 main_v49 (broadcastInDim S16384x1 ![0] bcast_S16384_S16384x1_0 : (⟨S16384, .f32⟩ : BufTy).Contents (Elt F) → (⟨S16384x1, .f32⟩ : BufTy).Contents (Elt F)),
    unary main_v49 main_v50 (broadcastInDim S16384x4 ![0, 1] bcast_S16384x1_S16384x4_0_1 : (⟨S16384x1, .f32⟩ : BufTy).Contents (Elt F) → (⟨S16384x4, .f32⟩ : BufTy).Contents (Elt F)),
    binary main_v47 main_v50 main_v51 (Host.divf : (⟨S16384x4, .f32⟩ : BufTy).Contents (Elt F) → (⟨S16384x4, .f32⟩ : BufTy).Contents (Elt F) → (⟨S16384x4, .f32⟩ : BufTy).Contents (Elt F)),
    nullary main_cst_6 (constant S_ .f32 0xFF800000#32),
    binary main_v51 main_cst_6 main_v52 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v52 main_v53 (broadcastInDim S16384x1 ![0] bcast_S16384_S16384x1_0 : (⟨S16384, .f32⟩ : BufTy).Contents (Elt F) → (⟨S16384x1, .f32⟩ : BufTy).Contents (Elt F)) ]

/-- The chosen group's expert logits and their softmax. -/
abbrev opsMember : List (HloOp τ sig (Elt F)) :=
  [ binary main_v35 main_v4 main_v54 ((fun l r => Host.dotGeneral dot_S16384x1024_S1024x16_S16384x16_1_0_0_1_n_n none l r) : (⟨S16384x1024, .f32⟩ : BufTy).Contents (Elt F) → (⟨S1024x16, .f32⟩ : BufTy).Contents (Elt F) → (⟨S16384x16, .f32⟩ : BufTy).Contents (Elt F)),
    unary main_v7 main_v55 (broadcastInDim S1x16 ![1] bcast_S16_S1x16_1 : (⟨S16, .f32⟩ : BufTy).Contents (Elt F) → (⟨S1x16, .f32⟩ : BufTy).Contents (Elt F)),
    unary main_v55 main_v56 (broadcastInDim S16384x16 ![0, 1] bcast_S1x16_S16384x16_0_1 : (⟨S1x16, .f32⟩ : BufTy).Contents (Elt F) → (⟨S16384x16, .f32⟩ : BufTy).Contents (Elt F)),
    binary main_v54 main_v56 main_v57 (addf : (⟨S16384x16, .f32⟩ : BufTy).Contents (Elt F) → (⟨S16384x16, .f32⟩ : BufTy).Contents (Elt F) → (⟨S16384x16, .f32⟩ : BufTy).Contents (Elt F)),
    reshape main_v57 main_v58 (rfl : (.f32 : EltTy) = .f32) shapeCasts_S16384x16_S16384x4x4,
    nullary main_v59 (iotaInDim S16384 32 0),
    nullary main_c (constantI S_ 32 0#32),
    unary main_c main_v60 (broadcastInDim S16384 ![] bcast_S_S16384 : (⟨S_, .i32⟩ : BufTy).Contents (Elt F) → (⟨S16384, .i32⟩ : BufTy).Contents (Elt F)),
    binary main_v59 main_v60 main_v61 (cmpi .slt : (⟨S16384, .i32⟩ : BufTy).Contents (Elt F) → (⟨S16384, .i32⟩ : BufTy).Contents (Elt F) → (⟨S16384, .i1⟩ : BufTy).Contents (Elt F)),
    nullary main_c_7 (constantI S_ 32 16384#32),
    unary main_c_7 main_v62 (broadcastInDim S16384 ![] bcast_S_S16384 : (⟨S_, .i32⟩ : BufTy).Contents (Elt F) → (⟨S16384, .i32⟩ : BufTy).Contents (Elt F)),
    binary main_v59 main_v62 main_v63 (addi : (⟨S16384, .i32⟩ : BufTy).Contents (Elt F) → (⟨S16384, .i32⟩ : BufTy).Contents (Elt F) → (⟨S16384, .i32⟩ : BufTy).Contents (Elt F)),
    ternary main_v61 main_v63 main_v59 main_v64 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_8 (constantI S_ 32 0#32),
    unary main_c_8 main_v65 (broadcastInDim S16384 ![] bcast_S_S16384 : (⟨S_, .i32⟩ : BufTy).Contents (Elt F) → (⟨S16384, .i32⟩ : BufTy).Contents (Elt F)),
    binary main_v40 main_v65 main_v66 (cmpi .slt : (⟨S16384, .i32⟩ : BufTy).Contents (Elt F) → (⟨S16384, .i32⟩ : BufTy).Contents (Elt F) → (⟨S16384, .i1⟩ : BufTy).Contents (Elt F)),
    nullary main_c_9 (constantI S_ 32 4#32),
    unary main_c_9 main_v67 (broadcastInDim S16384 ![] bcast_S_S16384 : (⟨S_, .i32⟩ : BufTy).Contents (Elt F) → (⟨S16384, .i32⟩ : BufTy).Contents (Elt F)),
    binary main_v40 main_v67 main_v68 (addi : (⟨S16384, .i32⟩ : BufTy).Contents (Elt F) → (⟨S16384, .i32⟩ : BufTy).Contents (Elt F) → (⟨S16384, .i32⟩ : BufTy).Contents (Elt F)),
    ternary main_v66 main_v68 main_v40 main_v69 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v64 main_v70 (broadcastInDim S16384x1 ![0] bcast_S16384_S16384x1_0 : (⟨S16384, .i32⟩ : BufTy).Contents (Elt F) → (⟨S16384x1, .i32⟩ : BufTy).Contents (Elt F)),
    unary main_v69 main_v71 (broadcastInDim S16384x1 ![0] bcast_S16384_S16384x1_0 : (⟨S16384, .i32⟩ : BufTy).Contents (Elt F) → (⟨S16384x1, .i32⟩ : BufTy).Contents (Elt F)),
    binary main_v70 main_v71 main_v72 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v58 main_v72 main_v73 ((fun x i => Host.gather gather_S16384x4x4_S16384x2_S16384x4_1_01_n_n_01_1_114 x i) : (⟨S16384x4x4, .f32⟩ : BufTy).Contents (Elt F) → (⟨S16384x2, .i32⟩ : BufTy).Contents (Elt F) → (⟨S16384x4, .f32⟩ : BufTy).Contents (Elt F)),
    nullary main_cst_10 (constant S_ .f32 0xFF800000#32),
    binary main_v73 main_cst_10 main_v74 ((fun x v => Host.reduce FloatOps.maximumf x v reducesTo_S16384x4_S16384_d1 h_S_) : (⟨S16384x4, .f32⟩ : BufTy).Contents (Elt F) → (⟨S_, .f32⟩ : BufTy).Contents (Elt F) → (⟨S16384, .f32⟩ : BufTy).Contents (Elt F)),
    nullary main_cst_11 (constant S_ .f32 0xFF800000#32),
    unary main_cst_11 main_v75 (broadcastInDim S16384 ![] bcast_S_S16384 : (⟨S_, .f32⟩ : BufTy).Contents (Elt F) → (⟨S16384, .f32⟩ : BufTy).Contents (Elt F)),
    binary main_v75 main_v74 main_v76 (maximumf : (⟨S16384, .f32⟩ : BufTy).Contents (Elt F) → (⟨S16384, .f32⟩ : BufTy).Contents (Elt F) → (⟨S16384, .f32⟩ : BufTy).Contents (Elt F)),
    unary main_v76 main_v77 (broadcastInDim S16384x1 ![0] bcast_S16384_S16384x1_0 : (⟨S16384, .f32⟩ : BufTy).Contents (Elt F) → (⟨S16384x1, .f32⟩ : BufTy).Contents (Elt F)),
    unary main_v77 main_v78 (broadcastInDim S16384x4 ![0, 1] bcast_S16384x1_S16384x4_0_1 : (⟨S16384x1, .f32⟩ : BufTy).Contents (Elt F) → (⟨S16384x4, .f32⟩ : BufTy).Contents (Elt F)),
    binary main_v73 main_v78 main_v79 (subf : (⟨S16384x4, .f32⟩ : BufTy).Contents (Elt F) → (⟨S16384x4, .f32⟩ : BufTy).Contents (Elt F) → (⟨S16384x4, .f32⟩ : BufTy).Contents (Elt F)),
    unary main_v79 main_v80 (Host.exp : (⟨S16384x4, .f32⟩ : BufTy).Contents (Elt F) → (⟨S16384x4, .f32⟩ : BufTy).Contents (Elt F)),
    nullary main_cst_12 (constant S_ .f32 0x00000000#32),
    binary main_v80 main_cst_12 main_v81 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_v81 main_v82 (broadcastInDim S16384x1 ![0] bcast_S16384_S16384x1_0 : (⟨S16384, .f32⟩ : BufTy).Contents (Elt F) → (⟨S16384x1, .f32⟩ : BufTy).Contents (Elt F)),
    unary main_v82 main_v83 (broadcastInDim S16384x4 ![0, 1] bcast_S16384x1_S16384x4_0_1 : (⟨S16384x1, .f32⟩ : BufTy).Contents (Elt F) → (⟨S16384x4, .f32⟩ : BufTy).Contents (Elt F)),
    binary main_v80 main_v83 main_v84 (Host.divf : (⟨S16384x4, .f32⟩ : BufTy).Contents (Elt F) → (⟨S16384x4, .f32⟩ : BufTy).Contents (Elt F) → (⟨S16384x4, .f32⟩ : BufTy).Contents (Elt F)) ]

/-- The two chosen experts and every expert's weight. -/
abbrev opsPick : List (HloOp τ sig (Elt F)) :=
  [ unary main_v84 main_values ((fun x => (Host.topK S16384x2 1 (FloatOps.cmpfTotal .gt) x sliceFits_S16384x4_S16384x2).1) : (⟨S16384x4, .f32⟩ : BufTy).Contents (Elt F) → (⟨S16384x2, .f32⟩ : BufTy).Contents (Elt F)),
    unary main_v84 main_indices ((fun x => (Host.topK S16384x2 1 (FloatOps.cmpfTotal .gt) x sliceFits_S16384x4_S16384x2).2) : (⟨S16384x4, .f32⟩ : BufTy).Contents (Elt F) → (⟨S16384x2, .i32⟩ : BufTy).Contents (Elt F)),
    nullary main_cst_13 (constant S_ .f32 0x00000000#32),
    binary main_values main_cst_13 main_v85 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v85 main_v86 (broadcastInDim S16384x1 ![0] bcast_S16384_S16384x1_0 : (⟨S16384, .f32⟩ : BufTy).Contents (Elt F) → (⟨S16384x1, .f32⟩ : BufTy).Contents (Elt F)),
    unary main_v86 main_v87 (broadcastInDim S16384x2 ![0, 1] bcast_S16384x1_S16384x2_0_1 : (⟨S16384x1, .f32⟩ : BufTy).Contents (Elt F) → (⟨S16384x2, .f32⟩ : BufTy).Contents (Elt F)),
    binary main_values main_v87 main_v88 (Host.divf : (⟨S16384x2, .f32⟩ : BufTy).Contents (Elt F) → (⟨S16384x2, .f32⟩ : BufTy).Contents (Elt F) → (⟨S16384x2, .f32⟩ : BufTy).Contents (Elt F)),
    unary main_v40 main_v89 (broadcastInDim S16384x1 ![0] bcast_S16384_S16384x1_0 : (⟨S16384, .i32⟩ : BufTy).Contents (Elt F) → (⟨S16384x1, .i32⟩ : BufTy).Contents (Elt F)),
    nullary main_c_14 (constantI S_ 32 4#32),
    unary main_c_14 main_v90 (broadcastInDim S16384x1 ![] bcast_S_S16384x1 : (⟨S_, .i32⟩ : BufTy).Contents (Elt F) → (⟨S16384x1, .i32⟩ : BufTy).Contents (Elt F)),
    binary main_v89 main_v90 main_v91 (muli : (⟨S16384x1, .i32⟩ : BufTy).Contents (Elt F) → (⟨S16384x1, .i32⟩ : BufTy).Contents (Elt F) → (⟨S16384x1, .i32⟩ : BufTy).Contents (Elt F)),
    unary main_v91 main_v92 (broadcastInDim S16384x2 ![0, 1] bcast_S16384x1_S16384x2_0_1 : (⟨S16384x1, .i32⟩ : BufTy).Contents (Elt F) → (⟨S16384x2, .i32⟩ : BufTy).Contents (Elt F)),
    binary main_v92 main_indices main_v93 (addi : (⟨S16384x2, .i32⟩ : BufTy).Contents (Elt F) → (⟨S16384x2, .i32⟩ : BufTy).Contents (Elt F) → (⟨S16384x2, .i32⟩ : BufTy).Contents (Elt F)),
    TRef.unary (TRef.of (T := ⟨S16384x2, .i32⟩) main_v93) (TRef.of (T := ⟨S16384x2x1, .i32⟩) main_call1_v0) (broadcastInDim S16384x2x1 ![0, 1] bcast_S16384x2_S16384x2x1_0_1),
    TRef.nullary (TRef.of (T := ⟨S1x1x16, .i32⟩) main_call1_v1) (iotaInDim S1x1x16 32 2),
    TRef.unary (TRef.of (T := ⟨S16384x2x1, .i32⟩) main_call1_v0) (TRef.of (T := ⟨S16384x2x16, .i32⟩) main_call1_v2) (broadcastInDim S16384x2x16 ![0, 1, 2] bcast_S16384x2x1_S16384x2x16_0_1_2),
    TRef.unary (TRef.of (T := ⟨S1x1x16, .i32⟩) main_call1_v1) (TRef.of (T := ⟨S16384x2x16, .i32⟩) main_call1_v3) (broadcastInDim S16384x2x16 ![0, 1, 2] bcast_S1x1x16_S16384x2x16_0_1_2),
    TRef.binary (TRef.of (T := ⟨S16384x2x16, .i32⟩) main_call1_v2) (TRef.of (T := ⟨S16384x2x16, .i32⟩) main_call1_v3) (TRef.of (T := ⟨S16384x2x16, .i1⟩) main_call1_v4) (cmpi .eq),
    TRef.unary (TRef.of (T := ⟨S16384x2x16, .i1⟩) main_call1_v4) (TRef.of (T := ⟨S16384x2x16, .f32⟩) main_v94) (uitofp .f32),
    unary main_v53 main_v95 (broadcastInDim S16384x2 ![0, 1] bcast_S16384x1_S16384x2_0_1 : (⟨S16384x1, .f32⟩ : BufTy).Contents (Elt F) → (⟨S16384x2, .f32⟩ : BufTy).Contents (Elt F)),
    binary main_v95 main_v88 main_v96 (mulf : (⟨S16384x2, .f32⟩ : BufTy).Contents (Elt F) → (⟨S16384x2, .f32⟩ : BufTy).Contents (Elt F) → (⟨S16384x2, .f32⟩ : BufTy).Contents (Elt F)),
    unary main_v96 main_v97 (broadcastInDim S16384x2x1 ![0, 1] bcast_S16384x2_S16384x2x1_0_1 : (⟨S16384x2, .f32⟩ : BufTy).Contents (Elt F) → (⟨S16384x2x1, .f32⟩ : BufTy).Contents (Elt F)),
    unary main_v97 main_v98 (broadcastInDim S16384x2x16 ![0, 1, 2] bcast_S16384x2x1_S16384x2x16_0_1_2 : (⟨S16384x2x1, .f32⟩ : BufTy).Contents (Elt F) → (⟨S16384x2x16, .f32⟩ : BufTy).Contents (Elt F)),
    binary main_v94 main_v98 main_v99 (mulf : (⟨S16384x2x16, .f32⟩ : BufTy).Contents (Elt F) → (⟨S16384x2x16, .f32⟩ : BufTy).Contents (Elt F) → (⟨S16384x2x16, .f32⟩ : BufTy).Contents (Elt F)),
    nullary main_cst_15 (constant S_ .f32 0x00000000#32),
    binary main_v99 main_cst_15 main_v100 ((fun x v => Host.reduceAdd x v reducesTo_S16384x2x16_S16384x16_d1 h_S_) : (⟨S16384x2x16, .f32⟩ : BufTy).Contents (Elt F) → (⟨S_, .f32⟩ : BufTy).Contents (Elt F) → (⟨S16384x16, .f32⟩ : BufTy).Contents (Elt F)) ]

/-- The experts' sum, and the residual. -/
abbrev opsExpert : List (HloOp τ sig (Elt F)) :=
  [ binary main_v35 main_v10 main_v101 ((fun l r => Host.dotGeneral dot_S16384x1024_S16x1024x256_S16384x16x256_1_1_0_02_n_n none l r) : (⟨S16384x1024, .f32⟩ : BufTy).Contents (Elt F) → (⟨S16x1024x256, .f32⟩ : BufTy).Contents (Elt F) → (⟨S16384x16x256, .f32⟩ : BufTy).Contents (Elt F)),
    binary main_v35 main_v11 main_v102 ((fun l r => Host.dotGeneral dot_S16384x1024_S16x1024x256_S16384x16x256_1_1_0_02_n_n none l r) : (⟨S16384x1024, .f32⟩ : BufTy).Contents (Elt F) → (⟨S16x1024x256, .f32⟩ : BufTy).Contents (Elt F) → (⟨S16384x16x256, .f32⟩ : BufTy).Contents (Elt F)),
    TRef.unary (TRef.of (T := ⟨S16384x16x256, .f32⟩) main_v101) (TRef.of (T := ⟨S16384x16x256, .f32⟩) main_call2_v0) Host.negf,
    TRef.unary (TRef.of (T := ⟨S16384x16x256, .f32⟩) main_call2_v0) (TRef.of (T := ⟨S16384x16x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S16384x16x256, .f32⟩) main_call2_v2) (broadcastInDim S16384x16x256 ![] bcast_S_S16384x16x256),
    TRef.binary (TRef.of (T := ⟨S16384x16x256, .f32⟩) main_call2_v2) (TRef.of (T := ⟨S16384x16x256, .f32⟩) main_call2_v1) (TRef.of (T := ⟨S16384x16x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S16384x16x256, .f32⟩) main_call2_v4) (broadcastInDim S16384x16x256 ![] bcast_S_S16384x16x256),
    TRef.binary (TRef.of (T := ⟨S16384x16x256, .f32⟩) main_call2_v4) (TRef.of (T := ⟨S16384x16x256, .f32⟩) main_call2_v3) (TRef.of (T := ⟨S16384x16x256, .f32⟩) main_call2_v5) Host.divf,
    TRef.binary (TRef.of (T := ⟨S16384x16x256, .f32⟩) main_v101) (TRef.of (T := ⟨S16384x16x256, .f32⟩) main_call2_v5) (TRef.of (T := ⟨S16384x16x256, .f32⟩) main_v103) mulf,
    binary main_v103 main_v102 main_v104 (mulf : (⟨S16384x16x256, .f32⟩ : BufTy).Contents (Elt F) → (⟨S16384x16x256, .f32⟩ : BufTy).Contents (Elt F) → (⟨S16384x16x256, .f32⟩ : BufTy).Contents (Elt F)),
    unary main_v100 main_v105 (broadcastInDim S16384x16x1 ![0, 1] bcast_S16384x16_S16384x16x1_0_1 : (⟨S16384x16, .f32⟩ : BufTy).Contents (Elt F) → (⟨S16384x16x1, .f32⟩ : BufTy).Contents (Elt F)),
    unary main_v105 main_v106 (broadcastInDim S16384x16x256 ![0, 1, 2] bcast_S16384x16x1_S16384x16x256_0_1_2 : (⟨S16384x16x1, .f32⟩ : BufTy).Contents (Elt F) → (⟨S16384x16x256, .f32⟩ : BufTy).Contents (Elt F)),
    binary main_v104 main_v106 main_v107 (mulf : (⟨S16384x16x256, .f32⟩ : BufTy).Contents (Elt F) → (⟨S16384x16x256, .f32⟩ : BufTy).Contents (Elt F) → (⟨S16384x16x256, .f32⟩ : BufTy).Contents (Elt F)),
    binary main_v107 main_v12 main_v108 ((fun l r => Host.dotGeneral dot_S16384x16x256_S16x256x1024_S16384x1024_12_01_0_2_n_n none l r) : (⟨S16384x16x256, .f32⟩ : BufTy).Contents (Elt F) → (⟨S16x256x1024, .f32⟩ : BufTy).Contents (Elt F) → (⟨S16384x1024, .f32⟩ : BufTy).Contents (Elt F)),
    reshape main_v108 main_v109 (rfl : (.f32 : EltTy) = .f32) shapeCasts_S16384x1024_S2x8192x1024,
    unary main_v3 main_v110 (broadcastInDim S2x1x1024 ![0, 2] bcast_S2x1024_S2x1x1024_0_2 : (⟨S2x1024, .f32⟩ : BufTy).Contents (Elt F) → (⟨S2x1x1024, .f32⟩ : BufTy).Contents (Elt F)),
    unary main_v110 main_v111 (broadcastInDim S2x8192x1024 ![0, 1, 2] bcast_S2x1x1024_S2x8192x1024_0_1_2 : (⟨S2x1x1024, .f32⟩ : BufTy).Contents (Elt F) → (⟨S2x8192x1024, .f32⟩ : BufTy).Contents (Elt F)),
    binary main_v111 main_v109 main_v112 (mulf : (⟨S2x8192x1024, .f32⟩ : BufTy).Contents (Elt F) → (⟨S2x8192x1024, .f32⟩ : BufTy).Contents (Elt F) → (⟨S2x8192x1024, .f32⟩ : BufTy).Contents (Elt F)),
    binary main_v13 main_v112 main_v113 (addf : (⟨S2x8192x1024, .f32⟩ : BufTy).Contents (Elt F) → (⟨S2x8192x1024, .f32⟩ : BufTy).Contents (Elt F) → (⟨S2x8192x1024, .f32⟩ : BufTy).Contents (Elt F)),
    reshape main_v113 main_v114 (rfl : (.f32 : EltTy) = .f32) shapeCasts_S2x8192x1024_S16384x1024 ]

/-- All of them. -/
abbrev ops : List (HloOp τ sig (Elt F)) := opsNorm ++ (opsGroup ++ (opsMember ++ (opsPick ++ opsExpert)))

theorem opsNorm_sub : (opsNorm : List (HloOp τ sig (Elt F))).Forall fun op => op.bufs ⊆ tcRefs τ sig :=
  ⟨reshape_bufs_sub .., reshape_bufs_sub .., reshape_bufs_sub .., reshape_bufs_sub .., unary_bufs_sub .., unary_bufs_sub .., unary_bufs_sub .., reshape_bufs_sub .., unary_bufs_sub .., reshape_bufs_sub .., unary_bufs_sub .., unary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., reshape_bufs_sub ..⟩

theorem opsGroup_sub : (opsGroup : List (HloOp τ sig (Elt F))).Forall fun op => op.bufs ⊆ tcRefs τ sig :=
  ⟨binary_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub ..⟩

theorem opsMember_sub : (opsMember : List (HloOp τ sig (Elt F))).Forall fun op => op.bufs ⊆ tcRefs τ sig :=
  ⟨binary_bufs_sub .., unary_bufs_sub .., unary_bufs_sub .., binary_bufs_sub .., reshape_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsPick_sub : (opsPick : List (HloOp τ sig (Elt F))).Forall fun op => op.bufs ⊆ tcRefs τ sig :=
  ⟨unary_bufs_sub .., unary_bufs_sub .., nullary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub ..⟩

theorem opsExpert_sub : (opsExpert : List (HloOp τ sig (Elt F))).Forall fun op => op.bufs ⊆ tcRefs τ sig :=
  ⟨binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., reshape_bufs_sub .., unary_bufs_sub .., unary_bufs_sub .., binary_bufs_sub .., binary_bufs_sub .., reshape_bufs_sub ..⟩

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨opsNorm_sub, opsGroup_sub, opsMember_sub, opsPick_sub, opsExpert_sub⟩

theorem opsNorm_fresh : ∀ op ∈ (opsNorm : List (HloOp τ sig (Elt F))), op.fresh = ∅ := by
  intro _ h; (repeat (cases h with | head => rfl | tail _ h => ?_)); exact nomatch h

theorem opsGroup_fresh : ∀ op ∈ (opsGroup : List (HloOp τ sig (Elt F))), op.fresh = ∅ := by
  intro _ h; (repeat (cases h with | head => rfl | tail _ h => ?_)); exact nomatch h

theorem opsMember_fresh : ∀ op ∈ (opsMember : List (HloOp τ sig (Elt F))), op.fresh = ∅ := by
  intro _ h; (repeat (cases h with | head => rfl | tail _ h => ?_)); exact nomatch h

theorem opsPick_fresh : ∀ op ∈ (opsPick : List (HloOp τ sig (Elt F))), op.fresh = ∅ := by
  intro _ h; (repeat (cases h with | head => rfl | tail _ h => ?_)); exact nomatch h

theorem opsExpert_fresh : ∀ op ∈ (opsExpert : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h
  · exact opsNorm_fresh op h
  · exact opsGroup_fresh op h
  · exact opsMember_fresh op h
  · exact opsPick_fresh op h
  · exact opsExpert_fresh op h

/-- The buffers after one more stretch. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- Every execution ends, each buffer as the five stretches leave it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsExpert (after opsPick (after opsMember (after opsGroup (after opsNorm (launchContents m c))))) (Proc.devRef .tc b) :=
  (θ_run defs _ _).mono (fun _ h c b => (h c b).trans (by simp only [ops, after_two]))
    (run_seq scopedRefs_eq scopedSems_eq defs main (fun _ => ops) main_eq (fun _ => ops_sub) m ρ (fun _ => ops_fresh))

end Cert.MoeRef

end
-- ==== Proof.MoeStages.lean ====
/-
  What the expert layer's reference leaves in its buffers, stretch by stretch: array functions of the buffers before.
-/
module

public import proofs.«01_k».proof.Proof.MoeRun
public import proofs.«01_k».proof.Proof.MixRef

@[expose] public section

set_option maxRecDepth 16384

noncomputable section

namespace Cert.MoeRef

open Cert.MoeReferenceIdeal Cert.MoeReferenceIdeal.Gen Idealize.ShloMosaic Idealize.ShloMosaic.TcCoe Idealize.SL.Sem Idealize.ShloMosaic.StableHlo

/-- The normalised, modulated rows. -/
def rowsT (x : FVec Ideal S16384x1024 .f32) (g : FVec Ideal S1x1024 .f32) (sh sc : FVec Ideal S2x1x1024 .f32) : FVec Ideal S16384x1024 .f32 :=
  shapeCast _ (Cert.MixReferenceIdeal.Tokens.hT x g sh sc) shapeCasts_S2x8192x1024_S16384x1024

/-- The group logits. -/
def groupLogitsT (h : FVec Ideal S16384x1024 .f32) (w : FVec Ideal S1024x4 .f32) (b : FVec Ideal S4 .f32) : FVec Ideal S16384x4 .f32 :=
  addf (Host.dotGeneral dot_S16384x1024_S1024x4_S16384x4_1_0_0_1_n_n none h w)
    (broadcastInDim S16384x4 ![0, 1] bcast_S1x4_S16384x4_0_1 (broadcastInDim S1x4 ![1] bcast_S4_S1x4_1 b))

/-- The chosen group. -/
def groupT (z : FVec Ideal S16384x4 .f32) : IVec S16384 32 :=
  fun j => (Host.argReduce reducer_argmax_f32_i32 z (iotaInDim S16384x4 32 1) (constant S_ .f32 0xFF800000#32) (constantI S_ 32 0#32)
    reducesTo_S16384x4_S16384_d1 h_S_ j).2

/-- The softmax along the last axis. -/
def softmaxT (z : FVec Ideal S16384x4 .f32) : FVec Ideal S16384x4 .f32 :=
  Host.divf (Host.exp (subf z (broadcastInDim S16384x4 ![0, 1] bcast_S16384x1_S16384x4_0_1 (broadcastInDim S16384x1 ![0] bcast_S16384_S16384x1_0
      (maximumf (broadcastInDim S16384 ![] bcast_S_S16384 (constant S_ .f32 0xFF800000#32))
        (Host.reduce FloatOps.maximumf z (constant S_ .f32 0xFF800000#32) reducesTo_S16384x4_S16384_d1 h_S_))))))
    (broadcastInDim S16384x4 ![0, 1] bcast_S16384x1_S16384x4_0_1 (broadcastInDim S16384x1 ![0] bcast_S16384_S16384x1_0
      (Host.reduceAdd (Host.exp (subf z (broadcastInDim S16384x4 ![0, 1] bcast_S16384x1_S16384x4_0_1 (broadcastInDim S16384x1 ![0] bcast_S16384_S16384x1_0
        (maximumf (broadcastInDim S16384 ![] bcast_S_S16384 (constant S_ .f32 0xFF800000#32))
          (Host.reduce FloatOps.maximumf z (constant S_ .f32 0xFF800000#32) reducesTo_S16384x4_S16384_d1 h_S_))))))
        (constant S_ .f32 0x00000000#32) reducesTo_S16384x4_S16384_d1 h_S_)))

/-- The largest of a row. -/
def largestT (p : FVec Ideal S16384x4 .f32) : FVec Ideal S16384x1 .f32 :=
  broadcastInDim S16384x1 ![0] bcast_S16384_S16384x1_0
    (Host.reduce FloatOps.maximumf p (constant S_ .f32 0xFF800000#32) reducesTo_S16384x4_S16384_d1 h_S_)

/-- All expert logits, group by group. -/
def routerT (h : FVec Ideal S16384x1024 .f32) (w : FVec Ideal S1024x16 .f32) (b : FVec Ideal S16 .f32) : FVec Ideal S16384x4x4 .f32 :=
  shapeCast _ (addf (Host.dotGeneral dot_S16384x1024_S1024x16_S16384x16_1_0_0_1_n_n none h w)
    (broadcastInDim S16384x16 ![0, 1] bcast_S1x16_S16384x16_0_1 (broadcastInDim S1x16 ![1] bcast_S16_S1x16_1 b))) shapeCasts_S16384x16_S16384x4x4

/-- Token and chosen group, as the gather's indices. -/
def placesT (G : IVec S16384 32) : IVec S16384x2 32 :=
  concatenate S16384x2 1
    [⟨S16384x1, broadcastInDim S16384x1 ![0] bcast_S16384_S16384x1_0
        (select (cmpi .slt (iotaInDim S16384 32 0) (broadcastInDim S16384 ![] bcast_S_S16384 (constantI S_ 32 0#32)))
          (addi (iotaInDim S16384 32 0) (broadcastInDim S16384 ![] bcast_S_S16384 (constantI S_ 32 16384#32))) (iotaInDim S16384 32 0))⟩,
      ⟨S16384x1, broadcastInDim S16384x1 ![0] bcast_S16384_S16384x1_0
        (select (cmpi .slt G (broadcastInDim S16384 ![] bcast_S_S16384 (constantI S_ 32 0#32)))
          (addi G (broadcastInDim S16384 ![] bcast_S_S16384 (constantI S_ 32 4#32))) G)⟩]
    concatenates_S16384x1_S16384x1_S16384x2_d1

/-- The chosen group's expert logits. -/
def membersT (r : FVec Ideal S16384x4x4 .f32) (G : IVec S16384 32) : FVec Ideal S16384x4 .f32 :=
  Host.gather gather_S16384x4x4_S16384x2_S16384x4_1_01_n_n_01_1_114 r (placesT G)

/-- The two largest of a row, and where they are. -/
def topT (p : FVec Ideal S16384x4 .f32) : FVec Ideal S16384x2 .f32 :=
  (Host.topK S16384x2 1 (FloatOps.cmpfTotal .gt) p sliceFits_S16384x4_S16384x2).1
def topAtT (p : FVec Ideal S16384x4 .f32) : IVec S16384x2 32 :=
  (Host.topK S16384x2 1 (FloatOps.cmpfTotal .gt) p sliceFits_S16384x4_S16384x2).2

/-- The two of a row over their sum. -/
def overSumT (v : FVec Ideal S16384x2 .f32) : FVec Ideal S16384x2 .f32 :=
  Host.divf v (broadcastInDim S16384x2 ![0, 1] bcast_S16384x1_S16384x2_0_1 (broadcastInDim S16384x1 ![0] bcast_S16384_S16384x1_0
    (Host.reduceAdd v (constant S_ .f32 0x00000000#32) reducesTo_S16384x2_S16384_d1 h_S_)))

/-- The two chosen experts. -/
def expertsT (G : IVec S16384 32) (k : IVec S16384x2 32) : IVec S16384x2 32 :=
  addi (broadcastInDim S16384x2 ![0, 1] bcast_S16384x1_S16384x2_0_1 (muli (broadcastInDim S16384x1 ![0] bcast_S16384_S16384x1_0 G)
    (broadcastInDim S16384x1 ![] bcast_S_S16384x1 (constantI S_ 32 4#32)))) k

/-- Every expert's weight. -/
def weightsT (gw : FVec Ideal S16384x1 .f32) (n : FVec Ideal S16384x2 .f32) (e : IVec S16384x2 32) : FVec Ideal S16384x16 .f32 :=
  Host.reduceAdd (mulf (uitofp .f32 (cmpi .eq
      (broadcastInDim S16384x2x16 ![0, 1, 2] bcast_S16384x2x1_S16384x2x16_0_1_2 (broadcastInDim S16384x2x1 ![0, 1] bcast_S16384x2_S16384x2x1_0_1 e))
      (broadcastInDim S16384x2x16 ![0, 1, 2] bcast_S1x1x16_S16384x2x16_0_1_2 (iotaInDim S1x1x16 32 2))))
    (broadcastInDim S16384x2x16 ![0, 1, 2] bcast_S16384x2x1_S16384x2x16_0_1_2 (broadcastInDim S16384x2x1 ![0, 1] bcast_S16384x2_S16384x2x1_0_1
      (mulf (broadcastInDim S16384x2 ![0, 1] bcast_S16384x1_S16384x2_0_1 gw) n))))
    (constant S_ .f32 0x00000000#32) reducesTo_S16384x2x16_S16384x16_d1 h_S_

/-- The experts' sum and the residual. -/
def outT (x : FVec Ideal S2x8192x1024 .f32) (gate : FVec Ideal S2x1024 .f32) (h : FVec Ideal S16384x1024 .f32) (c : FVec Ideal S16384x16 .f32)
    (w1 w3 : FVec Ideal S16x1024x256 .f32) (w2 : FVec Ideal S16x256x1024 .f32) : FVec Ideal S16384x1024 .f32 :=
  shapeCast _ (addf x (mulf (broadcastInDim S2x8192x1024 ![0, 1, 2] bcast_S2x1x1024_S2x8192x1024_0_1_2 (broadcastInDim S2x1x1024 ![0, 2] bcast_S2x1024_S2x1x1024_0_2 gate))
    (shapeCast _ (Host.dotGeneral dot_S16384x16x256_S16x256x1024_S16384x1024_12_01_0_2_n_n none
      (mulf (mulf (mulf (Host.dotGeneral dot_S16384x1024_S16x1024x256_S16384x16x256_1_1_0_02_n_n none h w1)
          (Host.divf (broadcastInDim S16384x16x256 ![] bcast_S_S16384x16x256 (constant S_ .f32 0x3F800000#32))
            (addf (broadcastInDim S16384x16x256 ![] bcast_S_S16384x16x256 (constant S_ .f32 0x3F800000#32))
              (Host.exp (Host.negf (Host.dotGeneral dot_S16384x1024_S16x1024x256_S16384x16x256_1_1_0_02_n_n none h w1))))))
          (Host.dotGeneral dot_S16384x1024_S16x1024x256_S16384x16x256_1_1_0_02_n_n none h w3))
        (broadcastInDim S16384x16x256 ![0, 1, 2] bcast_S16384x16x1_S16384x16x256_0_1_2 (broadcastInDim S16384x16x1 ![0, 1] bcast_S16384x16_S16384x16x1_0_1 c))) w2)
      shapeCasts_S16384x1024_S2x8192x1024))) shapeCasts_S2x8192x1024_S16384x1024

section reads

variable (V : Valuation τ sig (Elt Ideal))

set_option maxHeartbeats 4000000

theorem norm_rows : after opsNorm V (Proc.devRef .tc main_v35)
    = rowsT (V (Proc.devRef .tc main_arg0)) (V (Proc.devRef .tc main_arg1)) (V (Proc.devRef .tc main_arg2)) (V (Proc.devRef .tc main_arg3)) := by
  simp only [opsNorm]; after_results_simp <;> rfl

theorem norm_w16 : after opsNorm V (Proc.devRef .tc main_v4)
    = extractStridedSlice S1024x16 ![0, 0] (V (Proc.devRef .tc main_arg5) : FVec Ideal S1024x128 .f32) slices_S1024x128_S1024x16_0_0 := by
  simp only [opsNorm]; after_results_simp <;> rfl
theorem norm_w4 : after opsNorm V (Proc.devRef .tc main_v5)
    = extractStridedSlice S1024x4 ![0, 16] (V (Proc.devRef .tc main_arg5) : FVec Ideal S1024x128 .f32) slices_S1024x128_S1024x4_0_16 := by
  simp only [opsNorm]; after_results_simp <;> rfl
theorem norm_b16 : after opsNorm V (Proc.devRef .tc main_v7)
    = shapeCast S16 (extractStridedSlice S1x16 ![0, 0] (V (Proc.devRef .tc main_arg6) : FVec Ideal S1x128 .f32) slices_S1x128_S1x16_0_0) shapeCasts_S1x16_S16 := by
  simp only [opsNorm]; after_results_simp <;> rfl
theorem norm_b4 : after opsNorm V (Proc.devRef .tc main_v9)
    = shapeCast S4 (extractStridedSlice S1x4 ![0, 16] (V (Proc.devRef .tc main_arg6) : FVec Ideal S1x128 .f32) slices_S1x128_S1x4_0_16) shapeCasts_S1x4_S4 := by
  simp only [opsNorm]; after_results_simp <;> rfl
theorem norm_x : after opsNorm V (Proc.devRef .tc main_v13)
    = shapeCast S2x8192x1024 (V (Proc.devRef .tc main_arg0) : FVec Ideal S16384x1024 .f32) shapeCasts_S16384x1024_S2x8192x1024 := by
  simp only [opsNorm]; after_results_simp <;> rfl
theorem norm_gate : after opsNorm V (Proc.devRef .tc main_v3)
    = shapeCast S2x1024 (V (Proc.devRef .tc main_arg4) : FVec Ideal S2x1x1024 .f32) shapeCasts_S2x1x1024_S2x1024 := by
  simp only [opsNorm]; after_results_simp <;> rfl
theorem norm_w1 : after opsNorm V (Proc.devRef .tc main_v10)
    = (extf .f32 (V (Proc.devRef .tc main_arg7) : FVec Ideal S16x1024x256 .bf16) bitsLt_bf16_f32 : FVec Ideal S16x1024x256 .f32) := by
  simp only [opsNorm]; after_results_simp <;> rfl
theorem norm_w3 : after opsNorm V (Proc.devRef .tc main_v11)
    = (extf .f32 (V (Proc.devRef .tc main_arg8) : FVec Ideal S16x1024x256 .bf16) bitsLt_bf16_f32 : FVec Ideal S16x1024x256 .f32) := by
  simp only [opsNorm]; after_results_simp <;> rfl
theorem norm_w2 : after opsNorm V (Proc.devRef .tc main_v12)
    = (extf .f32 (V (Proc.devRef .tc main_arg9) : FVec Ideal S16x256x1024 .bf16) bitsLt_bf16_f32 : FVec Ideal S16x256x1024 .f32) := by
  simp only [opsNorm]; after_results_simp <;> rfl

theorem group_at : after opsGroup V (Proc.devRef .tc main_v40)
    = groupT (groupLogitsT (V (Proc.devRef .tc main_v35)) (V (Proc.devRef .tc main_v5)) (V (Proc.devRef .tc main_v9))) := by
  simp only [opsGroup, TRef.quaternary, TRef.nullary, TRef.toBuf, TRef.ofBuf, cast_eq]; after_results_simp <;> rfl

theorem group_weight : after opsGroup V (Proc.devRef .tc main_v53)
    = largestT (softmaxT (groupLogitsT (V (Proc.devRef .tc main_v35)) (V (Proc.devRef .tc main_v5)) (V (Proc.devRef .tc main_v9)))) := by
  simp only [opsGroup, TRef.quaternary, TRef.nullary, TRef.toBuf, TRef.ofBuf, cast_eq]; after_results_simp <;> rfl

theorem member_shares : after opsMember V (Proc.devRef .tc main_v84)
    = softmaxT (membersT (routerT (V (Proc.devRef .tc main_v35)) (V (Proc.devRef .tc main_v4)) (V (Proc.devRef .tc main_v7))) (V (Proc.devRef .tc main_v40))) := by
  simp only [opsMember]; after_results_simp <;> rfl

theorem pick_weights : after opsPick V (Proc.devRef .tc main_v100)
    = weightsT (V (Proc.devRef .tc main_v53)) (overSumT (topT (V (Proc.devRef .tc main_v84))))
        (expertsT (V (Proc.devRef .tc main_v40)) (topAtT (V (Proc.devRef .tc main_v84)))) := by
  simp only [opsPick, TRef.binary, TRef.nullary, TRef.unary, TRef.toBuf, TRef.ofBuf, cast_eq]; after_results_simp <;> rfl

theorem expert_out : after opsExpert V (Proc.devRef .tc main_v114)
    = outT (V (Proc.devRef .tc main_v13)) (V (Proc.devRef .tc main_v3)) (V (Proc.devRef .tc main_v35)) (V (Proc.devRef .tc main_v100))
        (V (Proc.devRef .tc main_v10)) (V (Proc.devRef .tc main_v11)) (V (Proc.devRef .tc main_v12)) := by
  simp only [opsExpert, TRef.binary, TRef.nullary, TRef.unary, TRef.toBuf, TRef.ofBuf, cast_eq]; after_results_simp <;> rfl

/-- What this stretch leaves alone. -/
theorem group_keeps :
    after opsGroup V (Proc.devRef .tc main_v35) = V (Proc.devRef .tc main_v35)
    ∧ after opsGroup V (Proc.devRef .tc main_v4) = V (Proc.devRef .tc main_v4)
    ∧ after opsGroup V (Proc.devRef .tc main_v7) = V (Proc.devRef .tc main_v7)
    ∧ after opsGroup V (Proc.devRef .tc main_v10) = V (Proc.devRef .tc main_v10)
    ∧ after opsGroup V (Proc.devRef .tc main_v11) = V (Proc.devRef .tc main_v11)
    ∧ after opsGroup V (Proc.devRef .tc main_v12) = V (Proc.devRef .tc main_v12)
    ∧ after opsGroup V (Proc.devRef .tc main_v13) = V (Proc.devRef .tc main_v13)
    ∧ after opsGroup V (Proc.devRef .tc main_v3) = V (Proc.devRef .tc main_v3) := by
  refine ⟨?_, ?_, ?_, ?_, ?_, ?_, ?_, ?_⟩ <;> (simp only [opsGroup, TRef.quaternary, TRef.binary, TRef.nullary, TRef.unary, TRef.toBuf, TRef.ofBuf, cast_eq]; after_results_simp <;> rfl)

/-- What this stretch leaves alone. -/
theorem member_keeps :
    after opsMember V (Proc.devRef .tc main_v35) = V (Proc.devRef .tc main_v35)
    ∧ after opsMember V (Proc.devRef .tc main_v40) = V (Proc.devRef .tc main_v40)
    ∧ after opsMember V (Proc.devRef .tc main_v53) = V (Proc.devRef .tc main_v53)
    ∧ after opsMember V (Proc.devRef .tc main_v10) = V (Proc.devRef .tc main_v10)
    ∧ after opsMember V (Proc.devRef .tc main_v11) = V (Proc.devRef .tc main_v11)
    ∧ after opsMember V (Proc.devRef .tc main_v12) = V (Proc.devRef .tc main_v12)
    ∧ after opsMember V (Proc.devRef .tc main_v13) = V (Proc.devRef .tc main_v13)
    ∧ after opsMember V (Proc.devRef .tc main_v3) = V (Proc.devRef .tc main_v3) := by
  refine ⟨?_, ?_, ?_, ?_, ?_, ?_, ?_, ?_⟩ <;> (simp only [opsMember, TRef.quaternary, TRef.binary, TRef.nullary, TRef.unary, TRef.toBuf, TRef.ofBuf, cast_eq]; after_results_simp <;> rfl)

/-- What this stretch leaves alone. -/
theorem pick_keeps :
    after opsPick V (Proc.devRef .tc main_v35) = V (Proc.devRef .tc main_v35)
    ∧ after opsPick V (Proc.devRef .tc main_v10) = V (Proc.devRef .tc main_v10)
    ∧ after opsPick V (Proc.devRef .tc main_v11) = V (Proc.devRef .tc main_v11)
    ∧ after opsPick V (Proc.devRef .tc main_v12) = V (Proc.devRef .tc main_v12)
    ∧ after opsPick V (Proc.devRef .tc main_v13) = V (Proc.devRef .tc main_v13)
    ∧ after opsPick V (Proc.devRef .tc main_v3) = V (Proc.devRef .tc main_v3) := by
  refine ⟨?_, ?_, ?_, ?_, ?_, ?_⟩ <;> (simp only [opsPick, TRef.quaternary, TRef.binary, TRef.nullary, TRef.unary, TRef.toBuf, TRef.ofBuf, cast_eq]; after_results_simp <;> rfl)

/-- No stretch writes an argument. -/
theorem args_keep :
    after opsExpert (after opsPick (after opsMember (after opsGroup (after opsNorm V)))) (Proc.devRef .tc main_arg0) = V (Proc.devRef .tc main_arg0)
    ∧ after opsExpert (after opsPick (after opsMember (after opsGroup (after opsNorm V)))) (Proc.devRef .tc main_arg1) = V (Proc.devRef .tc main_arg1)
    ∧ after opsExpert (after opsPick (after opsMember (after opsGroup (after opsNorm V)))) (Proc.devRef .tc main_arg2) = V (Proc.devRef .tc main_arg2)
    ∧ after opsExpert (after opsPick (after opsMember (after opsGroup (after opsNorm V)))) (Proc.devRef .tc main_arg3) = V (Proc.devRef .tc main_arg3)
    ∧ after opsExpert (after opsPick (after opsMember (after opsGroup (after opsNorm V)))) (Proc.devRef .tc main_arg4) = V (Proc.devRef .tc main_arg4)
    ∧ after opsExpert (after opsPick (after opsMember (after opsGroup (after opsNorm V)))) (Proc.devRef .tc main_arg5) = V (Proc.devRef .tc main_arg5)
    ∧ after opsExpert (after opsPick (after opsMember (after opsGroup (after opsNorm V)))) (Proc.devRef .tc main_arg6) = V (Proc.devRef .tc main_arg6)
    ∧ after opsExpert (after opsPick (after opsMember (after opsGroup (after opsNorm V)))) (Proc.devRef .tc main_arg7) = V (Proc.devRef .tc main_arg7)
    ∧ after opsExpert (after opsPick (after opsMember (after opsGroup (after opsNorm V)))) (Proc.devRef .tc main_arg8) = V (Proc.devRef .tc main_arg8)
    ∧ after opsExpert (after opsPick (after opsMember (after opsGroup (after opsNorm V)))) (Proc.devRef .tc main_arg9) = V (Proc.devRef .tc main_arg9) := by
  refine ⟨?_, ?_, ?_, ?_, ?_, ?_, ?_, ?_, ?_, ?_⟩ <;> (simp only [opsNorm, opsGroup, opsMember, opsPick, opsExpert, TRef.quaternary, TRef.binary, TRef.nullary, TRef.unary, TRef.toBuf, TRef.ofBuf, cast_eq]; after_results_simp <;> rfl)

end reads

/-- The group logits of the rows `h`, from the router's weights. -/
def zT (h : FVec Ideal S16384x1024 .f32) (w : FVec Ideal S1024x128 .f32) (b : FVec Ideal S1x128 .f32) : FVec Ideal S16384x4 .f32 :=
  groupLogitsT h (extractStridedSlice S1024x4 ![0, 16] w slices_S1024x128_S1024x4_0_16)
    (shapeCast S4 (extractStridedSlice S1x4 ![0, 16] b slices_S1x128_S1x4_0_16) shapeCasts_S1x4_S4)

/-- The chosen group's expert logits. -/
def sT (h : FVec Ideal S16384x1024 .f32) (w : FVec Ideal S1024x128 .f32) (b : FVec Ideal S1x128 .f32) : FVec Ideal S16384x4 .f32 :=
  membersT (routerT h (extractStridedSlice S1024x16 ![0, 0] w slices_S1024x128_S1024x16_0_0)
    (shapeCast S16 (extractStridedSlice S1x16 ![0, 0] b slices_S1x128_S1x16_0_0) shapeCasts_S1x16_S16)) (groupT (zT h w b))

/-- Every expert's weight. -/
def combT (h : FVec Ideal S16384x1024 .f32) (w : FVec Ideal S1024x128 .f32) (b : FVec Ideal S1x128 .f32) : FVec Ideal S16384x16 .f32 :=
  weightsT (largestT (softmaxT (zT h w b))) (overSumT (topT (softmaxT (sT h w b))))
    (expertsT (groupT (zT h w b)) (topAtT (softmaxT (sT h w b))))

/-- The whole reference as a function of its arguments. -/
def resultT (x : FVec Ideal S16384x1024 .f32) (g : FVec Ideal S1x1024 .f32) (sh sc gate : FVec Ideal S2x1x1024 .f32) (w : FVec Ideal S1024x128 .f32)
    (b : FVec Ideal S1x128 .f32) (w1 w3 : FVec Ideal S16x1024x256 .bf16) (w2 : FVec Ideal S16x256x1024 .bf16) : FVec Ideal S16384x1024 .f32 :=
  outT (shapeCast S2x8192x1024 x shapeCasts_S16384x1024_S2x8192x1024) (shapeCast S2x1024 gate shapeCasts_S2x1x1024_S2x1024)
    (rowsT x g sh sc) (combT (rowsT x g sh sc) w b) (extf .f32 w1 bitsLt_bf16_f32) (extf .f32 w3 bitsLt_bf16_f32) (extf .f32 w2 bitsLt_bf16_f32)

/-- The last buffer, of the arguments. -/
theorem result_eq (V : Valuation τ sig (Elt Ideal)) :
    after opsExpert (after opsPick (after opsMember (after opsGroup (after opsNorm V)))) (Proc.devRef .tc main_v114)
      = resultT (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) := by
  obtain ⟨p35, p10, p11, p12, p13, p3⟩ := pick_keeps (after opsMember (after opsGroup (after opsNorm V)))
  obtain ⟨m35, m40, m53, m10, m11, m12, m13, m3⟩ := member_keeps (after opsGroup (after opsNorm V))
  obtain ⟨g35, g4, g7, g10, g11, g12, g13, g3⟩ := group_keeps (after opsNorm V)
  rw [expert_out, pick_weights, p35, p10, p11, p12, p13, p3, member_shares, m35, m40, m53, m10, m11, m12, m13, m3,
    group_at, group_weight, g35, g4, g7, g10, g11, g12, g13, g3, norm_rows, norm_w16, norm_w4, norm_b16, norm_b4, norm_x, norm_gate,
    norm_w1, norm_w3, norm_w2]
  rfl

end Cert.MoeRef

end
-- ==== Proof.MoeRefRoute.lean ====
/-
  The reference's routing, token by token: the chosen group, the two chosen experts and every expert's weight.
-/
module

public import proofs.«01_k».proof.Proof.MoeStages
public import proofs.«01_k».proof.Proof.Routing

@[expose] public section

set_option maxRecDepth 16384

noncomputable section

namespace Cert.MoeRef

open Cert.MoeReferenceIdeal Cert.MoeReferenceIdeal.Gen Cert.Routing Idealize.ShloMosaic Idealize.ShloMosaic.TcCoe Idealize.SL.Sem Idealize.ShloMosaic.StableHlo

/-! ## The two largest of a row -/

/-- How the reference's top-two orders a row: strictly larger first. -/
def before (s : Fin 4 → EReal) (k k' : Fin 4) : Bool :=
  (FloatOps.cmpfTotal (F := Ideal) (φ := .f32) CmpDirection.gt (s k) (s k')) == 1#1

theorem before_iff (s : Fin 4 → EReal) (k k' : Fin 4) : before s k k' = true ↔ s k' < s k := by
  unfold before
  rw [Ideal.cmpfTotal_def, beq_iff_eq]
  exact ofBool_iff _

theorem sort2_row (cmp : EReal → EReal → BitVec 1) (x : S16384x4.Idx → EReal) (y : S16384x4.Idx → BitVec 32) (q : Fin 16384) (k : Fin 4) :
    (Host.sort2 S16384x4 1 (fun l r => cmp l.1 r.1) x y).1 (ix2 q k)
        = x (ix2 q (sortedFrom (fun c c' => cmp (x (ix2 q c)) (x (ix2 q c')) == 1#1) k)) ∧
      (Host.sort2 S16384x4 1 (fun l r => cmp l.1 r.1) x y).2 (ix2 q k)
        = y (ix2 q (sortedFrom (fun c c' => cmp (x (ix2 q c)) (x (ix2 q c')) == 1#1) k)) := by
  have key : ∀ c : Fin 4, (ix2 q k : S16384x4.Idx).along 1 c = (ix2 q c : S16384x4.Idx) := by
    intro c; funext d; match d with | 0 => rfl | 1 => rfl
  constructor
  · show x ((ix2 q k : S16384x4.Idx).along 1 (sortedFrom (fun c c' : Fin 4 => cmp (x ((ix2 q k : S16384x4.Idx).along 1 c)) (x ((ix2 q k : S16384x4.Idx).along 1 c')) == 1#1) k)) = _
    simp only [key]
    exact congrArg _ (key _)
  · show y ((ix2 q k : S16384x4.Idx).along 1 (sortedFrom (fun c c' : Fin 4 => cmp (x ((ix2 q k : S16384x4.Idx).along 1 c)) (x ((ix2 q k : S16384x4.Idx).along 1 c')) == 1#1) k)) = _
    simp only [key]
    exact congrArg _ (key _)

theorem front_two {α : Type} (z : S16384x4.Idx → α) (q : Fin 16384) (k : Fin 2) :
    extractStridedSlice S16384x2 (fun _ => 0) z sliceFits_S16384x4_S16384x2 (ix2 q k) = z (ix2 q ⟨k.val, by omega⟩) := by
  unfold extractStridedSlice
  refine congrArg z (funext fun a => ?_)
  match a with
  | 0 => exact Fin.ext (Nat.zero_add _)
  | 1 => exact Fin.ext (Nat.zero_add _)

theorem topT_at (p : FVec Ideal S16384x4 .f32) (s : Fin 4 → EReal) (q : Fin 16384) (hp : ∀ k, (p (ix2 q k) : EReal) = s k) (k : Fin 2) :
    (topT p (ix2 q k) : EReal) = s (sortedFrom (before s) ⟨k.val, by omega⟩) ∧
      topAtT p (ix2 q k) = BitVec.ofNat 32 (sortedFrom (before s) ⟨k.val, by omega⟩).val := by
  obtain rfl : s = fun k => (p (ix2 q k) : EReal) := funext fun k => (hp k).symm
  constructor
  · exact (front_two (Host.sort2 S16384x4 1 (fun l r => FloatOps.cmpfTotal (F := Ideal) (φ := .f32) .gt l.1 r.1) p (iotaInDim S16384x4 32 1)).1 q k).trans
      (sort2_row _ p (iotaInDim S16384x4 32 1) q _).1
  · exact (front_two (Host.sort2 S16384x4 1 (fun l r => FloatOps.cmpfTotal (F := Ideal) (φ := .f32) .gt l.1 r.1) p (iotaInDim S16384x4 32 1)).2 q k).trans
      (sort2_row _ p (iotaInDim S16384x4 32 1) q _).2

/-! ## The chosen group -/

theorem argmax_step : reducer_argmax_f32_i32 (F := Ideal) = larger := by
  funext a b
  unfold reducer_argmax_f32_i32 larger
  simp only [Ideal.cmpf_def, Ideal.cmp]
  by_cases h1 : b.1 < a.1 <;> by_cases h2 : a.1 = b.1 <;> by_cases h3 : a.2.toInt < b.2.toInt <;>
    simp [Scalar.select, IntOp.ori, IntOp.andi, IntOp.cmpi, BitVec.slt, h1, h2, h3] <;> exact Prod.ext h2.symm rfl

theorem drop_at (q : Fin 16384) (k : Fin 4) : reducesTo_S16384x4_S16384_d1.drop (ix2 q k) = (ix1 q : S16384.Idx) := by
  funext d; match d with | 0 => rfl

theorem groupT_at (z : FVec Ideal S16384x4 .f32) (s : Fin 4 → EReal) (q : Fin 16384) (hz : ∀ k, (z (ix2 q k) : EReal) = s k) (hs : ∀ k, ⊥ < s k) :
    groupT z (ix1 q) = BitVec.ofNat 32 (first s).val := by
  unfold groupT
  rw [Ideal.argReduce_eq_reduce2, Host.reduce2_eq_foldl_fiber, argmax_step]
  change (List.foldl larger (Ideal.ofBits FTy.f32 0xFF800000#32, 0#32) _).2 = _
  rw [bottom]
  refine larger_first s hs _ fun p => ?_
  unfold Host.argReduceFiber
  simp only [List.mem_map, List.mem_filter, List.mem_finRange, true_and, decide_eq_true_eq]
  constructor
  · rintro ⟨n, hn, rfl⟩
    generalize S16384x4.rowMajor.symm n = y at hn ⊢
    obtain ⟨a, b, rfl⟩ : ∃ (a : Fin 16384) (b : Fin 4), y = ix2 a b := ⟨y 0, y 1, by idx_vars y⟩
    rw [drop_at] at hn
    have haq : a = q := congrFun hn 0
    subst haq
    rw [← funext hz]
    exact ⟨b, rfl⟩
  · rintro ⟨k, rfl⟩
    refine ⟨S16384x4.rowMajor (ix2 q k), ?_, ?_⟩
    · rw [Equiv.symm_apply_apply]; exact drop_at q k
    · rw [Equiv.symm_apply_apply, ← hz]; rfl

/-! ## The chosen group's logits -/

theorem token_int : ∀ q : Fin 16384, (Scalar.select (IntOp.cmpi CmpIPredicate.slt (BitVec.ofNat 32 q.val) 0#32) (IntOp.addi (BitVec.ofNat 32 q.val) 16384#32)
    (BitVec.ofNat 32 q.val)).toInt.toNat = q.val := by
  intro q
  have h : (BitVec.ofNat 32 q.val).toInt = (q.val : Int) := by
    rw [BitVec.toInt_eq_toNat_of_lt (by rw [BitVec.toNat_ofNat]; omega), BitVec.toNat_ofNat, Nat.mod_eq_of_lt (by omega)]
  have h0 : IntOp.cmpi CmpIPredicate.slt (BitVec.ofNat 32 q.val) 0#32 = 0#1 := by
    simp only [IntOp.cmpi, BitVec.slt, h]
    rw [decide_eq_false (by simp)]; rfl
  rw [h0]
  simp [Scalar.select, h]

theorem group_int : ∀ g : Fin 4, (Scalar.select (IntOp.cmpi CmpIPredicate.slt (BitVec.ofNat 32 g.val) 0#32) (IntOp.addi (BitVec.ofNat 32 g.val) 4#32)
    (BitVec.ofNat 32 g.val)).toInt.toNat = g.val := by decide

set_option maxHeartbeats 1000000 in
theorem membersT_at (r : FVec Ideal S16384x4x4 .f32) (G : IVec S16384 32) (q : Fin 16384) (g : Fin 4) (hg : G (ix1 q) = BitVec.ofNat 32 g.val) (k : Fin 4) :
    (membersT r G (ix2 q k) : EReal) = r (ix3 q g k) := by
  have h0 : (placesT G (ix2 q 0)).toInt.toNat = q.val := by
    unfold placesT
    pointwise
    exact token_int q
  have h1 : (placesT G (ix2 q 1)).toInt.toNat = g.val := by
    unfold placesT
    pointwise
    simp only [hg]
    exact group_int g
  unfold membersT Host.gather
  have hsi0 : gather_S16384x4x4_S16384x2_S16384x4_1_01_n_n_01_1_114.siIdx (ix2 q k) ⟨0, by decide⟩ = (ix2 q 0 : S16384x2.Idx) := by
    funext b; match b with | 0 => rfl | 1 => rfl
  have hsi1 : gather_S16384x4x4_S16384x2_S16384x4_1_01_n_n_01_1_114.siIdx (ix2 q k) ⟨1, by decide⟩ = (ix2 q 1 : S16384x2.Idx) := by
    funext b; match b with | 0 => rfl | 1 => rfl
  generalize placesT G = P at *
  refine congrArg r (funext fun a => ?_)
  match a with
  | 0 =>
    apply Fin.ext
    have : (gather_S16384x4x4_S16384x2_S16384x4_1_01_n_n_01_1_114.operandIdx (ix2 q k) P 0).val = min (P (gather_S16384x4x4_S16384x2_S16384x4_1_01_n_n_01_1_114.siIdx (ix2 q k) ⟨0, by decide⟩)).toInt.toNat 16383 + 0 + 0 := rfl
    rw [this, hsi0, h0]; show min q.val 16383 + 0 + 0 = q.val; omega
  | 1 =>
    apply Fin.ext
    have : (gather_S16384x4x4_S16384x2_S16384x4_1_01_n_n_01_1_114.operandIdx (ix2 q k) P 1).val = min (P (gather_S16384x4x4_S16384x2_S16384x4_1_01_n_n_01_1_114.siIdx (ix2 q k) ⟨1, by decide⟩)).toInt.toNat 3 + 0 + 0 := rfl
    rw [this, hsi1, h1]; show min g.val 3 + 0 + 0 = g.val; omega
  | 2 =>
    apply Fin.ext
    show 0 + 0 + k.val = k.val
    omega

/-! ## The softmax of real logits -/

/-- The softmax of a row of real logits. -/
theorem softmaxT_at (z : FVec Ideal S16384x4 .f32) (f : Fin 4 → ℝ) (q : Fin 16384) (hz : ∀ k, (z (ix2 q k) : EReal) = (f k : EReal)) :
    ∃ S : ℝ, 0 < S ∧ (S : EReal) = ∑ k, Ideal.exp ((f k : EReal) - (f (first fun k => (f k : EReal)) : EReal)) ∧
      ∀ k, (softmaxT z (ix2 q k) : EReal) = share (f (first fun k => (f k : EReal)) : EReal) S (f k) := by
  obtain ⟨S, hS, hsum⟩ := sum_exp_real f (f (first fun k => (f k : EReal)))
  refine ⟨S, hS, hsum.symm, fun k => ?_⟩
  unfold softmaxT
  pointwise
  have hmax : max (Ideal.ofBits FTy.f32 0xFF800000#32) (Finset.fold max (Ideal.ofBits FTy.f32 0xFF800000#32) (fun x => (z (ix2 q x) : EReal)) Finset.univ)
      = (f (first fun k => (f k : EReal)) : EReal) := by
    rw [bottom, funext hz, fold_max_first (first_spec fun k => (f k : EReal))]
    exact max_eq_right bot_le
  rw [hmax]
  simp only [hz]
  rw [hsum]
  rfl

theorem largestT_softmaxT_at (z : FVec Ideal S16384x4 .f32) (f : Fin 4 → ℝ) (q : Fin 16384) (hz : ∀ k, (z (ix2 q k) : EReal) = (f k : EReal)) :
    (largestT (softmaxT z) (ix2 q 0) : EReal) = groupWeight fun k => (f k : EReal) := by
  obtain ⟨S, hS, hsum, h⟩ := softmaxT_at z f q hz
  have hl : ∀ p : FVec Ideal S16384x4 .f32, (largestT p (ix2 q 0) : EReal)
      = Finset.univ.fold max (Ideal.ofBits FTy.f32 0xFF800000#32) fun x => (p (ix2 q x) : EReal) := by
    intro p
    unfold largestT
    pointwise
  rw [hl, bottom, funext h, fold_max_first (first_share f _ S hS)]
  unfold share groupWeight
  rw [← hsum, ← EReal.coe_sub, sub_self, Ideal.exp_coe, Real.exp_zero, EReal.coe_one]

/-! ## The two chosen experts and the weights -/

theorem overSumT_at (v : FVec Ideal S16384x2 .f32) (q : Fin 16384) (k : Fin 2) :
    (overSumT v (ix2 q k) : EReal) = Ideal.div (v (ix2 q k)) (v (ix2 q 0) + v (ix2 q 1)) := by
  unfold overSumT
  pointwise
  rw [Fin.sum_univ_two]

theorem expert_number : ∀ g c : Fin 4, IntOp.addi (IntOp.muli (BitVec.ofNat 32 g.val) 4#32) (BitVec.ofNat 32 c.val)
    = BitVec.ofNat 32 (4 * g.val + c.val) := by decide

theorem expertsT_at (G : IVec S16384 32) (y : IVec S16384x2 32) (q : Fin 16384) (k : Fin 2) (g c : Fin 4)
    (hg : G (ix1 q) = BitVec.ofNat 32 g.val) (hy : y (ix2 q k) = BitVec.ofNat 32 c.val) :
    expertsT G y (ix2 q k) = BitVec.ofNat 32 (4 * g.val + c.val) := by
  unfold expertsT
  pointwise
  rw [hg, hy]
  exact expert_number g c

theorem onehot : ∀ (g c : Fin 4) (e : Fin 16), IntOp.cmpi CmpIPredicate.eq (BitVec.ofNat 32 (4 * g.val + c.val)) (BitVec.ofNat 32 e.val)
    = if e.val = 4 * g.val + c.val then 1#1 else 0#1 := by decide +kernel

theorem weightsT_at (gw : FVec Ideal S16384x1 .f32) (n : FVec Ideal S16384x2 .f32) (y : IVec S16384x2 32) (q : Fin 16384) (e : Fin 16) (g c c' : Fin 4)
    (h0 : y (ix2 q 0) = BitVec.ofNat 32 (4 * g.val + c.val)) (h1 : y (ix2 q 1) = BitVec.ofNat 32 (4 * g.val + c'.val)) (hc : c' ≠ c) :
    (weightsT gw n y (ix2 q e) : EReal)
      = if e.val = 4 * g.val + c.val then gw (ix2 q 0) * n (ix2 q 0)
        else if e.val = 4 * g.val + c'.val then gw (ix2 q 0) * n (ix2 q 1) else 0 := by
  unfold weightsT
  pointwise
  rw [Fin.sum_univ_two, h0, h1, onehot, onehot]
  have hne : c'.val ≠ c.val := fun h => hc (Fin.ext h)
  have u1 : (FloatOps.uitofp (F := Ideal) FTy.f32 1#1 : EReal) = 1 := by
    show (((1#1 : BitVec 1).toNat : ℝ) : EReal) = 1
    simp
  have u0 : (FloatOps.uitofp (F := Ideal) FTy.f32 0#1 : EReal) = 0 := by
    show (((0#1 : BitVec 1).toNat : ℝ) : EReal) = 0
    simp
  by_cases hk : e.val = 4 * g.val + c.val
  · have hk' : ¬ e.val = 4 * g.val + c'.val := by omega
    rw [if_pos hk, if_neg hk', if_pos hk, u1, u0, one_mul, zero_mul, add_zero]
  · by_cases hk' : e.val = 4 * g.val + c'.val
    · rw [if_neg hk, if_pos hk', if_neg hk, if_pos hk', u1, u0, one_mul, zero_mul, zero_add]
    · rw [if_neg hk, if_neg hk', if_neg hk, if_neg hk', u0, zero_mul, zero_mul, zero_add]

end Cert.MoeRef

end

end
-- ==== Proof.MoeRefValue.lean ====
/-
  The expert layer's reference: its result's rows are the layer's formula.
-/
module

public import proofs.«01_k».proof.Proof.MoeRefRoute
public import proofs.«01_k».proof.Proof.Experts

@[expose] public section

set_option maxRecDepth 16384

noncomputable section

namespace Cert.MoeRef

open Cert.MoeReferenceIdeal Cert.MoeReferenceIdeal.Gen Idealize.ShloMosaic Idealize.ShloMosaic.TcCoe Idealize.SL.Sem Idealize.ShloMosaic.StableHlo
open Cert.Routing Cert.Rows Cert.MixReferenceIdeal.Tokens

theorem rowsT_at (x : FVec Ideal S16384x1024 .f32) (g : FVec Ideal S1x1024 .f32) (sh sc : FVec Ideal S2x1x1024 .f32) (q : Fin 16384) (l : Fin 1024) :
    (rowsT x g sh sc (ix2 q l) : EReal)
      = modulated (fun l => x (ix2 q l)) (fun l => g (ix2 0 l)) (fun l => sh (ix3 (batch q) 0 l)) (fun l => sc (ix3 (batch q) 0 l)) l := by
  refine Eq.trans ?_ (hT_at x g sh sc q l)
  unfold rowsT
  pointwise

section router

variable (h : FVec Ideal S16384x1024 .f32) (w : FVec Ideal S1024x128 .f32) (b : FVec Ideal S1x128 .f32) (q : Fin 16384)

/-- A row's logits. -/
abbrev logits (l : Fin 128) : EReal := logit (fun j => h (ix2 q j)) (fun j l => w (ix2 j l)) (fun l => b (ix2 0 l)) l

theorem zT_at (k : Fin 4) : (zT h w b (ix2 q k) : EReal) = logits h w b q ⟨16 + k.val, by omega⟩ := by
  unfold zT groupLogitsT
  pointwise
  rfl

theorem routerT_at (g k : Fin 4) : (routerT h (extractStridedSlice S1024x16 ![0, 0] w slices_S1024x128_S1024x16_0_0)
    (shapeCast S16 (extractStridedSlice S1x16 ![0, 0] b slices_S1x128_S1x16_0_0) shapeCasts_S1x16_S16) (ix3 q g k) : EReal)
      = logits h w b q ⟨4 * g.val + k.val, by omega⟩ := by
  have e : (⟨g.val * 4 + k.val, by omega⟩ : Fin 128) = ⟨4 * g.val + k.val, by omega⟩ := Fin.ext (by dsimp only; omega)
  unfold routerT
  pointwise
  simp only [e]
  rfl

/-- The reference's weights are the layer's. -/
theorem combT_at (hL : ∀ l : Fin 128, l.val < 20 → IsReal (logits h w b q l)) (e : Fin 16) :
    (combT h w b (ix2 q e) : EReal) = routed (logits h w b q) e := by
  choose f hf using fun k : Fin 4 => hL ⟨16 + k.val, by omega⟩ (by show 16 + k.val < 20; omega)
  have hz : ∀ k, (zT h w b (ix2 q k) : EReal) = (f k : EReal) := fun k => (zT_at h w b q k).trans (hf k)
  have hF : (fun k : Fin 4 => logits h w b q ⟨16 + k.val, by omega⟩) = fun k => (f k : EReal) := funext hf
  have hG := groupT_at (zT h w b) (fun k => (f k : EReal)) q hz fun k => EReal.bot_lt_coe _
  generalize hg : first (fun k => (f k : EReal)) = g at hG
  choose s hs using fun k : Fin 4 => hL ⟨4 * g.val + k.val, by omega⟩ (by show 4 * g.val + k.val < 20; omega)
  have hS : members (fun k => logits h w b q ⟨k.val, by omega⟩) g = fun k => (s k : EReal) := funext hs
  have hm : ∀ k, (sT h w b (ix2 q k) : EReal) = (s k : EReal) := fun k => by
    unfold sT
    exact (membersT_at _ _ q g hG k).trans ((routerT_at h w b q g k).trans (hs k))
  obtain ⟨S, hS0, -, hp⟩ := softmaxT_at (sT h w b) s q hm
  generalize hM : first (fun k => (s k : EReal)) = a at hp
  have hbest : best (fun k => (s k : EReal)) = a := hM
  have hbot : ∀ k, (⊥ : EReal) < share (s a : EReal) S (s k) := fun k => by
    rw [share_real _ _ _ hS0]; exact EReal.bot_lt_coe _
  have t0 := topT_at (softmaxT (sT h w b)) (fun k => share (s a : EReal) S (s k)) q hp 0
  have t1 := topT_at (softmaxT (sT h w b)) (fun k => share (s a : EReal) S (s k)) q hp 1
  have p0 : sortedFrom (before fun k => share (s a : EReal) S (s k)) 0 = a :=
    (sortedFrom_best _ _ (before_iff _)).trans ((best_share s (s a) S hS0).trans hbest)
  have p1 : sortedFrom (before fun k => share (s a : EReal) S (s k)) 1 = second fun k => (s k : EReal) :=
    (sortedFrom_second _ hbot _ (before_iff _)).trans (second_share s (s a) S hS0)
  rw [show (⟨(0 : Fin 2).val, by omega⟩ : Fin 4) = 0 from rfl, p0] at t0
  rw [show (⟨(1 : Fin 2).val, by omega⟩ : Fin 4) = 1 from rfl, p1] at t1
  have hne : second (fun k => (s k : EReal)) ≠ a := by
    rw [← hbest]; exact second_ne_best _ fun k => EReal.bot_lt_coe _
  have hren := renormalise (s a) (s (second fun k => (s k : EReal))) S hS0
  have hodds : odds (fun k => (s k : EReal)) = Ideal.exp ((s (second fun k => (s k : EReal)) : EReal) - (s a : EReal)) := by
    unfold odds; rw [hbest]
  unfold combT
  rw [weightsT_at _ _ _ q e g a (second fun k => (s k : EReal)) (expertsT_at _ _ q 0 g a hG t0.2) (expertsT_at _ _ q 1 g _ hG t1.2) hne,
    overSumT_at, overSumT_at, t0.1, t1.1, hren.1, hren.2, largestT_softmaxT_at _ f q hz]
  unfold routed weight
  rw [hF, hg, hS, hbest, hodds]

end router

theorem outT_at (x : FVec Ideal S2x8192x1024 .f32) (gate : FVec Ideal S2x1024 .f32) (h : FVec Ideal S16384x1024 .f32) (c : FVec Ideal S16384x16 .f32)
    (w1 w3 : FVec Ideal S16x1024x256 .f32) (w2 : FVec Ideal S16x256x1024 .f32) (q : Fin 16384) (l : Fin 1024) :
    (outT x gate h c w1 w3 w2 (ix2 q l) : EReal) = x (ix3 (batch q) (token q) l) + gate (ix2 (batch q) l)
      * ∑ e, expert (fun j => h (ix2 q j)) (fun j f => w1 (ix3 e j f)) (fun j f => w3 (ix3 e j f)) (fun f l => w2 (ix3 e f l)) (c (ix2 q e)) l := by
  have e : (⟨q.val / 8192 * 8192 + q.val % 8192, by omega⟩ : Fin 16384) = q := Fin.ext (by dsimp only; omega)
  unfold outT
  pointwise
  rfl

/-- The reference's result at a row, wherever the router's logits are real. -/
theorem resultT_at (x : FVec Ideal S16384x1024 .f32) (g : FVec Ideal S1x1024 .f32) (sh sc gate : FVec Ideal S2x1x1024 .f32) (w : FVec Ideal S1024x128 .f32)
    (b : FVec Ideal S1x128 .f32) (w1 w3 : FVec Ideal S16x1024x256 .bf16) (w2 : FVec Ideal S16x256x1024 .bf16) (q : Fin 16384)
    (hL : ∀ l : Fin 128, l.val < 20 → IsReal (logit (modulated (fun l => x (ix2 q l)) (fun l => g (ix2 0 l)) (fun l => sh (ix3 (batch q) 0 l))
      (fun l => sc (ix3 (batch q) 0 l))) (fun j l => w (ix2 j l)) (fun l => b (ix2 0 l)) l)) (l : Fin 1024) :
    (resultT x g sh sc gate w b w1 w3 w2 (ix2 q l) : EReal)
      = layer (fun l => x (ix2 q l)) (fun l => g (ix2 0 l)) (fun l => sh (ix3 (batch q) 0 l)) (fun l => sc (ix3 (batch q) 0 l))
          (fun l => gate (ix3 (batch q) 0 l)) (fun j l => w (ix2 j l)) (fun l => b (ix2 0 l)) (fun e j f => w1 (ix3 e j f)) (fun e j f => w3 (ix3 e j f))
          (fun e f l => w2 (ix3 e f l)) l := by
  have hrow : (fun j => (rowsT x g sh sc (ix2 q j) : EReal)) = modulated (fun l => x (ix2 q l)) (fun l => g (ix2 0 l))
      (fun l => sh (ix3 (batch q) 0 l)) (fun l => sc (ix3 (batch q) 0 l)) := funext fun j => rowsT_at x g sh sc q j
  have hlog : logits (rowsT x g sh sc) w b q = logit (modulated (fun l => x (ix2 q l)) (fun l => g (ix2 0 l))
      (fun l => sh (ix3 (batch q) 0 l)) (fun l => sc (ix3 (batch q) 0 l))) (fun j l => w (ix2 j l)) (fun l => b (ix2 0 l)) :=
    congrArg (fun h => logit h (fun j l => (w (ix2 j l) : EReal)) (fun l => (b (ix2 0 l) : EReal))) hrow
  have hx : ((shapeCast S2x8192x1024 x shapeCasts_S16384x1024_S2x8192x1024) (ix3 (batch q) (token q) l) : EReal) = x (ix2 q l) := by
    have e : (⟨q.val / 8192 * 8192 + q.val % 8192, by omega⟩ : Fin 16384) = q := Fin.ext (by dsimp only; omega)
    pointwise
    rw [e]
  have hgate : ((shapeCast S2x1024 gate shapeCasts_S2x1x1024_S2x1024) (ix2 (batch q) l) : EReal) = gate (ix3 (batch q) 0 l) := by
    pointwise
  have hcomb : ∀ e, (combT (rowsT x g sh sc) w b (ix2 q e) : EReal) = routed (logit (modulated (fun l => x (ix2 q l)) (fun l => g (ix2 0 l))
      (fun l => sh (ix3 (batch q) 0 l)) (fun l => sc (ix3 (batch q) 0 l))) (fun j l => w (ix2 j l)) (fun l => b (ix2 0 l))) e := fun e => by
    rw [← hlog]
    exact combT_at (rowsT x g sh sc) w b q (by rw [hlog]; exact hL) e
  unfold resultT
  rw [outT_at, hx, hgate, hrow]
  simp only [hcomb]
  rfl

end Cert.MoeRef

end
-- ==== Proof.MoeClaim.lean ====
/-
  The expert layer's claims: kernel and reference end with the same array, wherever the norm's weights, the
  modulation and the router are finite.
-/
module

public import proofs.«01_k».proof.Defs
public import proofs.«01_k».proof.Proof.MoeKernel
public import proofs.«01_k».proof.Proof.MoeRefValue
public import proofs.«01_k».proof.Proof.Gen.MoeIdeal
public import proofs.«01_k».proof.Proof.Gen.MoeReferenceIdeal

@[expose] public section

set_option maxRecDepth 16384

noncomputable section

namespace Cert.Proof

open Idealize.ShloMosaic Idealize.ShloMosaic.TcCoe Idealize.SL.Sem Idealize.ShloMosaic.StableHlo
open Cert.Routing

/-- The precondition's shape relations. -/
theorem finite_facts : Cert.Pre_finite.Facts where
  slices_S1024x128_S1024x20_0_0 := by decide
  slices_S1x128_S1x20_0_0 := by decide
  bcast_S_S1x1024 := by decide
  bcast_S_S2x1x1024 := by decide
  bcast_S_S1024x20 := by decide
  bcast_S_S1x20 := by decide

section finite

open Cert.Pre_finite

/-- The precondition's comparison at one place. -/
theorem real_of_one (a : EReal)
    (h : BitVec.ofBool (decide (FloatOps.absf (F := Ideal) (φ := .f32) a < Ideal.ofBits FTy.f32 0x7F800000#32)) = 1#1) : IsReal a :=
  isReal_of_absf (by rw [ofBool_iff, top] at h; exact h)

attribute [local instance] finite_facts

variable (x : FVec Ideal S16384x1024 .f32) (g : FVec Ideal S1x1024 .f32) (sh sc gate : FVec Ideal S2x1x1024 .f32) (w : FVec Ideal S1024x128 .f32)
  (b : FVec Ideal S1x128 .f32) (w1 w3 : FVec Ideal S16x1024x256 .bf16) (w2 : FVec Ideal S16x256x1024 .bf16)

theorem g_real (h : (fn (F := Ideal) x g sh sc gate w b w1 w3 w2).1 = fun _ => 1#1) (l : Fin 1024) : IsReal (g (ix2 0 l)) :=
  real_of_one _ (congrFun h (ix2 0 l))

theorem shift_real (h : (fn (F := Ideal) x g sh sc gate w b w1 w3 w2).2.1 = fun _ => 1#1) (q : Fin 2) (l : Fin 1024) : IsReal (sh (ix3 q 0 l)) :=
  real_of_one _ (congrFun h (ix3 q 0 l))

theorem scale_real (h : (fn (F := Ideal) x g sh sc gate w b w1 w3 w2).2.2.1 = fun _ => 1#1) (q : Fin 2) (l : Fin 1024) : IsReal (sc (ix3 q 0 l)) :=
  real_of_one _ (congrFun h (ix3 q 0 l))

theorem router_real (h : (fn (F := Ideal) x g sh sc gate w b w1 w3 w2).2.2.2.1 = fun _ => 1#1) (j : Fin 1024) (l : Fin 128) (hl : l.val < 20) :
    IsReal (w (ix2 j l)) := by
  have e : (extractStridedSlice S1024x20 ![0, 0] w finite_facts.slices_S1024x128_S1024x20_0_0 (ix2 j ⟨l.val, hl⟩) : EReal) = w (ix2 j l) := by
    pointwise
  rw [← e]
  exact real_of_one _ (congrFun h (ix2 j ⟨l.val, hl⟩))

theorem bias_real (h : (fn (F := Ideal) x g sh sc gate w b w1 w3 w2).2.2.2.2 = fun _ => 1#1) (l : Fin 128) (hl : l.val < 20) :
    IsReal (b (ix2 0 l)) := by
  have e : (extractStridedSlice S1x20 ![0, 0] b finite_facts.slices_S1x128_S1x20_0_0 (ix2 0 ⟨l.val, hl⟩) : EReal) = b (ix2 0 l) := by
    pointwise
  rw [← e]
  exact real_of_one _ (congrFun h (ix2 0 ⟨l.val, hl⟩))

end finite

/-- The expert layer's reference leaves its arguments and its counters. -/
theorem moe_reference_quiescent : Cert.quiescent_MoeReferenceIdeal (hMoeReferenceIdeal := Cert.MoeReferenceIdeal.Gen.facts) := by
  intro m g hpre
  refine (θ_run _ _ _).mono (fun r h => ⟨fun c => ?_, sem_eq_zero_of_no_sems (by decide) _⟩) (Cert.MoeRef.run m g)
  obtain ⟨k0, k1, k2, k3, k4, k5, k6, k7, k8, k9⟩ := Cert.MoeRef.args_keep (launchContents m c)
  exact ⟨(h c _).trans k0, (h c _).trans k1, (h c _).trans k2, (h c _).trans k3, (h c _).trans k4, (h c _).trans k5, (h c _).trans k6,
    (h c _).trans k7, (h c _).trans k8, (h c _).trans k9⟩

set_option maxHeartbeats 1600000 in
/-- Kernel and reference end with the same rows of the expert layer. -/
theorem experts : Cert.algebraic_MoeIdeal_MoeReferenceIdeal_pre_finite (hMoeIdeal := Cert.MoeIdeal.Gen.facts)
    (hMoeReferenceIdeal := Cert.MoeReferenceIdeal.Gen.facts) (hPre_finite := finite_facts) := by
  intro m g m' g' hpre hagree
  refine ⟨fun c => (Cert.MoeIdeal.Gen.dats m 0 c).arrAt 10 Cert.MoeIdeal.cfg0.N, Cert.MoeIdeal.Value.run_blocks m g, ?_⟩
  refine (θ_run _ _ _).mono (fun r h c => ?_) (Cert.MoeRef.run m' g')
  obtain ⟨a0, a1, a2, a3, a4, a5, a6, a7, a8, a9⟩ := hagree c
  obtain ⟨p1, p2, p3, p5, p6⟩ := hpre c
  obtain ⟨k0, k1, k2, k3, k4, k5, k6, k7, k8, k9⟩ := Cert.MoeRef.args_keep (launchContents m' c)
  have hrow : ∀ q j, IsReal (Cert.MoeIdeal.Tokens.rowAt m c q j) := fun q j =>
    modulated_real _ _ _ _ (g_real _ _ _ _ _ _ _ _ _ _ p1) (shift_real _ _ _ _ _ _ _ _ _ _ p2 _)
      (scale_real _ _ _ _ _ _ _ _ _ _ p3 _) j
  have hw := router_real _ _ _ _ _ _ _ _ _ _ p5
  have hlog : ∀ q (l : Fin 128), l.val < 20 → IsReal (Cert.MoeIdeal.Tokens.logitAt m c q l) := fun q l hl =>
    logit_real _ _ _ l (hrow q) (fun j => hw j l hl) (bias_real _ _ _ _ _ _ _ _ _ _ p6 l hl)
  refine ⟨(h c _).trans ((Cert.MoeRef.result_eq (launchContents m' c)).trans ?_),
    (h c _).trans k0, (h c _).trans k1, (h c _).trans k2, (h c _).trans k3, (h c _).trans k4, (h c _).trans k5, (h c _).trans k6,
    (h c _).trans k7, (h c _).trans k8, (h c _).trans k9⟩
  refine Eq.trans ?_ (Cert.MoeIdeal.Tokens.final m c hrow hw hlog).symm
  have e : Cert.MoeRef.resultT (m' (c.tc.loc Cert.MoeReferenceIdeal.main_arg0)) (m' (c.tc.loc Cert.MoeReferenceIdeal.main_arg1))
      (m' (c.tc.loc Cert.MoeReferenceIdeal.main_arg2)) (m' (c.tc.loc Cert.MoeReferenceIdeal.main_arg3)) (m' (c.tc.loc Cert.MoeReferenceIdeal.main_arg4))
      (m' (c.tc.loc Cert.MoeReferenceIdeal.main_arg5)) (m' (c.tc.loc Cert.MoeReferenceIdeal.main_arg6)) (m' (c.tc.loc Cert.MoeReferenceIdeal.main_arg7))
      (m' (c.tc.loc Cert.MoeReferenceIdeal.main_arg8)) (m' (c.tc.loc Cert.MoeReferenceIdeal.main_arg9)) = Cert.MoeIdeal.Tokens.REF m c := by
    rw [a0, a1, a2, a3, a4, a5, a6, a7, a8, a9]
    refine funext fun z => ?_
    obtain ⟨q, l, rfl⟩ : ∃ (q : Fin 16384) (l : Fin 1024), z = ix2 q l := ⟨z 0, z 1, by idx_vars z⟩
    exact Cert.MoeRef.resultT_at _ _ _ _ _ _ _ _ _ _ q (hlog q) l
  exact e

end Cert.Proof

end
-- ==== Proof.Projection.lean ====
/-
  The projections of one token, of rows given as functions of the lane: a head's root-mean-square norm, the rotation
  of its two halves by the position's angles, and both as they are written for two heads side by side in 128 lanes.
-/
module

public import proofs.«01_k».proof.Proof.Rows
public import proofs.«01_k».proof.Proof.Experts

@[expose] public section

noncomputable section

open Idealize.ShloMosaic

namespace Cert.Projection

open Cert.Rows Cert.Routing

/-- A head's lanes normalised and weighted. -/
def normed (z g : Fin 64 → EReal) (i : Fin 64) : EReal := z i * irms (Ideal.ofBits .f32 0x42800000#32) z * g i

/-- The two halves of a head's lanes, turned into one another by the position's angles. -/
def turned {n d : ℕ} (hd : d = n + n) (y : Fin d → EReal) (c s : Fin n → EReal) (i : Fin d) : EReal :=
  if h : i.val < n then y i * c ⟨i.val, h⟩ - y ⟨i.val + n, by omega⟩ * s ⟨i.val, h⟩
  else y i * c ⟨i.val - n, by omega⟩ + y ⟨i.val - n, by omega⟩ * s ⟨i.val - n, by omega⟩

/-- The same with the half width written first. -/
theorem turned_eq {n d : ℕ} (hd : d = n + n) (y : Fin d → EReal) (c s : Fin n → EReal) (i : Fin d) :
    turned hd y c s i = if h : i.val < n then y i * c ⟨i.val, h⟩ - y ⟨n + i.val, by omega⟩ * s ⟨i.val, h⟩
      else y ⟨n + (i.val - n), by omega⟩ * c ⟨i.val - n, by omega⟩ + y ⟨i.val - n, by omega⟩ * s ⟨i.val - n, by omega⟩ := by
  unfold turned
  split
  · rw [show (⟨i.val + n, by omega⟩ : Fin d) = ⟨n + i.val, by omega⟩ from Fin.ext (Nat.add_comm _ _)]
  · rw [show (⟨n + (i.val - n), by omega⟩ : Fin d) = i from Fin.ext (by dsimp only; omega)]

theorem lanes64 : Ideal.ofBits FTy.f32 0x42800000#32 = ((64 : ℝ) : EReal) := by
  simp [Ideal.ofBits, Ideal.ieee, -EReal.coe_mul]; norm_num

theorem part64 : Ideal.ofBits FTy.f32 0x3C800000#32 = ((1 / 64 : ℝ) : EReal) := by
  simp [Ideal.ofBits, Ideal.ieee, -EReal.coe_mul]; norm_num

/-- The inverse root mean square with the division written as a product. -/
theorem irms64 (z : Fin 64 → EReal) (S : EReal) (hS : S = ∑ k, z k * z k) :
    Ideal.rsqrt (S * Ideal.ofBits FTy.f32 0x3C800000#32 + Ideal.ofBits FTy.f32 0x358637BD#32) = irms (Ideal.ofBits FTy.f32 0x42800000#32) z := by
  unfold irms
  rw [hS, part64, lanes64, Ideal.div_coe (by norm_num)]

/-- The lane `i` of the 64 that lane `l` of 128 lies among. -/
abbrev mate (l : Fin 128) (i : Fin 64) : Fin 128 := ⟨64 * (l.val / 64) + i.val, by omega⟩

/-- A sum over the lanes that share `l`'s half. -/
theorem sum_half (f o : Fin 128 → EReal) (l : Fin 128) (ho : ∀ x, o x = if x.val / 64 = l.val / 64 then 1 else 0) :
    ∑ x, f x * o x = ∑ i, f (mate l i) := by
  have hsplit : ∑ x, f x * o x = (∑ i : Fin 64, f ⟨i.val, by omega⟩ * o ⟨i.val, by omega⟩) + ∑ i : Fin 64, f ⟨64 + i.val, by omega⟩ * o ⟨64 + i.val, by omega⟩ :=
    Fin.sum_univ_add (a := 64) (b := 64) (fun x : Fin (64 + 64) => f x * o x)
  rw [hsplit]
  have h0 : ∀ i : Fin 64, i.val / 64 = 0 := fun i => by omega
  have h1 : ∀ i : Fin 64, (64 + i.val) / 64 = 1 := fun i => by omega
  rcases (by omega : l.val / 64 = 0 ∨ l.val / 64 = 1) with h | h
  · have e : ∀ i, mate l i = ⟨i.val, by omega⟩ := fun i => Fin.ext (by dsimp only; omega)
    simp [ho, h0, h1, h, e]
  · have e : ∀ i, mate l i = ⟨64 + i.val, by omega⟩ := fun i => Fin.ext (by dsimp only; omega)
    simp [ho, h0, h1, h, e]

/-- The sum of squares of a half, taken of squares split in three parts of which, for reals, the last two vanish. -/
theorem squares (z o : Fin 128 → EReal) (l : Fin 128) (ho : ∀ x, o x = if x.val / 64 = l.val / 64 then 1 else 0) (hz : ∀ x, IsReal (z x)) :
    ∑ x, z x * z x * o x + (∑ x, (z x * z x - z x * z x) * o x + ∑ x, (z x * z x - z x * z x - (z x * z x - z x * z x)) * o x)
      = ∑ i, z (mate l i) * z (mate l i) := by
  have e : ∀ x, z x * z x - z x * z x = 0 := fun x => ((hz x).mul (hz x)).sub_self
  simp only [e, sub_self, sub_zero, zero_mul, Finset.sum_const_zero, add_zero]
  exact sum_half (fun x => z x * z x) o l ho

/-- The lanes' test for the first half of a head. -/
theorem first_half (n : ℕ) (hn : n < 128) :
    IntOp.cmpi CmpIPredicate.slt (IntOp.andi (BitVec.ofNat 32 n) 63#32) 32#32 = if n % 64 < 32 then 1#1 else 0#1 := by
  have key : ∀ k : Fin 128, IntOp.cmpi CmpIPredicate.slt (IntOp.andi (BitVec.ofNat 32 k.val) 63#32) 32#32 = if k.val % 64 < 32 then 1#1 else 0#1 := by
    decide +kernel
  exact key ⟨n, hn⟩

/-- The position's angles as they are laid out over 128 lanes: the cosines four times, the sines with the first half's
    sign turned. -/
def Tables64 (C S : Fin 128 → EReal) (c s : Fin 32 → EReal) : Prop :=
  ∀ l : Fin 128, C l = c ⟨l.val % 32, by omega⟩ ∧ S l = if l.val % 64 < 32 then -s ⟨l.val % 32, by omega⟩ else s ⟨l.val % 32, by omega⟩

/-- The rotation of two heads of 64 lanes side by side. -/
theorem turned_pair (y C S : Fin 128 → EReal) (c s : Fin 32 → EReal) (hT : Tables64 C S c s) (l : Fin 128) :
    y l * C l + Scalar.select (IntOp.cmpi CmpIPredicate.slt (IntOp.andi (BitVec.ofNat 32 l.val) 63#32) 32#32)
        (y ⟨(l.val + 128 - 96) % 128, by omega⟩) (y ⟨(l.val + 128 - 32) % 128, by omega⟩) * S l
      = turned (n := 32) rfl (fun i => y (mate l i)) c s ⟨l.val % 64, by omega⟩ := by
  obtain ⟨hC, hS⟩ := hT l
  have hl : mate l ⟨l.val % 64, by omega⟩ = l := Fin.ext (by dsimp only; omega)
  rw [first_half _ l.isLt, hC, hS]
  unfold turned
  by_cases h : l.val % 64 < 32
  · have e1 : (⟨(l.val + 128 - 96) % 128, by omega⟩ : Fin 128) = mate l ⟨l.val % 64 + 32, by omega⟩ := Fin.ext (by dsimp only; omega)
    have e2 : (⟨l.val % 32, by omega⟩ : Fin 32) = ⟨l.val % 64, h⟩ := Fin.ext (by dsimp only; omega)
    dsimp only
    rw [dif_pos h, if_pos h, if_pos h, hl, e1, e2, sub_eq_add_neg, ← mul_neg]
    rfl
  · have e1 : (⟨(l.val + 128 - 32) % 128, by omega⟩ : Fin 128) = mate l ⟨l.val % 64 - 32, by omega⟩ := Fin.ext (by dsimp only; omega)
    have e2 : (⟨l.val % 32, by omega⟩ : Fin 32) = ⟨l.val % 64 - 32, by omega⟩ := Fin.ext (by dsimp only; omega)
    dsimp only
    rw [dif_neg h, if_neg h, if_neg h, hl, e1, e2]
    rfl

/-- The angles of a head of 128 lanes. -/
def Tables128 (C S : Fin 128 → EReal) (c s : Fin 64 → EReal) : Prop :=
  ∀ l : Fin 128, C l = c ⟨l.val % 64, by omega⟩ ∧ S l = if l.val < 64 then -s ⟨l.val % 64, by omega⟩ else s ⟨l.val % 64, by omega⟩

/-- The rotation of one head of 128 lanes. -/
theorem turned_whole (y C S : Fin 128 → EReal) (c s : Fin 64 → EReal) (hT : Tables128 C S c s) (l : Fin 128) :
    y l * C l + y ⟨(l.val + 128 - 64) % 128, by omega⟩ * S l = turned (n := 64) rfl y c s l := by
  obtain ⟨hC, hS⟩ := hT l
  rw [hC, hS]
  unfold turned
  by_cases h : l.val < 64
  · have e1 : (⟨(l.val + 128 - 64) % 128, by omega⟩ : Fin 128) = ⟨l.val + 64, by omega⟩ := Fin.ext (by dsimp only; omega)
    have e2 : (⟨l.val % 64, by omega⟩ : Fin 64) = ⟨l.val, h⟩ := Fin.ext (by dsimp only; omega)
    rw [dif_pos h, if_pos h, e1, e2, sub_eq_add_neg, ← mul_neg]
  · have e1 : (⟨(l.val + 128 - 64) % 128, by omega⟩ : Fin 128) = ⟨l.val - 64, by omega⟩ := Fin.ext (by dsimp only; omega)
    have e2 : (⟨l.val % 64, by omega⟩ : Fin 64) = ⟨l.val - 64, by omega⟩ := Fin.ext (by dsimp only; omega)
    rw [dif_neg h, if_neg h, e1, e2]

/-- The norm and rotation of two heads of 64 lanes side by side, with the weights of a head written twice. -/
theorem normed_pair (z o G : Fin 128 → EReal) (g : Fin 64 → EReal) (l : Fin 128)
    (ho : ∀ x, o x = if x.val / 64 = l.val / 64 then 1 else 0) (hz : ∀ x, IsReal (z x)) (hG : ∀ l : Fin 128, G l = g ⟨l.val % 64, by omega⟩) :
    z l * Ideal.rsqrt ((∑ x, z x * z x * o x + (∑ x, (z x * z x - z x * z x) * o x
        + ∑ x, (z x * z x - z x * z x - (z x * z x - z x * z x)) * o x)) * Ideal.ofBits FTy.f32 0x3C800000#32 + Ideal.ofBits FTy.f32 0x358637BD#32) * G l
      = normed (fun i => z (mate l i)) g ⟨l.val % 64, by omega⟩ := by
  have hl : mate l ⟨l.val % 64, by omega⟩ = l := Fin.ext (by dsimp only; omega)
  rw [irms64 (fun i => z (mate l i)) _ (squares z o l ho hz), hG]
  unfold normed
  dsimp only
  rw [hl]

/-- Column `j` of a row's product with a matrix. -/
def col {N : ℕ} (h : Fin 1024 → EReal) (w : Fin 1024 → Fin N → EReal) (j : Fin N) : EReal := ∑ k, h k * w k j

/-- Queries or keys: lane `l` of the eight heads of 64 lanes from column `o` on. -/
def headRow (h : Fin 1024 → EReal) (w : Fin 1024 → Fin 3584 → EReal) (o : ℕ) (ho : o + 512 ≤ 3584) (g : Fin 64 → EReal) (c s : Fin 32 → EReal)
    (l : Fin 512) : EReal :=
  turned (n := 32) rfl (normed (fun i => col h w ⟨o + (64 * (l.val / 64) + i.val), by omega⟩) g) c s ⟨l.val % 64, by omega⟩

/-- Lane `l` of the indexer's four query heads of 64 lanes. -/
def indexRow (h : Fin 1024 → EReal) (w : Fin 1024 → Fin 512 → EReal) (c s : Fin 32 → EReal) (l : Fin 256) : EReal :=
  turned (n := 32) rfl (fun i : Fin 64 => col h w ⟨64 * (l.val / 64) + i.val, by omega⟩) c s ⟨l.val % 64, by omega⟩

/-- Lane `l` of the indexer's key. -/
def indexKey (h : Fin 1024 → EReal) (w : Fin 1024 → Fin 512 → EReal) (g : Fin 64 → EReal) (c s : Fin 32 → EReal) (l : Fin 64) : EReal :=
  turned (n := 32) rfl (normed (fun i => col h w ⟨256 + i.val, by omega⟩) g) c s l

/-- Lane `l` of the four retention heads of 128 lanes from column `o` on. -/
def retainRow (h : Fin 1024 → EReal) (w : Fin 1024 → Fin 3584 → EReal) (o : ℕ) (ho : o + 512 ≤ 3584) (c s : Fin 64 → EReal) (l : Fin 512) : EReal :=
  turned (n := 64) rfl (fun i : Fin 128 => col h w ⟨o + (128 * (l.val / 128) + i.val), by omega⟩) c s ⟨l.val % 128, by omega⟩

end Cert.Projection

end
-- ==== Proof.ProjPre.lean ====
/-
  What the projection's precondition says of its arguments, entry by entry.
-/
module

public import proofs.«01_k».proof.Defs
public import proofs.«01_k».proof.Proof.MoeClaim
public import proofs.«01_k».proof.Proof.Projection

@[expose] public section

set_option maxRecDepth 16384

noncomputable section

namespace Cert.Proof

open Idealize.ShloMosaic Idealize.ShloMosaic.TcCoe Idealize.SL.Sem Idealize.ShloMosaic.StableHlo
open Cert.Routing

/-- The precondition's shape relations. -/
theorem prepared_facts : Cert.Pre_prepared.Facts where
  slices_S16384x128_S16384x32_0_0 := by decide
  slices_S16384x128_S16384x32_0_32 := by decide
  slices_S16384x128_S16384x64_0_0 := by decide
  slices_S16384x128_S16384x64_0_64 := by decide
  slices_S1024x3584_S1024x1024_0_0 := by decide
  bitsLt_bf16_f32 := by decide
  slices_S1x128_S1x64_0_0 := by decide
  bcast_S_S1x1024 := by decide
  bcast_S_S2x1x1024 := by decide
  bcast_S_S1024x1024 := by decide
  bcast_S_S1024x512 := by decide
  concatenates_S16384x32_S16384x32_S16384x32_S16384x32_S16384x128_d1 := by decide
  concatenates_S16384x64_S16384x64_S16384x128_d1 := by decide
  concatenates_S1x64_S1x64_S1x128_d1 := by decide
  slices_S1024x512_S1024x64_0_320 := by decide
  bcast_S_S1024x64 := by decide

section prepared

open Cert.Pre_prepared

theorem eq_of_one (a b : EReal) (h : FloatOps.cmpf (F := Ideal) (φ := .f32) .oeq a b = 1#1) : a = b := by
  have h' : BitVec.ofBool (decide (a = b)) = 1#1 := h
  rw [ofBool_iff] at h'
  exact h'

attribute [local instance] prepared_facts

variable (x : FVec Ideal S16384x1024 .f32) (g : FVec Ideal S1x1024 .f32) (sh sc : FVec Ideal S2x1x1024 .f32) (c64 s64 c128 s128 : FVec Ideal S16384x128 .f32)
  (wm : FVec Ideal S1024x3584 .bf16) (wi : FVec Ideal S1024x512 .f32) (gq gk gki : FVec Ideal S1x128 .f32)

/-- The precondition's arrays of comparisons. -/
abbrev preT := fn (F := Ideal) x g sh sc c64 s64 c128 s128 wm wi gq gk gki

theorem prep_g (h : (preT x g sh sc c64 s64 c128 s128 wm wi gq gk gki).1 = fun _ => 1#1) (l : Fin 1024) : IsReal (g (ix2 0 l)) :=
  real_of_one _ (congrFun h (ix2 0 l))

theorem prep_shift (h : (preT x g sh sc c64 s64 c128 s128 wm wi gq gk gki).2.1 = fun _ => 1#1) (q : Fin 2) (l : Fin 1024) : IsReal (sh (ix3 q 0 l)) :=
  real_of_one _ (congrFun h (ix3 q 0 l))

theorem prep_scale (h : (preT x g sh sc c64 s64 c128 s128 wm wi gq gk gki).2.2.1 = fun _ => 1#1) (q : Fin 2) (l : Fin 1024) : IsReal (sc (ix3 q 0 l)) :=
  real_of_one _ (congrFun h (ix3 q 0 l))

theorem prep_wm (h : (preT x g sh sc c64 s64 c128 s128 wm wi gq gk gki).2.2.2.1 = fun _ => 1#1) (k : Fin 1024) (j : Fin 3584) (hj : j.val < 1024) :
    IsReal (wm (ix2 k j)) := by
  have e : (extractStridedSlice S1024x1024 ![0, 0] wm prepared_facts.slices_S1024x3584_S1024x1024_0_0 (ix2 k ⟨j.val, hj⟩) : EReal) = wm (ix2 k j) := by
    pointwise
  rw [← e]
  exact real_of_one _ (congrFun h (ix2 k ⟨j.val, hj⟩))

theorem prep_wi (h : (preT x g sh sc c64 s64 c128 s128 wm wi gq gk gki).2.2.2.2.1 = fun _ => 1#1) (k : Fin 1024) (j : Fin 512) : IsReal (wi (ix2 k j)) :=
  real_of_one _ (congrFun h (ix2 k j))

theorem prep_c64 (h : (preT x g sh sc c64 s64 c128 s128 wm wi gq gk gki).2.2.2.2.2.1 = fun _ => 1#1) (r : Fin 16384) (l : Fin 128) :
    (c64 (ix2 r l) : EReal) = c64 (ix2 r ⟨l.val % 32, by omega⟩) := by
  refine (eq_of_one _ _ (congrFun h (ix2 r l))).trans ?_
  pointwise
  split_ifs <;> exact congrArg (fun z => c64 (ix2 r z)) (Fin.ext (by dsimp only; omega))

theorem prep_s64 (h : (preT x g sh sc c64 s64 c128 s128 wm wi gq gk gki).2.2.2.2.2.2.1 = fun _ => 1#1) (r : Fin 16384) (l : Fin 128) :
    (s64 (ix2 r l) : EReal) = if l.val % 64 < 32 then -s64 (ix2 r ⟨32 + l.val % 32, by omega⟩) else s64 (ix2 r ⟨32 + l.val % 32, by omega⟩) := by
  refine (eq_of_one _ _ (congrFun h (ix2 r l))).trans ?_
  pointwise
  split_ifs <;> first
    | (rw [if_pos (show l.val % 64 < 32 by omega)]; refine congrArg (fun z => -s64 (ix2 r z)) (Fin.ext ?_); dsimp only; omega)
    | (rw [if_neg (show ¬l.val % 64 < 32 by omega)]; refine congrArg (fun z => s64 (ix2 r z)) (Fin.ext ?_); dsimp only; omega)

theorem prep_c128 (h : (preT x g sh sc c64 s64 c128 s128 wm wi gq gk gki).2.2.2.2.2.2.2.1 = fun _ => 1#1) (r : Fin 16384) (l : Fin 128) :
    (c128 (ix2 r l) : EReal) = c128 (ix2 r ⟨l.val % 64, by omega⟩) := by
  refine (eq_of_one _ _ (congrFun h (ix2 r l))).trans ?_
  pointwise
  split_ifs <;> exact congrArg (fun z => c128 (ix2 r z)) (Fin.ext (by dsimp only; omega))

theorem prep_s128 (h : (preT x g sh sc c64 s64 c128 s128 wm wi gq gk gki).2.2.2.2.2.2.2.2.1 = fun _ => 1#1) (r : Fin 16384) (l : Fin 128) :
    (s128 (ix2 r l) : EReal) = if l.val < 64 then -s128 (ix2 r ⟨64 + l.val % 64, by omega⟩) else s128 (ix2 r ⟨64 + l.val % 64, by omega⟩) := by
  refine (eq_of_one _ _ (congrFun h (ix2 r l))).trans ?_
  pointwise
  split_ifs <;> first
    | (refine congrArg (fun z => s128 (ix2 r z)) (Fin.ext ?_); dsimp only; omega)
    | (refine congrArg (fun z => -s128 (ix2 r z)) (Fin.ext ?_); dsimp only; omega)

theorem prep_gq (h : (preT x g sh sc c64 s64 c128 s128 wm wi gq gk gki).2.2.2.2.2.2.2.2.2.1 = fun _ => 1#1) (l : Fin 128) :
    (gq (ix2 0 l) : EReal) = gq (ix2 0 ⟨l.val % 64, by omega⟩) := by
  refine (eq_of_one _ _ (congrFun h (ix2 0 l))).trans ?_
  pointwise
  split_ifs <;> exact congrArg (fun z => gq (ix2 0 z)) (Fin.ext (by dsimp only; omega))

theorem prep_gk (h : (preT x g sh sc c64 s64 c128 s128 wm wi gq gk gki).2.2.2.2.2.2.2.2.2.2.1 = fun _ => 1#1) (l : Fin 128) :
    (gk (ix2 0 l) : EReal) = gk (ix2 0 ⟨l.val % 64, by omega⟩) := by
  refine (eq_of_one _ _ (congrFun h (ix2 0 l))).trans ?_
  pointwise
  split_ifs <;> exact congrArg (fun z => gk (ix2 0 z)) (Fin.ext (by dsimp only; omega))

theorem prep_empty (h : (preT x g sh sc c64 s64 c128 s128 wm wi gq gk gki).2.2.2.2.2.2.2.2.2.2.2 = fun _ => 1#1) (k : Fin 1024) (l : Fin 64) :
    (wi (ix2 k ⟨320 + l.val, by omega⟩) : EReal) = 0 := by
  have e : (extractStridedSlice S1024x64 ![0, 320] wi prepared_facts.slices_S1024x512_S1024x64_0_320 (ix2 k l) : EReal) = wi (ix2 k ⟨320 + l.val, by omega⟩) := by
    pointwise
  rw [← e]
  refine (eq_of_one _ _ (congrFun h (ix2 k l))).trans ?_
  pointwise

end prepared

end Cert.Proof

end
-- ==== Proof.ProjBlock.lean ====
/-
  The projection kernel's payloads, each of whose rows is a projection of that row's token.
-/
module

public import proofs.«01_k».proof.Proof.Projection
public import proofs.«01_k».proof.Proof.Gen.ProjIdeal.Frame
public import Idealize.ShloMosaic.Lib.Claim

@[expose] public section

set_option maxRecDepth 16384

noncomputable section

open Idealize.ShloMosaic Idealize.ShloMosaic.TcCoe Idealize.SL.Sem

namespace Cert.ProjIdeal.Tokens

open Cert.ProjIdeal Cert.ProjIdeal.Gen Cert.Rows Cert.Projection Cert.Routing

/-- The normalised, modulated rows of a block. -/
theorem modulated_eq (x : Vec Ideal S256x1024 .f32) (g : Vec Ideal S1x1024 .f32) (sh sc : Vec Ideal S1x1x1024 .f32) (i : Fin 256) (l : Fin 1024) :
    (k0_pay1 x g sh sc : S256x1024.Idx → EReal) (ix2 i l)
      = modulated (fun l => x (ix2 i l)) (fun l => g (ix2 0 l)) (fun l => sh (ix3 0 0 l)) (fun l => sc (ix3 0 0 l)) l := by
  pointwise [k0_pay1]
  rfl

/-- The number of the half a lane lies in, as the kernel computes it. -/
def halfOf (b : BitVec 32) : BitVec 32 :=
  Scalar.select
    (IntOp.andi
      (IntOp.cmpi CmpIPredicate.ne
        (IntOp.subi (BitVec.setWidth 32 (IntOp.cmpi CmpIPredicate.sgt b 0#32)) (BitVec.setWidth 32 (IntOp.cmpi CmpIPredicate.slt b 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector b 64#32) 0#32))
    (IntOp.subi (IntOp.divsi ArithUnit.vector b 64#32) 1#32)
    (IntOp.divsi ArithUnit.vector b 64#32)

theorem halfOf_eq : ∀ k : Fin 128, halfOf (BitVec.ofNat 32 k.val) = if k.val / 64 = 0 then 0#32 else 1#32 := by decide +kernel

/-- The matrix of ones between lanes of the same half. -/
abbrev same : FVec Ideal S128x128 .bf16 :=
  k0_pay7 (k0_pay5 (iota .tc S128x128 32 [0] iota_S128x128_d0_w32) 64#32 k0_pay3 k0_pay4) (Scalar.ofBits .f32 0x00000000#32) (k0_pay6 (F := Ideal))

theorem same_at (i j : Fin 128) : (same (ix2 i j) : EReal) = if i.val / 64 = j.val / 64 then 1 else 0 := by
  pointwise [k0_pay7, k0_pay6, k0_pay5, k0_pay3, k0_pay4]
  change Scalar.select (IntOp.cmpi CmpIPredicate.eq (halfOf (BitVec.ofNat 32 i.val)) (halfOf (BitVec.ofNat 32 j.val))) (1 : EReal) 0 = _
  rw [halfOf_eq, halfOf_eq]
  rcases (by omega : i.val / 64 = 0 ∨ i.val / 64 = 1) with hi | hi <;> rcases (by omega : j.val / 64 = 0 ∨ j.val / 64 = 1) with hj | hj <;>
    rw [hi, hj] <;> rfl

section rows

variable (hb : FVec Ideal S256x1024 .bf16) (C S : Vec Ideal S256x128 .f32) (O : FVec Ideal S128x128 .bf16) (G : Vec Ideal S1x128 .f32) (w : Vec Ideal S1024x128 .bf16)
  (i : Fin 256) (g : Fin 64 → EReal) (c s : Fin 32 → EReal) (l : Fin 128)

/-- A row's product with the loaded columns. -/
abbrev prod (l : Fin 128) : EReal := ∑ k, hb (ix2 i k) * w (ix2 k l)

/-- The normalised heads of a block. -/
theorem normed_at (hG : ∀ l : Fin 128, (G (ix2 0 l) : EReal) = g ⟨l.val % 64, by omega⟩) (hr : ∀ l, IsReal (prod hb w i l)) :
    (k0_pay28 hb same G w (ix2 i l) : EReal) = normed (fun i' => prod hb w i (mate l i')) g ⟨l.val % 64, by omega⟩ := by
  pointwise [k0_pay28]
  exact normed_pair (prod hb w i) (fun x => same (ix2 x l)) (fun l => G (ix2 0 l)) g l (fun x => same_at x l) hr hG

/-- The rotation of a block of normalised heads. -/
theorem key_split : k0_pay9 hb C S O G w
    = addf (mulf (k0_pay28 hb O G w) C) (mulf (select k0_pay29 (k0_pay30 hb O G w) (k0_pay31 hb O G w)) S) := rfl

theorem key_at (hG : ∀ l : Fin 128, (G (ix2 0 l) : EReal) = g ⟨l.val % 64, by omega⟩) (hr : ∀ l, IsReal (prod hb w i l))
    (hT : Tables64 (fun l => C (ix2 i l)) (fun l => S (ix2 i l)) c s) :
    (k0_pay9 hb C S same G w (ix2 i l) : EReal) = turned (n := 32) rfl (normed (fun i' => prod hb w i (mate l i')) g) c s ⟨l.val % 64, by omega⟩ := by
  rw [key_split]
  pointwise [k0_pay29, k0_pay30, k0_pay31]
  simp only [normed_at hb G w i g _ hG hr]
  refine (turned_pair (fun l => normed (fun i' => prod hb w i (mate l i')) g ⟨l.val % 64, by omega⟩) _ _ c s hT l).trans ?_
  have e : ∀ i' : Fin 64, (⟨(mate l i').val % 64, by omega⟩ : Fin 64) = i' := fun i' => Fin.ext (by dsimp only; omega)
  have f : ∀ i' i'' : Fin 64, mate (mate l i') i'' = mate l i'' := fun i' i'' => Fin.ext (by dsimp only; omega)
  simp only [e, f]

/-- A query block is a key block's formula, scaled. -/
abbrev scaled (P : FVec Ideal S256x128 .f32) : FVec Ideal S256x128 .bf16 :=
  truncf .bf16 (mulf P (broadcast S256x128 (Scalar.ofBits .f32 0x3E000000#32 : Ideal .f32))) bitsLt_bf16_f32

theorem query0 (v : IVec S128x128 1) (z : Ideal .f32) (o : FVec Ideal S128x128 .f32) :
    k0_pay8 hb C S v z o G w = scaled (k0_pay9 hb C S (k0_pay7 v z o) G w) := rfl
theorem query1 : k0_pay15 (k0_pay13 hb C S O G w) k0_pay14 = scaled (k0_pay9 hb C S O G w) := rfl
theorem query2 : k0_pay23 (k0_pay21 hb C O G w) (k0_pay22 hb S O G w) = scaled (k0_pay9 hb C S O G w) := rfl
theorem query3 : k0_pay32 C S (k0_pay28 hb O G w) k0_pay29 (k0_pay30 hb O G w) (k0_pay31 hb O G w) = scaled (k0_pay9 hb C S O G w) := rfl

theorem scaled_at (P : FVec Ideal S256x128 .f32) : (scaled P (ix2 i l) : EReal) = P (ix2 i l) * Ideal.ofBits .f32 0x3E000000#32 := by
  unfold scaled
  pointwise

/-- A block of values is the product itself. -/
theorem value_at : (k0_pay11 hb w (ix2 i l) : EReal) = prod hb w i l := by
  pointwise [k0_pay11]

/-- A block of the retention's queries. -/
theorem retain_at (cr sr : Fin 64 → EReal) (hT : Tables128 (fun l => C (ix2 i l)) (fun l => S (ix2 i l)) cr sr) :
    (k0_pay37 hb C S w (ix2 i l) : EReal) = turned (n := 64) rfl (prod hb w i) cr sr l := by
  pointwise [k0_pay37]
  exact turned_whole (prod hb w i) _ _ cr sr hT l

/-- A block of the retention's keys is the same, scaled. -/
theorem retain_key_at (cr sr : Fin 64 → EReal) (hT : Tables128 (fun l => C (ix2 i l)) (fun l => S (ix2 i l)) cr sr) :
    (k0_pay38 hb C S w (ix2 i l) : EReal) = turned (n := 64) rfl (prod hb w i) cr sr l * Ideal.ofBits .f32 0x3DB504F3#32 := by
  pointwise [k0_pay38]
  exact congrArg (· * _) (turned_whole (prod hb w i) _ _ cr sr hT l)

end rows

section indexer

variable (h : FVec Ideal S256x1024 .f32) (w : Vec Ideal S1024x512 .f32) (C S : Vec Ideal S256x128 .f32) (G : Vec Ideal S1x128 .f32) (i : Fin 256)
  (g : Fin 64 → EReal) (c s : Fin 32 → EReal)

/-- The indexer's projections, of factors split in three parts. -/
abbrev split : FVec Ideal S256x512 .f32 := k0_pay58 (k0_pay53 h) (k0_pay55 h) (k0_pay56 h) w (k0_pay57 w)

theorem split_at (hh : ∀ k, IsReal (h (ix2 i k))) (hw : ∀ k l, IsReal (w (ix2 k l))) (l : Fin 512) :
    (split h w (ix2 i l) : EReal) = ∑ k, h (ix2 i k) * w (ix2 k l) := by
  pointwise [k0_pay58, k0_pay57, k0_pay56, k0_pay55, k0_pay54, k0_pay53]
  simp only [(hh _).sub_self, (hw _ _).sub_self, sub_self, sub_zero, zero_mul, mul_zero, Finset.sum_const_zero, add_zero]

variable (z : Fin 512 → EReal)

theorem index_query0 (hs : ∀ l, (split h w (ix2 i l) : EReal) = z l) (hT : Tables64 (fun l => C (ix2 i l)) (fun l => S (ix2 i l)) c s) (l : Fin 128) :
    (k0_pay59 C S (k0_pay53 h) (k0_pay55 h) (k0_pay56 h) w (k0_pay57 w) (ix2 i l) : EReal)
      = turned (n := 32) rfl (fun i' : Fin 64 => z ⟨(mate l i').val, by omega⟩) c s ⟨l.val % 64, by omega⟩ := by
  pointwise [k0_pay59]
  simp only [hs]
  exact turned_pair (fun l => z ⟨l.val, by omega⟩) _ _ c s hT l

theorem index_query1 (hs : ∀ l, (split h w (ix2 i l) : EReal) = z l) (hT : Tables64 (fun l => C (ix2 i l)) (fun l => S (ix2 i l)) c s) (l : Fin 128) :
    (k0_pay60 C S (k0_pay53 h) (k0_pay55 h) (k0_pay56 h) w (k0_pay57 w) (ix2 i l) : EReal)
      = turned (n := 32) rfl (fun i' : Fin 64 => z ⟨128 + (mate l i').val, by omega⟩) c s ⟨l.val % 64, by omega⟩ := by
  pointwise [k0_pay60]
  simp only [hs]
  exact turned_pair (fun l => z ⟨128 + l.val, by omega⟩) _ _ c s hT l

/-- The indexer's key: its head is followed by 64 lanes that hold nothing. -/
theorem index_key (Z : FVec Ideal S256x512 .f32) (hs : ∀ l, (Z (ix2 i l) : EReal) = z l) (hz : ∀ l : Fin 64, z ⟨320 + l.val, by omega⟩ = 0)
    (hG : ∀ l : Fin 64, (G (ix2 0 ⟨l.val, by omega⟩) : EReal) = g l)
    (hT : Tables64 (fun l => C (ix2 i l)) (fun l => S (ix2 i l)) c s) (l : Fin 64) :
    (k0_pay61 C S Z G (ix2 i l) : EReal) = turned (n := 32) rfl (normed (fun i' => z ⟨256 + i'.val, by omega⟩) g) c s l := by
  have hsum : ∑ x : Fin 128, z ⟨256 + x.val, by omega⟩ * z ⟨256 + x.val, by omega⟩ = ∑ x : Fin 64, z ⟨256 + x.val, by omega⟩ * z ⟨256 + x.val, by omega⟩ := by
    refine (Fin.sum_univ_add (a := 64) (b := 64) (fun x : Fin (64 + 64) => z ⟨256 + x.val, by omega⟩ * z ⟨256 + x.val, by omega⟩)).trans ?_
    refine (congrArg (_ + ·) (Finset.sum_eq_zero fun x _ => ?_)).trans (add_zero _)
    have e : z ⟨256 + (Fin.natAdd 64 x).val, by have := (Fin.natAdd 64 x).isLt; omega⟩ = 0 :=
      (congrArg z (Fin.ext (by show 256 + (64 + x.val) = 320 + x.val; omega))).trans (hz x)
    rw [e, zero_mul]
  pointwise [k0_pay61]
  simp only [hs]
  rw [irms64 (fun i' : Fin 64 => z ⟨256 + i'.val, by omega⟩) _ hsum]
  refine (turned_pair (fun l => z ⟨256 + l.val, by omega⟩ * irms (Ideal.ofBits .f32 0x42800000#32) (fun i' : Fin 64 => z ⟨256 + i'.val, by omega⟩) * G (ix2 0 l))
    _ _ c s hT ⟨l.val, by omega⟩).trans ?_
  have e : ∀ i' : Fin 64, mate ⟨l.val, by omega⟩ i' = ⟨i'.val, by omega⟩ := fun i' => Fin.ext (by dsimp only; omega)
  have f : (⟨l.val % 64, by omega⟩ : Fin 64) = l := Fin.ext (by dsimp only; omega)
  have k : ∀ i' : Fin 64, (⟨256 + (64 * (l.val / 64) + i'.val), by omega⟩ : Fin 512) = ⟨256 + i'.val, by omega⟩ := fun i' => Fin.ext (by dsimp only; omega)
  simp only [e, k, hG, f]
  rfl

/-- The indexer's head weights are the product itself. -/
theorem index_weight (Z : FVec Ideal S256x512 .f32) (l : Fin 128) : (k0_pay62 Z (ix2 i l) : EReal) = Z (ix2 i ⟨384 + l.val, by omega⟩) := by
  pointwise [k0_pay62]

end indexer

end Cert.ProjIdeal.Tokens

end
-- ==== Proof.ProjKernel.lean ====
/-
  The projection kernel's output arrays: every row is a projection of that row's token.
-/
module

public import proofs.«01_k».proof.Proof.ProjBlock
public import proofs.«01_k».proof.Proof.Gen.ProjIdeal.Frame
public import proofs.«01_k».proof.Proof.Gen.ProjIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Tokens

open Cert.ProjIdeal Cert.ProjIdeal.Gen Cert.Rows Cert.Projection Cert.Routing

variable (m : (ℓ : Loc nD τ sig) → Buf (Elt Ideal) ℓ)

/-- Which block each window holds at a grid point. -/
theorem idx : ∀ t : Fin cfg0.N, win0_0.index t = ![t.val, 0] ∧ win0_1.index t = ![0, 0] ∧ win0_2.index t = ![t.val / 32, 0, 0]
    ∧ win0_3.index t = ![t.val / 32, 0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![0, 0] ∧ win0_12.index t = ![0, 0] ∧ t.val < 64 :=
  (by decide +kernel : ∀ t : Fin grid0.N, _)

/-- Which block each output window writes. -/
theorem out_idx : ∀ t : Fin cfg0.N, win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![t.val, 0]
    ∧ win0_24.index t = ![t.val, 0] :=
  (by decide +kernel : ∀ t : Fin grid0.N, _)

/-- The batch row of an array's row. -/
abbrev batch (r : Fin 16384) : Fin 2 := ⟨r.val / 8192, by omega⟩

/-- The array's row that a block's row is. -/
abbrev rowOf (t : Fin cfg0.N) (a : Fin 256) : Fin 16384 := ⟨t.val * 256 + a.val, by have := (idx t).2.2.2.2.2.2.2.2.2.2.2.2.2; omega⟩

section spec

variable (c : Dev nD) (r : Fin 16384)

/-- The normalised, modulated token of row `r`. -/
abbrev tokenAt (k : Fin 1024) : EReal :=
  modulated (fun l => V m c main_arg0 (ix2 r l)) (fun l => V m c main_arg1 (ix2 0 l))
    (fun l => V m c main_arg2 (ix3 (batch r) 0 l)) (fun l => V m c main_arg3 (ix3 (batch r) 0 l)) k

/-- The weights, and the row's angles. -/
abbrev wmAt (k : Fin 1024) (j : Fin 3584) : EReal := V m c main_arg8 (ix2 k j)
abbrev wiAt (k : Fin 1024) (j : Fin 512) : EReal := V m c main_arg9 (ix2 k j)
abbrev cosAt (i : Fin 32) : EReal := V m c main_arg4 (ix2 r ⟨i.val, by omega⟩)
abbrev sinAt (i : Fin 32) : EReal := V m c main_arg5 (ix2 r ⟨32 + i.val, by omega⟩)
abbrev cosrAt (i : Fin 64) : EReal := V m c main_arg6 (ix2 r ⟨i.val, by omega⟩)
abbrev sinrAt (i : Fin 64) : EReal := V m c main_arg7 (ix2 r ⟨64 + i.val, by omega⟩)
abbrev gqAt (i : Fin 64) : EReal := V m c main_arg10 (ix2 0 ⟨i.val, by omega⟩)
abbrev gkAt (i : Fin 64) : EReal := V m c main_arg11 (ix2 0 ⟨i.val, by omega⟩)
abbrev gkiAt (i : Fin 64) : EReal := V m c main_arg12 (ix2 0 ⟨i.val, by omega⟩)

/-- The rows of the twelve output arrays; some are written twice, in two formats. -/
abbrev queryAt (l : Fin 512) : EReal :=
  headRow (tokenAt m c r) (wmAt m c) 0 (by omega) (gqAt m c) (cosAt m c r) (sinAt m c r) l * Ideal.ofBits .f32 0x3E000000#32
abbrev keyAt (l : Fin 512) : EReal := headRow (tokenAt m c r) (wmAt m c) 512 (by omega) (gkAt m c) (cosAt m c r) (sinAt m c r) l
abbrev plainAt (o : ℕ) (ho : o + 512 ≤ 3584) (l : Fin 512) : EReal := col (tokenAt m c r) (wmAt m c) ⟨o + l.val, by omega⟩
abbrev indexQueryAt (l : Fin 256) : EReal := indexRow (tokenAt m c r) (wiAt m c) (cosAt m c r) (sinAt m c r) l
abbrev indexKeyAt (l : Fin 64) : EReal := indexKey (tokenAt m c r) (wiAt m c) (gkiAt m c) (cosAt m c r) (sinAt m c r) l
abbrev indexWeightAt (l : Fin 128) : EReal := col (tokenAt m c r) (wiAt m c) ⟨384 + l.val, by omega⟩
abbrev retainQueryAt (l : Fin 512) : EReal := retainRow (tokenAt m c r) (wmAt m c) 1536 (by omega) (cosrAt m c r) (sinrAt m c r) l
abbrev retainKeyAt (l : Fin 512) : EReal :=
  retainRow (tokenAt m c r) (wmAt m c) 2048 (by omega) (cosrAt m c r) (sinrAt m c r) l * Ideal.ofBits .f32 0x3DB504F3#32

end spec

/-- What the kernel takes for granted of its arguments. -/
structure Prepared (c : Dev nD) : Prop where
  real_g : ∀ l, IsReal (V m c main_arg1 (ix2 0 l))
  real_shift : ∀ q l, IsReal (V m c main_arg2 (ix3 q 0 l))
  real_scale : ∀ q l, IsReal (V m c main_arg3 (ix3 q 0 l))
  real_wm : ∀ (k : Fin 1024) (j : Fin 3584), j.val < 1024 → IsReal (wmAt m c k j)
  real_wi : ∀ k j, IsReal (wiAt m c k j)
  tables : ∀ r, Tables64 (fun l => V m c main_arg4 (ix2 r l)) (fun l => V m c main_arg5 (ix2 r l)) (cosAt m c r) (sinAt m c r)
  tablesr : ∀ r, Tables128 (fun l => V m c main_arg6 (ix2 r l)) (fun l => V m c main_arg7 (ix2 r l)) (cosrAt m c r) (sinrAt m c r)
  twice_q : ∀ l : Fin 128, V m c main_arg10 (ix2 0 l) = gqAt m c ⟨l.val % 64, by omega⟩
  twice_k : ∀ l : Fin 128, V m c main_arg11 (ix2 0 l) = gkAt m c ⟨l.val % 64, by omega⟩
  empty : ∀ (k : Fin 1024) (l : Fin 64), wiAt m c k ⟨320 + l.val, by omega⟩ = 0

section blocks

variable (c : Dev nD) (t : Fin cfg0.N) (a : Fin 256)

theorem b0 (l : Fin 1024) : iblk m c 0 t (ix2 a l) = V m c main_arg0 (ix2 (rowOf t a) l) := by blk_ext [iblk, V, idx t]
theorem b1 (l : Fin 1024) : iblk m c 1 t (ix2 0 l) = V m c main_arg1 (ix2 0 l) := by blk_ext [iblk, V, idx t]
theorem b2 (l : Fin 1024) : iblk m c 2 t (ix3 0 0 l) = V m c main_arg2 (ix3 (batch (rowOf t a)) 0 l) := by blk_ext [iblk, V, idx t]
theorem b3 (l : Fin 1024) : iblk m c 3 t (ix3 0 0 l) = V m c main_arg3 (ix3 (batch (rowOf t a)) 0 l) := by blk_ext [iblk, V, idx t]
theorem b4 (l : Fin 128) : iblk m c 4 t (ix2 a l) = V m c main_arg4 (ix2 (rowOf t a) l) := by blk_ext [iblk, V, idx t]
theorem b5 (l : Fin 128) : iblk m c 5 t (ix2 a l) = V m c main_arg5 (ix2 (rowOf t a) l) := by blk_ext [iblk, V, idx t]
theorem b6 (l : Fin 128) : iblk m c 6 t (ix2 a l) = V m c main_arg6 (ix2 (rowOf t a) l) := by blk_ext [iblk, V, idx t]
theorem b7 (l : Fin 128) : iblk m c 7 t (ix2 a l) = V m c main_arg7 (ix2 (rowOf t a) l) := by blk_ext [iblk, V, idx t]
theorem b8 (k : Fin 1024) (l : Fin 3584) : iblk m c 8 t (ix2 k l) = V m c main_arg8 (ix2 k l) := by blk_ext [iblk, V, idx t]
theorem b9 (k : Fin 1024) (l : Fin 512) : iblk m c 9 t (ix2 k l) = V m c main_arg9 (ix2 k l) := by blk_ext [iblk, V, idx t]
theorem b10 (l : Fin 128) : iblk m c 10 t (ix2 0 l) = V m c main_arg10 (ix2 0 l) := by blk_ext [iblk, V, idx t]
theorem b11 (l : Fin 128) : iblk m c 11 t (ix2 0 l) = V m c main_arg11 (ix2 0 l) := by blk_ext [iblk, V, idx t]
theorem b12 (l : Fin 128) : iblk m c 12 t (ix2 0 l) = V m c main_arg12 (ix2 0 l) := by blk_ext [iblk, V, idx t]

/-- The modulated rows of a grid point's block, in both formats. -/
abbrev rowsW : FVec Ideal S256x1024 .f32 :=
  k0_pay63 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)
abbrev rows : FVec Ideal S256x1024 .bf16 :=
  k0_pay64 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)

/-- The kernel loads its blocks whole. -/
theorem rows_whole (x0 : Vec Ideal S256x1024 .f32) (x1 : Vec Ideal S1x1024 .f32) (x2 x3 : Vec Ideal S1x1x1024 .f32)
    (x4 x5 x6 x7 : Vec Ideal S256x128 .f32) (x8 : Vec Ideal S1024x3584 .bf16) (x9 : Vec Ideal S1024x512 .f32) (x10 x11 x12 : Vec Ideal S1x128 .f32) :
    k0_pay63 x0 x1 x2 x3 x4 x5 x6 x7 x8 x9 x10 x11 x12 = k0_pay1 x0 x1 x2 x3 := by
  unfold k0_pay63
  rw [show View.ld x0 r0_0 = x0 from View.ld_unit_lit _ _ (by decide), show View.ld x1 r0_1 = x1 from View.ld_unit_lit _ _ (by decide),
    show View.ld x2 r0_2 = x2 from View.ld_unit_lit _ _ (by decide), show View.ld x3 r0_2 = x3 from View.ld_unit_lit _ _ (by decide)]

theorem key_whole (x0 : Vec Ideal S256x1024 .f32) (x1 : Vec Ideal S1x1024 .f32) (x2 x3 : Vec Ideal S1x1x1024 .f32)
    (x4 x5 x6 x7 : Vec Ideal S256x128 .f32) (x8 : Vec Ideal S1024x3584 .bf16) (x9 : Vec Ideal S1024x512 .f32) (x10 x11 x12 : Vec Ideal S1x128 .f32) :
    k0_pay68 x0 x1 x2 x3 x4 x5 x6 x7 x8 x9 x10 x11 x12
      = k0_pay9 (k0_pay64 x0 x1 x2 x3 x4 x5 x6 x7 x8 x9 x10 x11 x12) x4 x5 same x11 (View.ld x8 r0_19) := by
  unfold k0_pay68
  rw [show View.ld x4 r0_3 = x4 from View.ld_unit_lit _ _ (by decide), show View.ld x5 r0_3 = x5 from View.ld_unit_lit _ _ (by decide),
    show View.ld x11 r0_4 = x11 from View.ld_unit_lit _ _ (by decide)]
  rfl

theorem wi_whole (x9 : Vec Ideal S1024x512 .f32) : View.ld x9 r0_37 = x9 := View.ld_unit_lit _ _ (by decide)

theorem rowsW_at (k : Fin 1024) : (rowsW m c t (ix2 a k) : EReal) = tokenAt m c (rowOf t a) k := by
  refine (congrFun (rows_whole _ _ _ _ _ _ _ _ _ _ _ _ _) _).trans ?_
  rw [modulated_eq]
  simp only [b0 m c t a, b1, b2 m c t a, b3 m c t a]

theorem rows_at (k : Fin 1024) : (rows m c t (ix2 a k) : EReal) = tokenAt m c (rowOf t a) k :=
  (show (rows m c t (ix2 a k) : EReal) = rowsW m c t (ix2 a k) from rfl).trans (rowsW_at m c t a k)

/-- Columns of the weights, loaded from column `n` on. -/
theorem cols (n : ℕ) (hn : n + 128 ≤ 3584) (inb) (k : Fin 1024) (l : Fin 128) :
    View.ld (iblk m c 8 t) (Rect.unit (s := S1024x3584) ![0, n] S1024x128.size inb) (ix2 k l) = wmAt m c k ⟨n + l.val, by omega⟩ := by
  refine (congrArg (iblk m c 8 t) (funext fun d => Fin.ext ?_)).trans (b8 m c t k ⟨n + l.val, by omega⟩)
  match d with
  | ⟨0, _⟩ => show 0 + 1 * k.val = k.val; omega
  | ⟨1, _⟩ => show n + 1 * l.val = n + l.val; omega

/-- A block's products are the array's. -/
theorem prod_at (n : ℕ) (hn : n + 128 ≤ 3584) (inb) (l : Fin 128) :
    prod (rows m c t) (View.ld (iblk m c 8 t) (Rect.unit (s := S1024x3584) ![0, n] S1024x128.size inb)) a l
      = col (tokenAt m c (rowOf t a)) (wmAt m c) ⟨n + l.val, by omega⟩ :=
  Finset.sum_congr rfl fun k _ => by rw [rows_at, cols m c t n hn]

variable {m c} (h : Prepared m c)

include h

theorem token_real (r : Fin 16384) (k : Fin 1024) : IsReal (tokenAt m c r k) :=
  modulated_real _ _ _ _ h.real_g (h.real_shift _) (h.real_scale _) k

theorem prod_real (n : ℕ) (hn : n + 128 ≤ 1024) (inb) (l : Fin 128) :
    IsReal (prod (rows m c t) (View.ld (iblk m c 8 t) (Rect.unit (s := S1024x3584) ![0, n] S1024x128.size inb)) a l) := by
  rw [prod_at m c t a n (by omega)]
  exact IsReal.sum _ _ fun k => (token_real h _ k).mul (h.real_wm k _ (by show n + l.val < 1024; omega))

theorem tables_at : Tables64 (fun l => iblk m c 4 t (ix2 a l)) (fun l => iblk m c 5 t (ix2 a l)) (cosAt m c (rowOf t a)) (sinAt m c (rowOf t a)) := by
  simp only [b4 m c t a, b5 m c t a]
  exact h.tables (rowOf t a)

theorem tablesr_at : Tables128 (fun l => iblk m c 6 t (ix2 a l)) (fun l => iblk m c 7 t (ix2 a l)) (cosrAt m c (rowOf t a)) (sinrAt m c (rowOf t a)) := by
  simp only [b6 m c t a, b7 m c t a]
  exact h.tablesr (rowOf t a)

variable {t} (P : S256x128.Idx → EReal) (x : S256x128.Idx) (n j : ℕ) (b : Fin 512)

/-- A piece of 128 lanes of the keys, or of the queries before they are scaled: `W` its weights' row, written twice. -/
theorem head_piece (o : ℕ) (ho : o + 512 ≤ 1024) (hn : n = o + 128 * j) (hj : j < 4) (inb) (W : Vec Ideal S1x128 .f32) (g : Fin 64 → EReal)
    (hW : ∀ l : Fin 128, (W (ix2 0 l) : EReal) = g ⟨l.val % 64, by omega⟩)
    (hP : P = k0_pay9 (rows m c t) (iblk m c 4 t) (iblk m c 5 t) same W (View.ld (iblk m c 8 t) (Rect.unit (s := S1024x3584) ![0, n] S1024x128.size inb)))
    (ha : a.val = (x 0).val) (hb : b.val = 128 * j + (x 1).val) :
    P x = headRow (tokenAt m c (rowOf t a)) (wmAt m c) o (by omega) g (cosAt m c (rowOf t a)) (sinAt m c (rowOf t a)) b := by
  obtain ⟨i, l, rfl⟩ : ∃ (i : Fin 256) (l : Fin 128), x = ix2 i l := ⟨x 0, x 1, by idx_vars x⟩
  obtain rfl : a = i := Fin.ext ha
  rw [show b = ⟨128 * j + l.val, by omega⟩ from Fin.ext hb]
  subst hn
  rw [hP, key_at _ _ _ _ _ a g _ _ l hW (prod_real t a h _ (by omega) inb) (tables_at t a h)]
  simp only [prod_at m c t a (o + 128 * j) (by omega)]
  have e : ∀ i' : Fin 64, (⟨o + 128 * j + (mate l i').val, by omega⟩ : Fin 3584) = ⟨o + (64 * ((128 * j + l.val) / 64) + i'.val), by omega⟩ :=
    fun i' => Fin.ext (by dsimp only; omega)
  have f : (⟨l.val % 64, by omega⟩ : Fin 64) = ⟨(128 * j + l.val) % 64, by omega⟩ := Fin.ext (by dsimp only; omega)
  unfold headRow
  simp only [e, f]

theorem query_piece (hn : n = 128 * j) (hj : j < 4) (inb)
    (hP : P = scaled (k0_pay9 (rows m c t) (iblk m c 4 t) (iblk m c 5 t) same (iblk m c 10 t)
      (View.ld (iblk m c 8 t) (Rect.unit (s := S1024x3584) ![0, n] S1024x128.size inb))))
    (ha : a.val = (x 0).val) (hb : b.val = 128 * j + (x 1).val) : P x = queryAt m c (rowOf t a) b := by
  rw [hP]
  exact congrArg (· * Ideal.ofBits .f32 0x3E000000#32) (head_piece a h _ x n j b 0 (by omega) (by omega) hj inb (iblk m c 10 t) (gqAt m c)
    (fun l => (b10 m c t l).trans (h.twice_q l)) rfl ha hb)

theorem key_piece (hn : n = 512 + 128 * j) (hj : j < 4) (inb)
    (hP : P = k0_pay9 (rows m c t) (iblk m c 4 t) (iblk m c 5 t) same (iblk m c 11 t)
      (View.ld (iblk m c 8 t) (Rect.unit (s := S1024x3584) ![0, n] S1024x128.size inb)))
    (ha : a.val = (x 0).val) (hb : b.val = 128 * j + (x 1).val) : P x = keyAt m c (rowOf t a) b :=
  head_piece a h P x n j b 512 (by omega) hn hj inb (iblk m c 11 t) (gkAt m c) (fun l => (b11 m c t l).trans (h.twice_k l)) hP ha hb

omit h in
/-- A piece of the arrays that are the product itself. -/
theorem plain_piece (o : ℕ) (ho : o + 512 ≤ 3584) (hn : n = o + 128 * j) (hj : j < 4) (inb)
    (hP : P = k0_pay11 (rows m c t) (View.ld (iblk m c 8 t) (Rect.unit (s := S1024x3584) ![0, n] S1024x128.size inb)))
    (ha : a.val = (x 0).val) (hb : b.val = 128 * j + (x 1).val) : P x = plainAt m c (rowOf t a) o ho b := by
  obtain ⟨i, l, rfl⟩ : ∃ (i : Fin 256) (l : Fin 128), x = ix2 i l := ⟨x 0, x 1, by idx_vars x⟩
  obtain rfl : a = i := Fin.ext ha
  rw [show b = ⟨128 * j + l.val, by omega⟩ from Fin.ext hb]
  subst hn
  rw [hP, value_at, prod_at m c t a (o + 128 * j) (by omega)]
  exact congrArg (col _ _) (Fin.ext (by dsimp only; omega))

/-- The rotated heads of 128 lanes. -/
theorem retain_lane (o : ℕ) (ho : o + 512 ≤ 3584) (hj : j < 4) (inb) (l : Fin 128) :
    turned (n := 64) rfl (prod (rows m c t) (View.ld (iblk m c 8 t) (Rect.unit (s := S1024x3584) ![0, o + 128 * j] S1024x128.size inb)) a)
        (cosrAt m c (rowOf t a)) (sinrAt m c (rowOf t a)) l
      = retainRow (tokenAt m c (rowOf t a)) (wmAt m c) o ho (cosrAt m c (rowOf t a)) (sinrAt m c (rowOf t a)) ⟨128 * j + l.val, by omega⟩ := by
  rw [show prod (rows m c t) (View.ld (iblk m c 8 t) (Rect.unit (s := S1024x3584) ![0, o + 128 * j] S1024x128.size inb)) a
    = fun l => col (tokenAt m c (rowOf t a)) (wmAt m c) ⟨o + 128 * j + l.val, by omega⟩ from funext fun l => prod_at m c t a (o + 128 * j) (by omega) inb l]
  have e : ∀ i' : Fin 128, (⟨o + 128 * j + i'.val, by omega⟩ : Fin 3584) = ⟨o + (128 * ((128 * j + l.val) / 128) + i'.val), by omega⟩ :=
    fun i' => Fin.ext (by dsimp only; omega)
  have f : l = ⟨(128 * j + l.val) % 128, by omega⟩ := Fin.ext (by dsimp only; omega)
  unfold retainRow
  simp only [e, ← f]

theorem retain_piece (hn : n = 1536 + 128 * j) (hj : j < 4) (inb)
    (hP : P = k0_pay37 (rows m c t) (iblk m c 6 t) (iblk m c 7 t) (View.ld (iblk m c 8 t) (Rect.unit (s := S1024x3584) ![0, n] S1024x128.size inb)))
    (ha : a.val = (x 0).val) (hb : b.val = 128 * j + (x 1).val) : P x = retainQueryAt m c (rowOf t a) b := by
  obtain ⟨i, l, rfl⟩ : ∃ (i : Fin 256) (l : Fin 128), x = ix2 i l := ⟨x 0, x 1, by idx_vars x⟩
  obtain rfl : a = i := Fin.ext ha
  rw [show b = ⟨128 * j + l.val, by omega⟩ from Fin.ext hb]
  subst hn
  rw [hP, retain_at _ _ _ _ a l _ _ (tablesr_at t a h)]
  exact retain_lane a h j 1536 (by omega) hj inb l

theorem retain_key_piece (hn : n = 2048 + 128 * j) (hj : j < 4) (inb)
    (hP : P = k0_pay38 (rows m c t) (iblk m c 6 t) (iblk m c 7 t) (View.ld (iblk m c 8 t) (Rect.unit (s := S1024x3584) ![0, n] S1024x128.size inb)))
    (ha : a.val = (x 0).val) (hb : b.val = 128 * j + (x 1).val) : P x = retainKeyAt m c (rowOf t a) b := by
  obtain ⟨i, l, rfl⟩ : ∃ (i : Fin 256) (l : Fin 128), x = ix2 i l := ⟨x 0, x 1, by idx_vars x⟩
  obtain rfl : a = i := Fin.ext ha
  rw [show b = ⟨128 * j + l.val, by omega⟩ from Fin.ext hb]
  subst hn
  rw [hP, retain_key_at _ _ _ _ a l _ _ (tablesr_at t a h)]
  exact congrArg (· * _) (retain_lane a h j 2048 (by omega) hj inb l)

/-- The indexer's projections of a grid point's block. -/
abbrev idxW (m : (ℓ : Loc nD τ sig) → Buf (Elt Ideal) ℓ) (c : Dev nD) (t : Fin cfg0.N) : FVec Ideal S256x512 .f32 :=
  split (rowsW m c t) (View.ld (iblk m c 9 t) r0_37)

omit h in
theorem ld_wi (m : (ℓ : Loc nD τ sig) → Buf (Elt Ideal) ℓ) (c : Dev nD) (t : Fin cfg0.N) (k : Fin 1024) (l : Fin 512) :
    View.ld (iblk m c 9 t) r0_37 (ix2 k l) = wiAt m c k l :=
  (congrFun (wi_whole _) (ix2 k l)).trans (b9 m c t k l)

variable (t) in
theorem idxW_at (l : Fin 512) : (idxW m c t (ix2 a l) : EReal) = col (tokenAt m c (rowOf t a)) (wiAt m c) l := by
  refine (split_at _ _ a (fun k => by rw [rowsW_at]; exact token_real h _ k) (fun k l => by rw [ld_wi]; exact h.real_wi k l) l).trans ?_
  exact Finset.sum_congr rfl fun k _ => by rw [rowsW_at, ld_wi]

theorem empty_at (r : Fin 16384) (l : Fin 64) : col (tokenAt m c r) (wiAt m c) ⟨320 + l.val, by omega⟩ = 0 :=
  Finset.sum_eq_zero fun k _ => (congrArg (_ * ·) (h.empty k l)).trans (mul_zero _)

omit h in
theorem index_lane (z : Fin 512 → EReal) (j : ℕ) (hj : j < 2) (cc ss : Fin 32 → EReal) (l : Fin 128) :
    turned (n := 32) rfl (fun i' : Fin 64 => z ⟨128 * j + (mate l i').val, by omega⟩) cc ss ⟨l.val % 64, by omega⟩
      = turned (n := 32) rfl (fun i' : Fin 64 => z ⟨64 * ((128 * j + l.val) / 64) + i'.val, by omega⟩) cc ss ⟨(128 * j + l.val) % 64, by omega⟩ := by
  have e : ∀ i' : Fin 64, (⟨128 * j + (mate l i').val, by omega⟩ : Fin 512) = ⟨64 * ((128 * j + l.val) / 64) + i'.val, by omega⟩ :=
    fun i' => Fin.ext (by dsimp only; omega)
  have f : (⟨l.val % 64, by omega⟩ : Fin 64) = ⟨(128 * j + l.val) % 64, by omega⟩ := Fin.ext (by dsimp only; omega)
  simp only [e, f]

theorem index_piece0 (b : Fin 256) (w : Vec Ideal S1024x512 .f32) (hw : w = View.ld (iblk m c 9 t) r0_37)
    (hP : P = k0_pay59 (iblk m c 4 t) (iblk m c 5 t) (k0_pay53 (rowsW m c t)) (k0_pay55 (rowsW m c t)) (k0_pay56 (rowsW m c t)) w
      (k0_pay57 (View.ld (iblk m c 9 t) r0_37)))
    (ha : a.val = (x 0).val) (hb : b.val = (x 1).val) : P x = indexQueryAt m c (rowOf t a) b := by
  obtain ⟨i, l, rfl⟩ : ∃ (i : Fin 256) (l : Fin 128), x = ix2 i l := ⟨x 0, x 1, by idx_vars x⟩
  obtain rfl : a = i := Fin.ext ha
  rw [show b = ⟨128 * 0 + l.val, by omega⟩ from Fin.ext (hb.trans (by show l.val = 128 * 0 + l.val; omega)), hP, hw,
    index_query0 _ _ _ _ a _ _ _ (idxW_at t a h) (tables_at t a h) l]
  refine Eq.trans ?_ (index_lane (col (tokenAt m c (rowOf t a)) (wiAt m c)) 0 (by omega) _ _ l)
  simp only [Nat.mul_zero, Nat.zero_add]

theorem index_piece1 (b : Fin 256) (w : Vec Ideal S1024x512 .f32) (hw : w = View.ld (iblk m c 9 t) r0_37)
    (hP : P = k0_pay60 (iblk m c 4 t) (iblk m c 5 t) (k0_pay53 (rowsW m c t)) (k0_pay55 (rowsW m c t)) (k0_pay56 (rowsW m c t)) w
      (k0_pay57 (View.ld (iblk m c 9 t) r0_37)))
    (ha : a.val = (x 0).val) (hb : b.val = 128 + (x 1).val) : P x = indexQueryAt m c (rowOf t a) b := by
  obtain ⟨i, l, rfl⟩ : ∃ (i : Fin 256) (l : Fin 128), x = ix2 i l := ⟨x 0, x 1, by idx_vars x⟩
  obtain rfl : a = i := Fin.ext ha
  rw [show b = ⟨128 * 1 + l.val, by omega⟩ from Fin.ext (hb.trans (by show 128 + l.val = 128 * 1 + l.val; omega)), hP, hw,
    index_query1 _ _ _ _ a _ _ _ (idxW_at t a h) (tables_at t a h) l]
  exact index_lane (col (tokenAt m c (rowOf t a)) (wiAt m c)) 1 (by omega) _ _ l

end blocks

end Cert.ProjIdeal.Tokens

end
-- ==== Proof.ProjArrays.lean ====
/-
  What the projection kernel leaves in its twelve output arrays.
-/
module

public import proofs.«01_k».proof.Proof.ProjKernel

@[expose] public section

set_option maxRecDepth 16384

noncomputable section

open Idealize.ShloMosaic Idealize.ShloMosaic.TcCoe Idealize.SL.Sem
open Idealize.ShloMosaic.Pipeline (Dat)

namespace Cert.ProjIdeal.Tokens

open Cert.ProjIdeal Cert.ProjIdeal.Gen Cert.Rows Cert.Projection Cert.Routing

variable {m : (ℓ : Loc nD τ sig) → Buf (Elt Ideal) ℓ} {c : Dev nD}

/-- The attention's queries, scaled. -/
theorem final13 (hp : Prepared m c) : (dats m 0 c).arrAt 13 cfg0.N = fun q => queryAt m c (q 0) (q 1) := by
  refine (dats m 0 c).arrAt_eq_of_covers 13 _ (by decide +kernel) fun t _ y => ?_
  blk_simp
  rw [after0_13]
  frame_out
  rw [show ((View.whole main_v0_0).slice (win0_13.rect t)).emb y = ix2 (rowOf t (y 0)) (y 1) by blk_ext [out_idx t]]
  canon_tiles x h
  · exact query_piece (y 0) hp _ x _ 3 (y 1) rfl (by omega) _ rfl h0 h1
  · exact query_piece (y 0) hp _ x _ 2 (y 1) rfl (by omega) _ rfl h0 h1
  · exact query_piece (y 0) hp _ x _ 1 (y 1) rfl (by omega) _ rfl h0 h1
  · exact query_piece (y 0) hp _ x _ 0 (y 1) rfl (by omega) _ rfl h0 (by omega)

/-- The attention's keys, in both formats. -/
theorem final14 (hp : Prepared m c) : (dats m 0 c).arrAt 14 cfg0.N = fun q => keyAt m c (q 0) (q 1) := by
  refine (dats m 0 c).arrAt_eq_of_covers 14 _ (by decide +kernel) fun t _ y => ?_
  blk_simp
  rw [after0_14]
  frame_out
  rw [show ((View.whole main_v0_1).slice (win0_14.rect t)).emb y = ix2 (rowOf t (y 0)) (y 1) by blk_ext [out_idx t]]
  canon_tiles x h
  · exact key_piece (y 0) hp _ x 896 3 (y 1) rfl (by omega) _ (key_whole _ _ _ _ _ _ _ _ _ _ _ _ _) h0 h1
  · exact key_piece (y 0) hp _ x _ 2 (y 1) rfl (by omega) _ rfl h0 h1
  · exact key_piece (y 0) hp _ x _ 1 (y 1) rfl (by omega) _ rfl h0 h1
  · exact key_piece (y 0) hp _ x _ 0 (y 1) rfl (by omega) _ rfl h0 (by omega)

theorem final15 (hp : Prepared m c) : (dats m 0 c).arrAt 15 cfg0.N = fun q => keyAt m c (q 0) (q 1) := by
  refine (dats m 0 c).arrAt_eq_of_covers 15 _ (by decide +kernel) fun t _ y => ?_
  blk_simp
  rw [after0_15]
  frame_out
  rw [show ((View.whole main_v0_2).slice (win0_15.rect t)).emb y = ix2 (rowOf t (y 0)) (y 1) by blk_ext [out_idx t]]
  canon_tiles x h
  · exact key_piece (y 0) hp _ x 896 3 (y 1) rfl (by omega) _ (key_whole _ _ _ _ _ _ _ _ _ _ _ _ _) h0 h1
  · exact key_piece (y 0) hp _ x _ 2 (y 1) rfl (by omega) _ rfl h0 h1
  · exact key_piece (y 0) hp _ x _ 1 (y 1) rfl (by omega) _ rfl h0 h1
  · exact key_piece (y 0) hp _ x _ 0 (y 1) rfl (by omega) _ rfl h0 (by omega)

/-- The attention's values, in both formats. -/
theorem final16 : (dats m 0 c).arrAt 16 cfg0.N = fun q => plainAt m c (q 0) 1024 (by omega) (q 1) := by
  refine (dats m 0 c).arrAt_eq_of_covers 16 _ (by decide +kernel) fun t _ y => ?_
  blk_simp
  rw [after0_16]
  frame_out
  rw [show ((View.whole main_v0_3).slice (win0_16.rect t)).emb y = ix2 (rowOf t (y 0)) (y 1) by blk_ext [out_idx t]]
  canon_tiles x h
  · exact plain_piece (y 0) _ x _ 3 (y 1) 1024 (by omega) rfl (by omega) _ rfl h0 h1
  · exact plain_piece (y 0) _ x _ 2 (y 1) 1024 (by omega) rfl (by omega) _ rfl h0 h1
  · exact plain_piece (y 0) _ x _ 1 (y 1) 1024 (by omega) rfl (by omega) _ rfl h0 h1
  · exact plain_piece (y 0) _ x _ 0 (y 1) 1024 (by omega) rfl (by omega) _ rfl h0 (by omega)

theorem final17 : (dats m 0 c).arrAt 17 cfg0.N = fun q => plainAt m c (q 0) 1024 (by omega) (q 1) := by
  refine (dats m 0 c).arrAt_eq_of_covers 17 _ (by decide +kernel) fun t _ y => ?_
  blk_simp
  rw [after0_17]
  frame_out
  rw [show ((View.whole main_v0_4).slice (win0_17.rect t)).emb y = ix2 (rowOf t (y 0)) (y 1) by blk_ext [out_idx t]]
  canon_tiles x h
  · exact plain_piece (y 0) _ x _ 3 (y 1) 1024 (by omega) rfl (by omega) _ rfl h0 h1
  · exact plain_piece (y 0) _ x _ 2 (y 1) 1024 (by omega) rfl (by omega) _ rfl h0 h1
  · exact plain_piece (y 0) _ x _ 1 (y 1) 1024 (by omega) rfl (by omega) _ rfl h0 h1
  · exact plain_piece (y 0) _ x _ 0 (y 1) 1024 (by omega) rfl (by omega) _ rfl h0 (by omega)

/-- The indexer's queries. -/
theorem final18 (hp : Prepared m c) : (dats m 0 c).arrAt 18 cfg0.N = fun q => indexQueryAt m c (q 0) (q 1) := by
  refine (dats m 0 c).arrAt_eq_of_covers 18 _ (by decide +kernel) fun t _ y => ?_
  blk_simp
  rw [after0_18]
  frame_out
  rw [show ((View.whole main_v0_5).slice (win0_18.rect t)).emb y = ix2 (rowOf t (y 0)) (y 1) by blk_ext [out_idx t]]
  canon_tiles x h
  · exact index_piece1 (y 0) hp _ x (y 1) _ (wi_whole _).symm rfl h0 h1
  · exact index_piece0 (y 0) hp _ x (y 1) _ (wi_whole _).symm rfl h0 h1

/-- The indexer's key. -/
theorem final19 (hp : Prepared m c) : (dats m 0 c).arrAt 19 cfg0.N = fun q => indexKeyAt m c (q 0) (q 1) := by
  refine (dats m 0 c).arrAt_eq_of_covers 19 _ (by decide +kernel) fun t _ y => ?_
  blk_simp
  rw [after0_19]
  frame_out
  rw [show ((View.whole main_v0_6).slice (win0_19.rect t)).emb y = ix2 (rowOf t (y 0)) (y 1) by blk_ext [out_idx t]]
  obtain ⟨i, l, rfl⟩ : ∃ (i : Fin 256) (l : Fin 64), y = ix2 i l := ⟨y 0, y 1, by idx_vars y⟩
  exact index_key _ _ _ i (gkiAt m c) _ _ _ (idxW m c t) (idxW_at t i hp) (empty_at hp _) (fun l => b12 m c t _) (tables_at t i hp) l

/-- The indexer's head weights. -/
theorem final20 (hp : Prepared m c) : (dats m 0 c).arrAt 20 cfg0.N = fun q => indexWeightAt m c (q 0) (q 1) := by
  refine (dats m 0 c).arrAt_eq_of_covers 20 _ (by decide +kernel) fun t _ y => ?_
  blk_simp
  rw [after0_20]
  frame_out
  rw [show ((View.whole main_v0_7).slice (win0_20.rect t)).emb y = ix2 (rowOf t (y 0)) (y 1) by blk_ext [out_idx t]]
  obtain ⟨i, l, rfl⟩ : ∃ (i : Fin 256) (l : Fin 128), y = ix2 i l := ⟨y 0, y 1, by idx_vars y⟩
  exact (index_weight i (idxW m c t) l).trans (idxW_at t i hp _)

/-- The retention's queries, keys, values and gates. -/
theorem final21 (hp : Prepared m c) : (dats m 0 c).arrAt 21 cfg0.N = fun q => retainQueryAt m c (q 0) (q 1) := by
  refine (dats m 0 c).arrAt_eq_of_covers 21 _ (by decide +kernel) fun t _ y => ?_
  blk_simp
  rw [after0_21]
  frame_out
  rw [show ((View.whole main_v0_8).slice (win0_21.rect t)).emb y = ix2 (rowOf t (y 0)) (y 1) by blk_ext [out_idx t]]
  canon_tiles x h
  · exact retain_piece (y 0) hp _ x _ 3 (y 1) rfl (by omega) _ rfl h0 h1
  · exact retain_piece (y 0) hp _ x _ 2 (y 1) rfl (by omega) _ rfl h0 h1
  · exact retain_piece (y 0) hp _ x _ 1 (y 1) rfl (by omega) _ rfl h0 h1
  · exact retain_piece (y 0) hp _ x _ 0 (y 1) rfl (by omega) _ rfl h0 (by omega)

theorem final22 (hp : Prepared m c) : (dats m 0 c).arrAt 22 cfg0.N = fun q => retainKeyAt m c (q 0) (q 1) := by
  refine (dats m 0 c).arrAt_eq_of_covers 22 _ (by decide +kernel) fun t _ y => ?_
  blk_simp
  rw [after0_22]
  frame_out
  rw [show ((View.whole main_v0_9).slice (win0_22.rect t)).emb y = ix2 (rowOf t (y 0)) (y 1) by blk_ext [out_idx t]]
  canon_tiles x h
  · exact retain_key_piece (y 0) hp _ x _ 3 (y 1) rfl (by omega) _ rfl h0 h1
  · exact retain_key_piece (y 0) hp _ x _ 2 (y 1) rfl (by omega) _ rfl h0 h1
  · exact retain_key_piece (y 0) hp _ x _ 1 (y 1) rfl (by omega) _ rfl h0 h1
  · exact retain_key_piece (y 0) hp _ x _ 0 (y 1) rfl (by omega) _ rfl h0 (by omega)

theorem final23 : (dats m 0 c).arrAt 23 cfg0.N = fun q => plainAt m c (q 0) 2560 (by omega) (q 1) := by
  refine (dats m 0 c).arrAt_eq_of_covers 23 _ (by decide +kernel) fun t _ y => ?_
  blk_simp
  rw [after0_23]
  frame_out
  rw [show ((View.whole main_v0_10).slice (win0_23.rect t)).emb y = ix2 (rowOf t (y 0)) (y 1) by blk_ext [out_idx t]]
  canon_tiles x h
  · exact plain_piece (y 0) _ x _ 3 (y 1) 2560 (by omega) rfl (by omega) _ rfl h0 h1
  · exact plain_piece (y 0) _ x _ 2 (y 1) 2560 (by omega) rfl (by omega) _ rfl h0 h1
  · exact plain_piece (y 0) _ x _ 1 (y 1) 2560 (by omega) rfl (by omega) _ rfl h0 h1
  · exact plain_piece (y 0) _ x _ 0 (y 1) 2560 (by omega) rfl (by omega) _ rfl h0 (by omega)

theorem final24 : (dats m 0 c).arrAt 24 cfg0.N = fun q => plainAt m c (q 0) 3072 (by omega) (q 1) := by
  refine (dats m 0 c).arrAt_eq_of_covers 24 _ (by decide +kernel) fun t _ y => ?_
  blk_simp
  rw [after0_24]
  frame_out
  rw [show ((View.whole main_v0_11).slice (win0_24.rect t)).emb y = ix2 (rowOf t (y 0)) (y 1) by blk_ext [out_idx t]]
  canon_tiles x h
  · exact plain_piece (y 0) _ x _ 3 (y 1) 3072 (by omega) rfl (by omega) _ rfl h0 h1
  · exact plain_piece (y 0) _ x _ 2 (y 1) 3072 (by omega) rfl (by omega) _ rfl h0 h1
  · exact plain_piece (y 0) _ x _ 1 (y 1) 3072 (by omega) rfl (by omega) _ rfl h0 h1
  · exact plain_piece (y 0) _ x _ 0 (y 1) 3072 (by omega) rfl (by omega) _ rfl h0 (by omega)

end Cert.ProjIdeal.Tokens

end
-- ==== Proof.ProjRef.lean ====
/-
  The projection reference's results: every row is a projection of that row's token.
-/
module

public import proofs.«01_k».proof.Proof.Projection
public import proofs.«01_k».proof.Proof.Gen.ProjReferenceIdeal.Run
public import Idealize.ShloMosaic.Lib.Claim
public import Idealize.ShloMosaic.Lib.IdealHost

@[expose] public section

set_option maxRecDepth 16384

noncomputable section

open Idealize.ShloMosaic Idealize.ShloMosaic.TcCoe Idealize.SL.Sem Idealize.ShloMosaic.StableHlo

namespace Cert.ProjReferenceIdeal.Tokens

open Cert.ProjReferenceIdeal Cert.ProjReferenceIdeal.Gen Cert.Rows Cert.Projection

section heads

variable (q : Fin 16384)

/-- Eight heads of 64 lanes, their halves turned into one another. -/
def turn8 (y : FVec Ideal S16384x8x64 .f32) (c s : FVec Ideal S16384x32 .f32) : FVec Ideal S16384x512 .f32 :=
  shapeCast _ (concatenate S16384x8x64 2 [⟨S16384x8x32, (subf (mulf (extractStridedSlice S16384x8x32 ![0, 0, 0] y slices_S16384x8x64_S16384x8x32_0_0_0) (broadcastInDim S16384x8x32 ![0, 1, 2] bcast_S16384x1x32_S16384x8x32_0_1_2 (broadcastInDim S16384x1x32 ![0, 2] bcast_S16384x32_S16384x1x32_0_2 c))) (mulf (extractStridedSlice S16384x8x32 ![0, 0, 32] y slices_S16384x8x64_S16384x8x32_0_0_32) (broadcastInDim S16384x8x32 ![0, 1, 2] bcast_S16384x1x32_S16384x8x32_0_1_2 (broadcastInDim S16384x1x32 ![0, 2] bcast_S16384x32_S16384x1x32_0_2 s))))⟩, ⟨S16384x8x32, (addf (mulf (extractStridedSlice S16384x8x32 ![0, 0, 32] y slices_S16384x8x64_S16384x8x32_0_0_32) (broadcastInDim S16384x8x32 ![0, 1, 2] bcast_S16384x1x32_S16384x8x32_0_1_2 (broadcastInDim S16384x1x32 ![0, 2] bcast_S16384x32_S16384x1x32_0_2 c))) (mulf (extractStridedSlice S16384x8x32 ![0, 0, 0] y slices_S16384x8x64_S16384x8x32_0_0_0) (broadcastInDim S16384x8x32 ![0, 1, 2] bcast_S16384x1x32_S16384x8x32_0_1_2 (broadcastInDim S16384x1x32 ![0, 2] bcast_S16384x32_S16384x1x32_0_2 s))))⟩] concatenates_S16384x8x32_S16384x8x32_S16384x8x64_d2) shapeCasts_S16384x8x64_S16384x512

/-- Four heads of 64 lanes. -/
def turn4 (y : FVec Ideal S16384x4x64 .f32) (c s : FVec Ideal S16384x32 .f32) : FVec Ideal S16384x256 .f32 :=
  shapeCast _ (concatenate S16384x4x64 2 [⟨S16384x4x32, (subf (mulf (extractStridedSlice S16384x4x32 ![0, 0, 0] y slices_S16384x4x64_S16384x4x32_0_0_0) (broadcastInDim S16384x4x32 ![0, 1, 2] bcast_S16384x1x32_S16384x4x32_0_1_2 (broadcastInDim S16384x1x32 ![0, 2] bcast_S16384x32_S16384x1x32_0_2 c))) (mulf (extractStridedSlice S16384x4x32 ![0, 0, 32] y slices_S16384x4x64_S16384x4x32_0_0_32) (broadcastInDim S16384x4x32 ![0, 1, 2] bcast_S16384x1x32_S16384x4x32_0_1_2 (broadcastInDim S16384x1x32 ![0, 2] bcast_S16384x32_S16384x1x32_0_2 s))))⟩, ⟨S16384x4x32, (addf (mulf (extractStridedSlice S16384x4x32 ![0, 0, 32] y slices_S16384x4x64_S16384x4x32_0_0_32) (broadcastInDim S16384x4x32 ![0, 1, 2] bcast_S16384x1x32_S16384x4x32_0_1_2 (broadcastInDim S16384x1x32 ![0, 2] bcast_S16384x32_S16384x1x32_0_2 c))) (mulf (extractStridedSlice S16384x4x32 ![0, 0, 0] y slices_S16384x4x64_S16384x4x32_0_0_0) (broadcastInDim S16384x4x32 ![0, 1, 2] bcast_S16384x1x32_S16384x4x32_0_1_2 (broadcastInDim S16384x1x32 ![0, 2] bcast_S16384x32_S16384x1x32_0_2 s))))⟩] concatenates_S16384x4x32_S16384x4x32_S16384x4x64_d2) shapeCasts_S16384x4x64_S16384x256

/-- One head of 64 lanes. -/
def turn1 (y : FVec Ideal S16384x1x64 .f32) (c s : FVec Ideal S16384x32 .f32) : FVec Ideal S16384x64 .f32 :=
  shapeCast _ (concatenate S16384x1x64 2 [⟨S16384x1x32, (subf (mulf (extractStridedSlice S16384x1x32 ![0, 0, 0] y slices_S16384x1x64_S16384x1x32_0_0_0) (broadcastInDim S16384x1x32 ![0, 2] bcast_S16384x32_S16384x1x32_0_2 c)) (mulf (extractStridedSlice S16384x1x32 ![0, 0, 32] y slices_S16384x1x64_S16384x1x32_0_0_32) (broadcastInDim S16384x1x32 ![0, 2] bcast_S16384x32_S16384x1x32_0_2 s)))⟩, ⟨S16384x1x32, (addf (mulf (extractStridedSlice S16384x1x32 ![0, 0, 32] y slices_S16384x1x64_S16384x1x32_0_0_32) (broadcastInDim S16384x1x32 ![0, 2] bcast_S16384x32_S16384x1x32_0_2 c)) (mulf (extractStridedSlice S16384x1x32 ![0, 0, 0] y slices_S16384x1x64_S16384x1x32_0_0_0) (broadcastInDim S16384x1x32 ![0, 2] bcast_S16384x32_S16384x1x32_0_2 s)))⟩] concatenates_S16384x1x32_S16384x1x32_S16384x1x64_d2) shapeCasts_S16384x1x64_S16384x64

/-- Four heads of 128 lanes, before they are laid out in a row. -/
def turnR (y : FVec Ideal S16384x4x128 .f32) (c s : FVec Ideal S16384x64 .f32) : FVec Ideal S16384x4x128 .f32 :=
  concatenate S16384x4x128 2 [⟨S16384x4x64, (subf (mulf (extractStridedSlice S16384x4x64 ![0, 0, 0] y slices_S16384x4x128_S16384x4x64_0_0_0) (broadcastInDim S16384x4x64 ![0, 1, 2] bcast_S16384x1x64_S16384x4x64_0_1_2 (broadcastInDim S16384x1x64 ![0, 2] bcast_S16384x64_S16384x1x64_0_2 c))) (mulf (extractStridedSlice S16384x4x64 ![0, 0, 64] y slices_S16384x4x128_S16384x4x64_0_0_64) (broadcastInDim S16384x4x64 ![0, 1, 2] bcast_S16384x1x64_S16384x4x64_0_1_2 (broadcastInDim S16384x1x64 ![0, 2] bcast_S16384x64_S16384x1x64_0_2 s))))⟩, ⟨S16384x4x64, (addf (mulf (extractStridedSlice S16384x4x64 ![0, 0, 64] y slices_S16384x4x128_S16384x4x64_0_0_64) (broadcastInDim S16384x4x64 ![0, 1, 2] bcast_S16384x1x64_S16384x4x64_0_1_2 (broadcastInDim S16384x1x64 ![0, 2] bcast_S16384x64_S16384x1x64_0_2 c))) (mulf (extractStridedSlice S16384x4x64 ![0, 0, 0] y slices_S16384x4x128_S16384x4x64_0_0_0) (broadcastInDim S16384x4x64 ![0, 1, 2] bcast_S16384x1x64_S16384x4x64_0_1_2 (broadcastInDim S16384x1x64 ![0, 2] bcast_S16384x64_S16384x1x64_0_2 s))))⟩] concatenates_S16384x4x64_S16384x4x64_S16384x4x128_d2

theorem turn8_at (y : FVec Ideal S16384x8x64 .f32) (c s : FVec Ideal S16384x32 .f32) (l : Fin 512) :
    (turn8 y c s (ix2 q l) : EReal) = turned (n := 32) rfl (fun i : Fin 64 => y (ix3 q ⟨l.val / 64, by omega⟩ i))
      (fun i => c (ix2 q i)) (fun i => s (ix2 q i)) ⟨l.val % 64, by omega⟩ := by
  rw [turned_eq]
  unfold turn8
  pointwise

theorem turn4_at (y : FVec Ideal S16384x4x64 .f32) (c s : FVec Ideal S16384x32 .f32) (l : Fin 256) :
    (turn4 y c s (ix2 q l) : EReal) = turned (n := 32) rfl (fun i : Fin 64 => y (ix3 q ⟨l.val / 64, by omega⟩ i))
      (fun i => c (ix2 q i)) (fun i => s (ix2 q i)) ⟨l.val % 64, by omega⟩ := by
  rw [turned_eq]
  unfold turn4
  pointwise

theorem turn1_at (y : FVec Ideal S16384x1x64 .f32) (c s : FVec Ideal S16384x32 .f32) (l : Fin 64) :
    (turn1 y c s (ix2 q l) : EReal) = turned (n := 32) rfl (fun i : Fin 64 => y (ix3 q 0 i))
      (fun i => c (ix2 q i)) (fun i => s (ix2 q i)) l := by
  rw [turned_eq]
  unfold turn1
  pointwise

theorem turnR_at (y : FVec Ideal S16384x4x128 .f32) (c s : FVec Ideal S16384x64 .f32) (j : Fin 4) (l : Fin 128) :
    (turnR y c s (ix3 q j l) : EReal) = turned (n := 64) rfl (fun i : Fin 128 => y (ix3 q j i))
      (fun i => c (ix2 q i)) (fun i => s (ix2 q i)) l := by
  rw [turned_eq]
  unfold turnR
  pointwise

/-- Heads normalised and weighted. -/
def normT (z : FVec Ideal S16384x8x64 .f32) (g : FVec Ideal S1x128 .f32) : FVec Ideal S16384x8x64 .f32 :=
  mulf (mulf z (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf z z) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (shapeCast _ (extractStridedSlice S1x64 ![0, 0] g slices_S1x128_S1x64_0_0) shapeCasts_S1x64_S64)))

theorem normT_at (z : FVec Ideal S16384x8x64 .f32) (g : FVec Ideal S1x128 .f32) (j : Fin 8) (i : Fin 64) :
    (normT z g (ix3 q j i) : EReal) = normed (fun i => z (ix3 q j i)) (fun i => g (ix2 0 ⟨i.val, by omega⟩)) i := by
  unfold normT
  pointwise
  rfl

/-- The indexer's key normalised and weighted. -/
def normK (z : FVec Ideal S16384x64 .f32) (g : FVec Ideal S1x128 .f32) : FVec Ideal S16384x1x64 .f32 :=
  broadcastInDim S16384x1x64 ![0, 2] bcast_S16384x64_S16384x1x64_0_2 (mulf (mulf z (broadcastInDim S16384x64 ![0, 1] bcast_S16384x1_S16384x64_0_1 (Host.rsqrt (addf (Host.divf (broadcastInDim S16384x1 ![0] bcast_S16384_S16384x1_0 (Host.reduceAdd (mulf z z) (constant S_ .f32 0x00000000#32) reducesTo_S16384x64_S16384_d1 h_S_)) (broadcastInDim S16384x1 ![] bcast_S_S16384x1 (constant S_ .f32 0x42800000#32))) (broadcastInDim S16384x1 ![] bcast_S_S16384x1 (constant S_ .f32 0x358637BD#32)))))) (broadcastInDim S16384x64 ![0, 1] bcast_S1x64_S16384x64_0_1 (broadcastInDim S1x64 ![1] bcast_S64_S1x64_1 (shapeCast _ (extractStridedSlice S1x64 ![0, 0] g slices_S1x128_S1x64_0_0) shapeCasts_S1x64_S64))))

theorem normK_at (z : FVec Ideal S16384x64 .f32) (g : FVec Ideal S1x128 .f32) (i : Fin 64) :
    (normK z g (ix3 q 0 i) : EReal) = normed (fun i => z (ix2 q i)) (fun i => g (ix2 0 ⟨i.val, by omega⟩)) i := by
  unfold normK
  pointwise
  rfl

variable (c s : FVec Ideal S16384x128 .f32)

/-- The first head's lanes of the angles' tables. -/
abbrev cosT : FVec Ideal S16384x32 .f32 := extractStridedSlice S16384x32 ![0, 0] c slices_S16384x128_S16384x32_0_0
abbrev sinT : FVec Ideal S16384x32 .f32 := extractStridedSlice S16384x32 ![0, 32] s slices_S16384x128_S16384x32_0_32
abbrev cosR : FVec Ideal S16384x64 .f32 := extractStridedSlice S16384x64 ![0, 0] c slices_S16384x128_S16384x64_0_0
abbrev sinR : FVec Ideal S16384x64 .f32 := extractStridedSlice S16384x64 ![0, 64] s slices_S16384x128_S16384x64_0_64

theorem cosT_at (i : Fin 32) : (cosT c (ix2 q i) : EReal) = c (ix2 q ⟨i.val, by omega⟩) := by pointwise
theorem sinT_at (i : Fin 32) : (sinT s (ix2 q i) : EReal) = s (ix2 q ⟨32 + i.val, by omega⟩) := by pointwise
theorem cosR_at (i : Fin 64) : (cosR c (ix2 q i) : EReal) = c (ix2 q ⟨i.val, by omega⟩) := by pointwise
theorem sinR_at (i : Fin 64) : (sinR s (ix2 q i) : EReal) = s (ix2 q ⟨64 + i.val, by omega⟩) := by pointwise

variable (W : FVec Ideal S16384x3584 .f32) (Z : FVec Ideal S16384x512 .f32) (h : Fin 1024 → EReal) (w : Fin 1024 → Fin 3584 → EReal)
  (v : Fin 1024 → Fin 512 → EReal) (hW : ∀ j, (W (ix2 q j) : EReal) = col h w j) (hZ : ∀ j, (Z (ix2 q j) : EReal) = col h v j)
  (g : FVec Ideal S1x128 .f32)

/-- The attention's queries before they are scaled, and its keys. -/
def queryT : FVec Ideal S16384x512 .f32 :=
  turn8 (normT (shapeCast _ (extractStridedSlice S16384x512 ![0, 0] W slices_S16384x3584_S16384x512_0_0) shapeCasts_S16384x512_S16384x8x64) g) (cosT c) (sinT s)
def keyT : FVec Ideal S16384x512 .f32 :=
  turn8 (normT (shapeCast _ (extractStridedSlice S16384x512 ![0, 512] W slices_S16384x3584_S16384x512_0_512) shapeCasts_S16384x512_S16384x8x64) g) (cosT c) (sinT s)
/-- The indexer's queries and key. -/
def indexQueryT : FVec Ideal S16384x256 .f32 :=
  turn4 (shapeCast _ (extractStridedSlice S16384x256 ![0, 0] Z slices_S16384x512_S16384x256_0_0) shapeCasts_S16384x256_S16384x4x64) (cosT c) (sinT s)
def indexKeyT : FVec Ideal S16384x64 .f32 :=
  turn1 (normK (extractStridedSlice S16384x64 ![0, 256] Z slices_S16384x512_S16384x64_0_256) g) (cosT c) (sinT s)
/-- The retention's queries, and its keys scaled. -/
def retainT : FVec Ideal S16384x512 .f32 :=
  shapeCast _ (turnR (shapeCast _ (extractStridedSlice S16384x512 ![0, 1536] W slices_S16384x3584_S16384x512_0_1536) shapeCasts_S16384x512_S16384x4x128) (cosR c) (sinR s)) shapeCasts_S16384x4x128_S16384x512
def retainKeyT : FVec Ideal S16384x512 .f32 :=
  shapeCast _ (mulf (turnR (shapeCast _ (extractStridedSlice S16384x512 ![0, 2048] W slices_S16384x3584_S16384x512_0_2048) shapeCasts_S16384x512_S16384x4x128) (cosR c) (sinR s)) (broadcastInDim S16384x4x128 ![] bcast_S_S16384x4x128 (constant S_ .f32 0x3DB504F3#32))) shapeCasts_S16384x4x128_S16384x512

/-- The tables' lanes as functions. -/
abbrev cosL (i : Fin 32) : EReal := c (ix2 q ⟨i.val, by omega⟩)
abbrev sinL (i : Fin 32) : EReal := s (ix2 q ⟨32 + i.val, by omega⟩)
abbrev cosRL (i : Fin 64) : EReal := c (ix2 q ⟨i.val, by omega⟩)
abbrev sinRL (i : Fin 64) : EReal := s (ix2 q ⟨64 + i.val, by omega⟩)
abbrev headL (i : Fin 64) : EReal := g (ix2 0 ⟨i.val, by omega⟩)

include hW in
theorem queryT_at (l : Fin 512) : (queryT c s W g (ix2 q l) : EReal) = headRow h w 0 (by omega) (headL g) (cosL q c) (sinL q s) l := by
  unfold queryT
  rw [turn8_at]
  simp only [normT_at, cosT_at, sinT_at]
  pointwise
  simp only [hW]
  unfold headRow
  simp only [Nat.zero_add, Nat.mul_comm 64]

include hW in
theorem keyT_at (l : Fin 512) : (keyT c s W g (ix2 q l) : EReal) = headRow h w 512 (by omega) (headL g) (cosL q c) (sinL q s) l := by
  unfold keyT
  rw [turn8_at]
  simp only [normT_at, cosT_at, sinT_at]
  pointwise
  simp only [hW]
  unfold headRow
  simp only [Nat.mul_comm 64]

include hZ in
theorem indexQueryT_at (l : Fin 256) : (indexQueryT c s Z (ix2 q l) : EReal) = indexRow h v (cosL q c) (sinL q s) l := by
  unfold indexQueryT
  rw [turn4_at]
  simp only [cosT_at, sinT_at]
  pointwise
  simp only [hZ]
  unfold indexRow
  simp only [Nat.mul_comm 64]

include hZ in
theorem indexKeyT_at (l : Fin 64) : (indexKeyT c s Z g (ix2 q l) : EReal) = indexKey h v (headL g) (cosL q c) (sinL q s) l := by
  unfold indexKeyT
  rw [turn1_at]
  simp only [normK_at, cosT_at, sinT_at]
  pointwise
  simp only [hZ]
  rfl

include hW in
theorem retainT_at (l : Fin 512) : (retainT c s W (ix2 q l) : EReal) = retainRow h w 1536 (by omega) (cosRL q c) (sinRL q s) l := by
  unfold retainT
  pointwise
  rw [turnR_at]
  simp only [cosR_at, sinR_at]
  pointwise
  simp only [hW]
  unfold retainRow
  simp only [Nat.mul_comm 128]

include hW in
theorem retainKeyT_at (l : Fin 512) : (retainKeyT c s W (ix2 q l) : EReal)
    = retainRow h w 2048 (by omega) (cosRL q c) (sinRL q s) l * Ideal.ofBits .f32 0x3DB504F3#32 := by
  unfold retainKeyT
  pointwise
  rw [turnR_at]
  simp only [cosR_at, sinR_at]
  pointwise
  simp only [hW]
  unfold retainRow
  simp only [Nat.mul_comm 128]

/-- The normalised, modulated tokens. -/
def tokensT (x : FVec Ideal S16384x1024 .f32) (g : FVec Ideal S1x1024 .f32) (sh sc : FVec Ideal S2x1x1024 .f32) : FVec Ideal S16384x1024 .f32 :=
  shapeCast _ (addf (mulf (mulf (mulf (shapeCast _ x shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ x shapeCasts_S16384x1024_S2x8192x1024) (shapeCast _ x shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ sc shapeCasts_S2x1x1024_S2x1024))))) (broadcastInDim S2x8192x1024 ![0, 1, 2] bcast_S2x1x1024_S2x8192x1024_0_1_2 (broadcastInDim S2x1x1024 ![0, 2] bcast_S2x1024_S2x1x1024_0_2 (shapeCast _ sh shapeCasts_S2x1x1024_S2x1024)))) shapeCasts_S2x8192x1024_S16384x1024

/-- The batch row of an array's row. -/
abbrev batch (q : Fin 16384) : Fin 2 := ⟨q.val / 8192, by omega⟩

/-- A row's token. -/
abbrev tokenL (x : FVec Ideal S16384x1024 .f32) (g : FVec Ideal S1x1024 .f32) (sh sc : FVec Ideal S2x1x1024 .f32) (k : Fin 1024) : EReal :=
  modulated (fun l => x (ix2 q l)) (fun l => g (ix2 0 l)) (fun l => sh (ix3 (batch q) 0 l)) (fun l => sc (ix3 (batch q) 0 l)) k

theorem tokensT_at (x : FVec Ideal S16384x1024 .f32) (g : FVec Ideal S1x1024 .f32) (sh sc : FVec Ideal S2x1x1024 .f32) (k : Fin 1024) :
    (tokensT x g sh sc (ix2 q k) : EReal) = tokenL q x g sh sc k := by
  unfold tokensT
  pointwise
  rfl

/-- The projections. -/
def prodT (h : FVec Ideal S16384x1024 .f32) (w : FVec Ideal S1024x3584 .bf16) : FVec Ideal S16384x3584 .f32 :=
  Host.dotGeneral dot_S16384x1024_S1024x3584_S16384x3584_1_0_0_1_n_n none h (extf .f32 w bitsLt_bf16_f32)
def prodI (h : FVec Ideal S16384x1024 .f32) (w : FVec Ideal S1024x512 .f32) : FVec Ideal S16384x512 .f32 :=
  Host.dotGeneral dot_S16384x1024_S1024x512_S16384x512_1_0_0_1_n_n none h w

theorem prodT_at (x : FVec Ideal S16384x1024 .f32) (g : FVec Ideal S1x1024 .f32) (sh sc : FVec Ideal S2x1x1024 .f32) (w : FVec Ideal S1024x3584 .bf16)
    (j : Fin 3584) : (prodT (tokensT x g sh sc) w (ix2 q j) : EReal) = col (tokenL q x g sh sc) (fun k j => w (ix2 k j)) j := by
  unfold prodT
  pointwise
  simp only [tokensT_at]
  rfl

theorem prodI_at (x : FVec Ideal S16384x1024 .f32) (g : FVec Ideal S1x1024 .f32) (sh sc : FVec Ideal S2x1x1024 .f32) (w : FVec Ideal S1024x512 .f32)
    (j : Fin 512) : (prodI (tokensT x g sh sc) w (ix2 q j) : EReal) = col (tokenL q x g sh sc) (fun k j => w (ix2 k j)) j := by
  unfold prodI
  pointwise
  simp only [tokensT_at]
  rfl

end heads

section results

variable (m : (ℓ : Loc nD τ sig) → Buf (Elt Ideal) ℓ) (c : Dev nD)

/-- The arguments. -/
abbrev xA : FVec Ideal S16384x1024 .f32 := m ((c.tc : Thread nD τ).loc main_arg0)
abbrev gA : FVec Ideal S1x1024 .f32 := m ((c.tc : Thread nD τ).loc main_arg1)
abbrev shA : FVec Ideal S2x1x1024 .f32 := m ((c.tc : Thread nD τ).loc main_arg2)
abbrev scA : FVec Ideal S2x1x1024 .f32 := m ((c.tc : Thread nD τ).loc main_arg3)
abbrev c64A : FVec Ideal S16384x128 .f32 := m ((c.tc : Thread nD τ).loc main_arg4)
abbrev s64A : FVec Ideal S16384x128 .f32 := m ((c.tc : Thread nD τ).loc main_arg5)
abbrev c128A : FVec Ideal S16384x128 .f32 := m ((c.tc : Thread nD τ).loc main_arg6)
abbrev s128A : FVec Ideal S16384x128 .f32 := m ((c.tc : Thread nD τ).loc main_arg7)
abbrev wmA : FVec Ideal S1024x3584 .bf16 := m ((c.tc : Thread nD τ).loc main_arg8)
abbrev wiA : FVec Ideal S1024x512 .f32 := m ((c.tc : Thread nD τ).loc main_arg9)
abbrev gqA : FVec Ideal S1x128 .f32 := m ((c.tc : Thread nD τ).loc main_arg10)
abbrev gkA : FVec Ideal S1x128 .f32 := m ((c.tc : Thread nD τ).loc main_arg11)
abbrev gkiA : FVec Ideal S1x128 .f32 := m ((c.tc : Thread nD τ).loc main_arg12)

/-- The products, and a row of them. -/
abbrev WA : FVec Ideal S16384x3584 .f32 := prodT (tokensT (xA m c) (gA m c) (shA m c) (scA m c)) (wmA m c)
abbrev ZA : FVec Ideal S16384x512 .f32 := prodI (tokensT (xA m c) (gA m c) (shA m c) (scA m c)) (wiA m c)

theorem query_result : (truncf .bf16 (mulf (queryT (c64A m c) (s64A m c) (WA m c) (gqA m c)) (broadcastInDim S16384x512 ![] bcast_S_S16384x512 (constant S_ .f32 0x3E000000#32))) bitsLt_bf16_f32 : FVec Ideal S16384x512 .bf16)
    = fun z => headRow (tokenL (z 0) (xA m c) (gA m c) (shA m c) (scA m c)) (fun k j => wmA m c (ix2 k j)) 0 (by omega) (headL (gqA m c))
        (cosL (z 0) (c64A m c)) (sinL (z 0) (s64A m c)) (z 1) * Ideal.ofBits .f32 0x3E000000#32 := by
  refine funext fun z => ?_
  obtain ⟨q, l, rfl⟩ : ∃ (q : Fin 16384) (l : Fin 512), z = ix2 q l := ⟨z 0, z 1, by idx_vars z⟩
  pointwise
  rw [queryT_at q _ _ _ _ _ (prodT_at q _ _ _ _ _)]

theorem key_result : keyT (c64A m c) (s64A m c) (WA m c) (gkA m c)
    = fun z => headRow (tokenL (z 0) (xA m c) (gA m c) (shA m c) (scA m c)) (fun k j => wmA m c (ix2 k j)) 512 (by omega) (headL (gkA m c))
        (cosL (z 0) (c64A m c)) (sinL (z 0) (s64A m c)) (z 1) := by
  refine funext fun z => ?_
  obtain ⟨q, l, rfl⟩ : ∃ (q : Fin 16384) (l : Fin 512), z = ix2 q l := ⟨z 0, z 1, by idx_vars z⟩
  exact keyT_at q _ _ _ _ _ (prodT_at q _ _ _ _ _) _ l

/-- The results that are columns of the products. -/
theorem value_result : (extractStridedSlice S16384x512 ![0, 1024] (WA m c) slices_S16384x3584_S16384x512_0_1024 : FVec Ideal S16384x512 .f32)
    = fun z => col (tokenL (z 0) (xA m c) (gA m c) (shA m c) (scA m c)) (fun k j => wmA m c (ix2 k j)) ⟨1024 + (z 1).val, by have : (z 1).val < 512 := (z 1).isLt; omega⟩ := by
  refine funext fun z => ?_
  obtain ⟨q, l, rfl⟩ : ∃ (q : Fin 16384) (l : Fin 512), z = ix2 q l := ⟨z 0, z 1, by idx_vars z⟩
  pointwise
  exact prodT_at q _ _ _ _ _ _

theorem retain_value_result : (extractStridedSlice S16384x512 ![0, 2560] (WA m c) slices_S16384x3584_S16384x512_0_2560 : FVec Ideal S16384x512 .f32)
    = fun z => col (tokenL (z 0) (xA m c) (gA m c) (shA m c) (scA m c)) (fun k j => wmA m c (ix2 k j)) ⟨2560 + (z 1).val, by have : (z 1).val < 512 := (z 1).isLt; omega⟩ := by
  refine funext fun z => ?_
  obtain ⟨q, l, rfl⟩ : ∃ (q : Fin 16384) (l : Fin 512), z = ix2 q l := ⟨z 0, z 1, by idx_vars z⟩
  pointwise
  exact prodT_at q _ _ _ _ _ _

theorem retain_gate_result : (extractStridedSlice S16384x512 ![0, 3072] (WA m c) slices_S16384x3584_S16384x512_0_3072 : FVec Ideal S16384x512 .f32)
    = fun z => col (tokenL (z 0) (xA m c) (gA m c) (shA m c) (scA m c)) (fun k j => wmA m c (ix2 k j)) ⟨3072 + (z 1).val, by have : (z 1).val < 512 := (z 1).isLt; omega⟩ := by
  refine funext fun z => ?_
  obtain ⟨q, l, rfl⟩ : ∃ (q : Fin 16384) (l : Fin 512), z = ix2 q l := ⟨z 0, z 1, by idx_vars z⟩
  pointwise
  exact prodT_at q _ _ _ _ _ _

theorem index_query_result : indexQueryT (c64A m c) (s64A m c) (ZA m c)
    = fun z => indexRow (tokenL (z 0) (xA m c) (gA m c) (shA m c) (scA m c)) (fun k j => wiA m c (ix2 k j))
        (cosL (z 0) (c64A m c)) (sinL (z 0) (s64A m c)) (z 1) := by
  refine funext fun z => ?_
  obtain ⟨q, l, rfl⟩ : ∃ (q : Fin 16384) (l : Fin 256), z = ix2 q l := ⟨z 0, z 1, by idx_vars z⟩
  exact indexQueryT_at q _ _ _ _ _ (prodI_at q _ _ _ _ _) l

theorem index_key_result : indexKeyT (c64A m c) (s64A m c) (ZA m c) (gkiA m c)
    = fun z => indexKey (tokenL (z 0) (xA m c) (gA m c) (shA m c) (scA m c)) (fun k j => wiA m c (ix2 k j)) (headL (gkiA m c))
        (cosL (z 0) (c64A m c)) (sinL (z 0) (s64A m c)) (z 1) := by
  refine funext fun z => ?_
  obtain ⟨q, l, rfl⟩ : ∃ (q : Fin 16384) (l : Fin 64), z = ix2 q l := ⟨z 0, z 1, by idx_vars z⟩
  exact indexKeyT_at q _ _ _ _ _ (prodI_at q _ _ _ _ _) _ l

theorem index_weight_result : (extractStridedSlice S16384x128 ![0, 384] (ZA m c) slices_S16384x512_S16384x128_0_384 : FVec Ideal S16384x128 .f32)
    = fun z => col (tokenL (z 0) (xA m c) (gA m c) (shA m c) (scA m c)) (fun k j => wiA m c (ix2 k j)) ⟨384 + (z 1).val, by have : (z 1).val < 128 := (z 1).isLt; omega⟩ := by
  refine funext fun z => ?_
  obtain ⟨q, l, rfl⟩ : ∃ (q : Fin 16384) (l : Fin 128), z = ix2 q l := ⟨z 0, z 1, by idx_vars z⟩
  pointwise
  exact prodI_at q _ _ _ _ _ _

theorem retain_result : retainT (c128A m c) (s128A m c) (WA m c)
    = fun z => retainRow (tokenL (z 0) (xA m c) (gA m c) (shA m c) (scA m c)) (fun k j => wmA m c (ix2 k j)) 1536 (by omega)
        (cosRL (z 0) (c128A m c)) (sinRL (z 0) (s128A m c)) (z 1) := by
  refine funext fun z => ?_
  obtain ⟨q, l, rfl⟩ : ∃ (q : Fin 16384) (l : Fin 512), z = ix2 q l := ⟨z 0, z 1, by idx_vars z⟩
  exact retainT_at q _ _ _ _ _ (prodT_at q _ _ _ _ _) l

theorem retain_key_result : retainKeyT (c128A m c) (s128A m c) (WA m c)
    = fun z => retainRow (tokenL (z 0) (xA m c) (gA m c) (shA m c) (scA m c)) (fun k j => wmA m c (ix2 k j)) 2048 (by omega)
        (cosRL (z 0) (c128A m c)) (sinRL (z 0) (s128A m c)) (z 1) * Ideal.ofBits .f32 0x3DB504F3#32 := by
  refine funext fun z => ?_
  obtain ⟨q, l, rfl⟩ : ∃ (q : Fin 16384) (l : Fin 512), z = ix2 q l := ⟨z 0, z 1, by idx_vars z⟩
  exact retainKeyT_at q _ _ _ _ _ (prodT_at q _ _ _ _ _) l

end results

end Cert.ProjReferenceIdeal.Tokens

end
-- ==== Proof.ProjClaim.lean ====
/-
  The projections' claims: kernel and reference end with the same twelve arrays, wherever the arguments are prepared.
-/
module

public import proofs.«01_k».proof.Defs
public import proofs.«01_k».proof.Proof.ProjPre
public import proofs.«01_k».proof.Proof.ProjArrays
public import proofs.«01_k».proof.Proof.ProjRef
public import proofs.«01_k».proof.Proof.Gen.ProjIdeal
public import proofs.«01_k».proof.Proof.Gen.ProjReferenceIdeal

@[expose] public section

set_option maxRecDepth 16384

noncomputable section

namespace Cert.Proof

open Idealize.ShloMosaic Idealize.ShloMosaic.TcCoe Idealize.SL.Sem Idealize.ShloMosaic.StableHlo

/-- The projections' reference leaves its arguments and its counters. -/
theorem proj_reference_quiescent : Cert.quiescent_ProjReferenceIdeal (hProjReferenceIdeal := Cert.ProjReferenceIdeal.Gen.facts) := by
  intro m g hpre
  refine (θ_run _ _ _).mono (fun r h => ⟨fun c => (h c).2.2.2.2.2.2.2.2.2.2.2.2, sem_eq_zero_of_no_sems (by decide) _⟩)
    (Cert.ProjReferenceIdeal.Value.run m g)

/-- The precondition is what the kernel takes for granted. -/
theorem prepared (m : (ℓ : Loc Cert.ProjIdeal.nD Cert.ProjIdeal.τ Cert.ProjIdeal.sig) → Buf (Elt Ideal) ℓ)
    (hpre : Cert.Pre_ProjIdeal_prepared (hPre_prepared := prepared_facts) m) (c : Dev Cert.ProjIdeal.nD) : Cert.ProjIdeal.Tokens.Prepared m c := by
  obtain ⟨p1, p2, p3, p4, p5, p6, p7, p8, p9, p10, p11, p12⟩ := hpre c
  exact
    { real_g := prep_g _ _ _ _ _ _ _ _ _ _ _ _ _ p1
      real_shift := prep_shift _ _ _ _ _ _ _ _ _ _ _ _ _ p2
      real_scale := prep_scale _ _ _ _ _ _ _ _ _ _ _ _ _ p3
      real_wm := prep_wm _ _ _ _ _ _ _ _ _ _ _ _ _ p4
      real_wi := prep_wi _ _ _ _ _ _ _ _ _ _ _ _ _ p5
      tables := fun r l => ⟨prep_c64 _ _ _ _ _ _ _ _ _ _ _ _ _ p6 r l, prep_s64 _ _ _ _ _ _ _ _ _ _ _ _ _ p7 r l⟩
      tablesr := fun r l => ⟨prep_c128 _ _ _ _ _ _ _ _ _ _ _ _ _ p8 r l, prep_s128 _ _ _ _ _ _ _ _ _ _ _ _ _ p9 r l⟩
      twice_q := prep_gq _ _ _ _ _ _ _ _ _ _ _ _ _ p10
      twice_k := prep_gk _ _ _ _ _ _ _ _ _ _ _ _ _ p11
      empty := prep_empty _ _ _ _ _ _ _ _ _ _ _ _ _ p12 }

set_option maxHeartbeats 4000000 in
/-- Kernel and reference end with the same projections. -/
theorem projecting : Cert.algebraic_ProjIdeal_ProjReferenceIdeal_pre_prepared (hProjIdeal := Cert.ProjIdeal.Gen.facts)
    (hProjReferenceIdeal := Cert.ProjReferenceIdeal.Gen.facts) (hPre_prepared := prepared_facts) := by
  intro m g m' g' hpre hagree
  refine ⟨fun c => (Cert.ProjIdeal.Gen.dats m 0 c).arrAt 13 Cert.ProjIdeal.cfg0.N, fun c => (Cert.ProjIdeal.Gen.dats m 0 c).arrAt 14 Cert.ProjIdeal.cfg0.N,
    fun c => (Cert.ProjIdeal.Gen.dats m 0 c).arrAt 15 Cert.ProjIdeal.cfg0.N, fun c => (Cert.ProjIdeal.Gen.dats m 0 c).arrAt 16 Cert.ProjIdeal.cfg0.N,
    fun c => (Cert.ProjIdeal.Gen.dats m 0 c).arrAt 17 Cert.ProjIdeal.cfg0.N, fun c => (Cert.ProjIdeal.Gen.dats m 0 c).arrAt 18 Cert.ProjIdeal.cfg0.N,
    fun c => (Cert.ProjIdeal.Gen.dats m 0 c).arrAt 19 Cert.ProjIdeal.cfg0.N, fun c => (Cert.ProjIdeal.Gen.dats m 0 c).arrAt 20 Cert.ProjIdeal.cfg0.N,
    fun c => (Cert.ProjIdeal.Gen.dats m 0 c).arrAt 21 Cert.ProjIdeal.cfg0.N, fun c => (Cert.ProjIdeal.Gen.dats m 0 c).arrAt 22 Cert.ProjIdeal.cfg0.N,
    fun c => (Cert.ProjIdeal.Gen.dats m 0 c).arrAt 23 Cert.ProjIdeal.cfg0.N, fun c => (Cert.ProjIdeal.Gen.dats m 0 c).arrAt 24 Cert.ProjIdeal.cfg0.N,
    Cert.ProjIdeal.Value.run_blocks m g, ?_⟩
  refine (θ_run _ _ _).mono (fun r h c => ?_) (Cert.ProjReferenceIdeal.Value.run m' g')
  obtain ⟨a0, a1, a2, a3, a4, a5, a6, a7, a8, a9, a10, a11, a12⟩ := hagree c
  obtain ⟨h0, h1, h2, h3, h4, h5, h6, h7, h8, h9, h10, h11, hargs⟩ := h c
  have hp := prepared m hpre c
  have e0 : Cert.ProjReferenceIdeal.Tokens.xA m' c = Cert.ProjIdeal.Gen.V m c Cert.ProjIdeal.main_arg0 := a0
  have e1 : Cert.ProjReferenceIdeal.Tokens.gA m' c = Cert.ProjIdeal.Gen.V m c Cert.ProjIdeal.main_arg1 := a1
  have e2 : Cert.ProjReferenceIdeal.Tokens.shA m' c = Cert.ProjIdeal.Gen.V m c Cert.ProjIdeal.main_arg2 := a2
  have e3 : Cert.ProjReferenceIdeal.Tokens.scA m' c = Cert.ProjIdeal.Gen.V m c Cert.ProjIdeal.main_arg3 := a3
  have e4 : Cert.ProjReferenceIdeal.Tokens.c64A m' c = Cert.ProjIdeal.Gen.V m c Cert.ProjIdeal.main_arg4 := a4
  have e5 : Cert.ProjReferenceIdeal.Tokens.s64A m' c = Cert.ProjIdeal.Gen.V m c Cert.ProjIdeal.main_arg5 := a5
  have e6 : Cert.ProjReferenceIdeal.Tokens.c128A m' c = Cert.ProjIdeal.Gen.V m c Cert.ProjIdeal.main_arg6 := a6
  have e7 : Cert.ProjReferenceIdeal.Tokens.s128A m' c = Cert.ProjIdeal.Gen.V m c Cert.ProjIdeal.main_arg7 := a7
  have e8 : Cert.ProjReferenceIdeal.Tokens.wmA m' c = Cert.ProjIdeal.Gen.V m c Cert.ProjIdeal.main_arg8 := a8
  have e9 : Cert.ProjReferenceIdeal.Tokens.wiA m' c = Cert.ProjIdeal.Gen.V m c Cert.ProjIdeal.main_arg9 := a9
  have e10 : Cert.ProjReferenceIdeal.Tokens.gqA m' c = Cert.ProjIdeal.Gen.V m c Cert.ProjIdeal.main_arg10 := a10
  have e11 : Cert.ProjReferenceIdeal.Tokens.gkA m' c = Cert.ProjIdeal.Gen.V m c Cert.ProjIdeal.main_arg11 := a11
  have e12 : Cert.ProjReferenceIdeal.Tokens.gkiA m' c = Cert.ProjIdeal.Gen.V m c Cert.ProjIdeal.main_arg12 := a12
  refine ⟨(h0.trans (Cert.ProjReferenceIdeal.Tokens.query_result m' c)).trans ?_, (h1.trans (Cert.ProjReferenceIdeal.Tokens.key_result m' c)).trans ?_,
    (h2.trans (Cert.ProjReferenceIdeal.Tokens.key_result m' c)).trans ?_, (h3.trans (Cert.ProjReferenceIdeal.Tokens.value_result m' c)).trans ?_,
    (h4.trans (Cert.ProjReferenceIdeal.Tokens.value_result m' c)).trans ?_, (h5.trans (Cert.ProjReferenceIdeal.Tokens.index_query_result m' c)).trans ?_,
    (h6.trans (Cert.ProjReferenceIdeal.Tokens.index_key_result m' c)).trans ?_, (h7.trans (Cert.ProjReferenceIdeal.Tokens.index_weight_result m' c)).trans ?_,
    (h8.trans (Cert.ProjReferenceIdeal.Tokens.retain_result m' c)).trans ?_, (h9.trans (Cert.ProjReferenceIdeal.Tokens.retain_key_result m' c)).trans ?_,
    (h10.trans (Cert.ProjReferenceIdeal.Tokens.retain_value_result m' c)).trans ?_,
    (h11.trans (Cert.ProjReferenceIdeal.Tokens.retain_gate_result m' c)).trans ?_, hargs⟩
  · simp only [e0, e1, e2, e3, e4, e5, e8, e10]
    exact (Cert.ProjIdeal.Tokens.final13 hp).symm
  · simp only [e0, e1, e2, e3, e4, e5, e8, e11]
    exact (Cert.ProjIdeal.Tokens.final14 hp).symm
  · simp only [e0, e1, e2, e3, e4, e5, e8, e11]
    exact (Cert.ProjIdeal.Tokens.final15 hp).symm
  · simp only [e0, e1, e2, e3, e8]
    exact Cert.ProjIdeal.Tokens.final16.symm
  · simp only [e0, e1, e2, e3, e8]
    exact Cert.ProjIdeal.Tokens.final17.symm
  · simp only [e0, e1, e2, e3, e4, e5, e9]
    exact (Cert.ProjIdeal.Tokens.final18 hp).symm
  · simp only [e0, e1, e2, e3, e4, e5, e9, e12]
    exact (Cert.ProjIdeal.Tokens.final19 hp).symm
  · simp only [e0, e1, e2, e3, e9]
    exact (Cert.ProjIdeal.Tokens.final20 hp).symm
  · simp only [e0, e1, e2, e3, e6, e7, e8]
    exact (Cert.ProjIdeal.Tokens.final21 hp).symm
  · simp only [e0, e1, e2, e3, e6, e7, e8]
    exact (Cert.ProjIdeal.Tokens.final22 hp).symm
  · simp only [e0, e1, e2, e3, e8]
    exact Cert.ProjIdeal.Tokens.final23.symm
  · simp only [e0, e1, e2, e3, e8]
    exact Cert.ProjIdeal.Tokens.final24.symm

end Cert.Proof

end
-- ==== Proof.AdaKernel.lean ====
/-
  The modulation: the kernel's output array holds, in every row, the product of the row's silu with the weights, plus the
  bias.
-/
module

public import proofs.«01_k».proof.Proof.Experts
public import proofs.«01_k».proof.Proof.Gen.AdaIdeal.Frame
public import proofs.«01_k».proof.Proof.Gen.AdaIdeal.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Modulation

open Cert.Routing

/-- The modulation of one row, at one column of the weights. -/
def modulation (x w : Fin 1024 → EReal) (b : EReal) : EReal := ∑ k, x k * Ideal.logistic (x k) * w k + b

/-- The logistic function of a real is real. -/
theorem logistic_real {a : EReal} : IsReal a → IsReal (Ideal.logistic a) := by
  rintro ⟨r, rfl⟩
  unfold Ideal.logistic
  rw [← EReal.coe_neg, Ideal.exp_coe, ← EReal.coe_one, ← EReal.coe_add, div_real _ _ (by positivity)]
  exact ⟨_, rfl⟩

end Cert.Modulation

namespace Cert.AdaIdeal.Tokens

open Cert.AdaIdeal Cert.AdaIdeal.Gen Cert.Routing Cert.Modulation

/-- A block of the output: of factors split in three parts, for reals only the first parts' product stays. -/
theorem block_eq (x : Vec Ideal S40x1024 .f32) (w : Vec Ideal S1024x1024 .f32) (b : Vec Ideal S1x1024 .f32) (i : Fin 40) (l : Fin 1024)
    (hx : ∀ k, IsReal (x (ix2 i k))) (hw : ∀ k, IsReal (w (ix2 k l))) :
    (k0_pay1 x w b (ix2 i l) : EReal) = modulation (fun k => x (ix2 i k)) (fun k => w (ix2 k l)) (b (ix2 0 l)) := by
  have hs : ∀ k, IsReal ((x (ix2 i k) : EReal) * Ideal.logistic (x (ix2 i k))) := fun k => (hx k).mul (logistic_real (hx k))
  pointwise [k0_pay1]
  simp only [(hs _).sub_self, (hw _).sub_self, sub_self, sub_zero, zero_mul, mul_zero, Finset.sum_const_zero, add_zero]
  rfl

variable (m : (ℓ : Loc nD τ sig) → Buf (Elt Ideal) ℓ)

/-- Which block each window holds at a grid point. -/
theorem idx : ∀ t : Fin cfg0.N, win0_0.index t = ![0, 0] ∧ win0_1.index t = ![0, t.val] ∧ win0_2.index t = ![0, t.val]
    ∧ win0_3.index t = ![0, t.val] ∧ t.val < 6 :=
  (by decide +kernel : ∀ t : Fin grid0.N, _)

/-- The array's column that a block's column is. -/
abbrev colOf (t : Fin cfg0.N) (l : Fin 1024) : Fin 6144 := ⟨t.val * 1024 + l.val, by have := (idx t).2.2.2.2; omega⟩

/-- The modulation of row `r` of the arguments. -/
abbrev modulationAt (c : Dev nD) (r : Fin 40) (l : Fin 6144) : EReal :=
  modulation (fun k => V m c main_arg0 (ix2 r k)) (fun k => V m c main_arg1 (ix2 k l)) (V m c main_arg2 (ix2 0 l))

section blocks

variable (c : Dev nD) (t : Fin cfg0.N)

theorem b0 (a : Fin 40) (k : Fin 1024) : iblk m c 0 t (ix2 a k) = V m c main_arg0 (ix2 a k) := by blk_ext [iblk, V, idx t]
theorem b1 (k l : Fin 1024) : iblk m c 1 t (ix2 k l) = V m c main_arg1 (ix2 k (colOf t l)) := by blk_ext [iblk, V, idx t]
theorem b2 (l : Fin 1024) : iblk m c 2 t (ix2 0 l) = V m c main_arg2 (ix2 0 (colOf t l)) := by blk_ext [iblk, V, idx t]

end blocks

/-- What the kernel leaves in its output array. -/
theorem final (c : Dev nD) (hx : ∀ r k, IsReal (V m c main_arg0 (ix2 r k))) (hw : ∀ k l, IsReal (V m c main_arg1 (ix2 k l))) :
    (dats m 0 c).arrAt 3 cfg0.N = fun z => modulationAt m c (z 0) (z 1) := by
  refine (dats m 0 c).arrAt_eq_of_covers 3 _ (by decide +kernel) fun t _ y => ?_
  blk_simp
  rw [after0_3]
  frame_out
  obtain ⟨a, b, rfl⟩ : ∃ (a : Fin 40) (b : Fin 1024), y = ix2 a b := ⟨y 0, y 1, by idx_vars y⟩
  rw [show ((View.whole main_v0).slice (win0_3.rect t)).emb (ix2 a b) = ix2 a (colOf t b) by blk_ext [idx t]]
  refine (block_eq (iblk m c 0 t) (iblk m c 1 t) (iblk m c 2 t) a b (fun k => ?_) fun k => ?_).trans ?_
  · rw [b0 m c t a k]
    exact hx a k
  · rw [b1 m c t k b]
    exact hw k _
  simp only [b0 m c t, b1 m c t, b2 m c t]
  rfl

end Cert.AdaIdeal.Tokens

end
-- ==== Proof.AdaClaim.lean ====
/-
  The modulation's claims: kernel and reference end with the same array, wherever both factors of the product are finite.
-/
module

public import proofs.«01_k».proof.Defs
public import proofs.«01_k».proof.Proof.AdaKernel
public import proofs.«01_k».proof.Proof.MoeClaim
public import proofs.«01_k».proof.Proof.Gen.AdaIdeal
public import proofs.«01_k».proof.Proof.Gen.AdaReferenceIdeal
public import proofs.«01_k».proof.Proof.Gen.AdaReferenceIdeal.Run

@[expose] public section

set_option maxRecDepth 16384

noncomputable section

namespace Cert.AdaReferenceIdeal.Tokens

open Idealize.ShloMosaic Idealize.ShloMosaic.TcCoe Idealize.SL.Sem Idealize.ShloMosaic.StableHlo
open Cert.AdaReferenceIdeal Cert.AdaReferenceIdeal.Gen Cert.Modulation

/-- The reference as a function of its arguments. -/
def outT (x : FVec Ideal S40x1024 .f32) (w : FVec Ideal S1024x6144 .f32) (b : FVec Ideal S1x6144 .f32) : FVec Ideal S40x6144 .f32 :=
  addf (Host.dotGeneral dot_S40x1024_S1024x6144_S40x6144_1_0_0_1_n_n none (mulf x (Host.divf (broadcastInDim S40x1024 ![] bcast_S_S40x1024 (constant S_ .f32 0x3F800000#32)) (addf (broadcastInDim S40x1024 ![] bcast_S_S40x1024 (constant S_ .f32 0x3F800000#32)) (Host.exp (Host.negf x))))) w) (broadcastInDim S40x6144 ![0, 1] bcast_S1x6144_S40x6144_0_1 (broadcastInDim S1x6144 ![1] bcast_S6144_S1x6144_1 (shapeCast _ b shapeCasts_S1x6144_S6144)))

theorem outT_at (x : FVec Ideal S40x1024 .f32) (w : FVec Ideal S1024x6144 .f32) (b : FVec Ideal S1x6144 .f32) (r : Fin 40) (l : Fin 6144) :
    (outT x w b (ix2 r l) : EReal) = modulation (fun k => x (ix2 r k)) (fun k => w (ix2 k l)) (b (ix2 0 l)) := by
  unfold outT
  pointwise
  rfl

end Cert.AdaReferenceIdeal.Tokens

namespace Cert.Proof

open Idealize.ShloMosaic Idealize.ShloMosaic.TcCoe Idealize.SL.Sem Idealize.ShloMosaic.StableHlo
open Cert.Routing

/-- The precondition's shape relations. -/
theorem bounded_facts : Cert.Pre_bounded.Facts where
  bcast_S_S40x1024 := by decide
  bcast_S_S1024x6144 := by decide

/-- The modulation's reference leaves its arguments and its counters. -/
theorem ada_reference_quiescent : Cert.quiescent_AdaReferenceIdeal (hAdaReferenceIdeal := Cert.AdaReferenceIdeal.Gen.facts) := by
  intro m g hpre
  refine (θ_run _ _ _).mono (fun r h => ⟨fun c => (h c).2, sem_eq_zero_of_no_sems (by decide) _⟩) (Cert.AdaReferenceIdeal.Value.run m g)

set_option maxHeartbeats 1600000 in
/-- Kernel and reference end with the same modulation. -/
theorem modulating : Cert.algebraic_AdaIdeal_AdaReferenceIdeal_pre_bounded (hAdaIdeal := Cert.AdaIdeal.Gen.facts)
    (hAdaReferenceIdeal := Cert.AdaReferenceIdeal.Gen.facts) (hPre_bounded := bounded_facts) := by
  intro m g m' g' hpre hagree
  refine ⟨fun c => (Cert.AdaIdeal.Gen.dats m 0 c).arrAt 3 Cert.AdaIdeal.cfg0.N, Cert.AdaIdeal.Value.run_blocks m g, ?_⟩
  refine (θ_run _ _ _).mono (fun r h c => ?_) (Cert.AdaReferenceIdeal.Value.run m' g')
  obtain ⟨a0, a1, a2⟩ := hagree c
  obtain ⟨h0, hargs⟩ := h c
  obtain ⟨p0, p1⟩ := hpre c
  refine ⟨h0.trans ?_, hargs⟩
  rw [a0, a1, a2]
  refine Eq.trans ?_ (Cert.AdaIdeal.Tokens.final m c (fun r k => real_of_one _ (congrFun p0 (ix2 r k))) fun k l => real_of_one _ (congrFun p1 (ix2 k l))).symm
  refine funext fun z => ?_
  obtain ⟨q, l, rfl⟩ : ∃ (q : Fin 40) (l : Fin 6144), z = ix2 q l := ⟨z 0, z 1, by idx_vars z⟩
  exact Cert.AdaReferenceIdeal.Tokens.outT_at _ _ _ q l

end Cert.Proof

end
-- ==== Proof.lean ====
/-
  The certificate: `Cert.Claim`, proved. The mathematics is in the modules under Proof/ —
  Recurrence (the chunkwise recurrence as one formula), Chunk, Sweep and Arrays (the kernel computes it),
  RefEntry and RefLoop (the reference computes it); Rows (the mixing step of one token), MixKernel, MixRef, MixClaim;
  Routing and Experts (the router and the expert layer of one token), MoeRouter and MoeKernel (the kernel computes it),
  MoeRun, MoeStages, MoeRefRoute and MoeRefValue (the reference computes it), MoeClaim;
  Projection (the projections of one token), ProjBlock, ProjKernel and ProjArrays (the kernel computes them),
  ProjRef (the reference computes them), ProjPre (what the precondition says), ProjClaim; AdaKernel and AdaClaim (the
  modulation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeIdeal.Value
public import proofs.«01_k».proof.Proof.Gen.MoeReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Arrays
public import proofs.«01_k».proof.Proof.RefLoop
public import proofs.«01_k».proof.Proof.MixClaim
public import proofs.«01_k».proof.Proof.MoeClaim
public import proofs.«01_k».proof.Proof.ProjClaim
public import proofs.«01_k».proof.Proof.AdaClaim
public import Idealize.ShloMosaic.Adequacy
public import Idealize.ShloMosaic.Init

@[expose] public section

noncomputable section

namespace Cert.Proof

open Idealize.ShloMosaic Idealize.SL.Sem

/-- The reference leaves its arguments and its counters. -/
theorem reference_quiescent : Cert.quiescent_ReferenceIdeal (hReferenceIdeal := Cert.ReferenceIdeal.Gen.facts) := by
  intro m g hpre
  refine (θ_run _ _ _).mono (fun r h => ⟨fun c => (h c).2.2, sem_eq_zero_of_no_sems (by decide) _⟩) (Cert.ReferenceIdeal.Value.run m g)

/-- The named constants differ from the kernel's by their rounding alone. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- Kernel and reference end with the same outputs and the same states. -/
theorem retention : Cert.algebraic_KernelIdeal_ReferenceIdeal (hKernelIdeal := Cert.KernelIdeal.Gen.facts)
    (hReferenceIdeal := Cert.ReferenceIdeal.Gen.facts) := by
  intro m g m' g' _ hagree
  refine ⟨fun c => (Cert.KernelIdeal.Gen.dats m 0 c).arrAt 4 Cert.KernelIdeal.cfg0.N,
    fun c => (Cert.KernelIdeal.Gen.dats m 0 c).arrAt 5 Cert.KernelIdeal.cfg0.N, Cert.KernelIdeal.Value.run_blocks m g, ?_⟩
  refine (θ_run _ _ _).mono (fun r h c => ?_) (Cert.ReferenceIdeal.Value.run m' g')
  obtain ⟨a0, a1, a2, a3⟩ := hagree c
  obtain ⟨h0, h1, hargs⟩ := h c
  have eq : Cert.ReferenceIdeal.Loop.qA m' c = Cert.KernelIdeal.Sweep.qA m c := a0
  have ek : Cert.ReferenceIdeal.Loop.kA m' c = Cert.KernelIdeal.Sweep.kA m c := a1
  have ev : Cert.ReferenceIdeal.Loop.vA m' c = Cert.KernelIdeal.Sweep.vA m c := a2
  have es : Cert.ReferenceIdeal.Loop.sA m' c = Cert.KernelIdeal.Sweep.sA m c := a3
  refine ⟨h0.trans ?_, h1.trans ?_, hargs⟩
  · refine (Cert.ReferenceIdeal.Loop.final_out m' c).trans ?_
    rw [eq, ek, ev, es]
    exact (Cert.KernelIdeal.Sweep.final_out m c).symm
  · refine (Cert.ReferenceIdeal.Loop.final_state m' c).trans ?_
    rw [ek, ev, es]
    exact (Cert.KernelIdeal.Sweep.final_state m c).symm

theorem claim : Cert.Claim :=
  ⟨Cert.Kernel.Gen.facts, Cert.KernelIdeal.Gen.facts, Cert.ReferenceIdeal.Gen.facts, Cert.Mix.Gen.facts, Cert.MixIdeal.Gen.facts,
    Cert.MixReferenceIdeal.Gen.facts, Cert.Moe.Gen.facts, Cert.MoeIdeal.Gen.facts, Cert.MoeReferenceIdeal.Gen.facts,
    Cert.Proj.Gen.facts, Cert.ProjIdeal.Gen.facts, Cert.ProjReferenceIdeal.Gen.facts,
    Cert.Ada.Gen.facts, Cert.AdaIdeal.Gen.facts, Cert.AdaReferenceIdeal.Gen.facts, finite_facts, prepared_facts, bounded_facts,
    fun m g _ => Cert.Kernel.Gen.frame m g, fun m g _ => Cert.KernelIdeal.Gen.frame m g, reference_quiescent,
    fun m g _ => Cert.Mix.Gen.frame m g, fun m g _ => Cert.MixIdeal.Gen.frame m g, mix_reference_quiescent,
    fun m g _ => Cert.Moe.Gen.frame m g, fun m g _ => Cert.MoeIdeal.Gen.frame m g, fun m g _ => Cert.MoeIdeal.Gen.frame m g,
    moe_reference_quiescent, fun m g _ => moe_reference_quiescent m g trivial,
    fun m g _ => Cert.Proj.Gen.frame m g, fun m g _ => Cert.ProjIdeal.Gen.frame m g, fun m g _ => Cert.ProjIdeal.Gen.frame m g,
    proj_reference_quiescent, fun m g _ => proj_reference_quiescent m g trivial,
    fun m g _ => Cert.Ada.Gen.frame m g, fun m g _ => Cert.AdaIdeal.Gen.frame m g, fun m g _ => Cert.AdaIdeal.Gen.frame m g,
    ada_reference_quiescent, fun m g _ => ada_reference_quiescent m g trivial,
    preserves, retention, trivial, mixing, trivial, experts, trivial, projecting, trivial, modulating⟩

end Cert.Proof

end
